-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)) (v3 : (c : Dev Cert.KernelIdeal.nD) → Buf (Elt Ideal) ((c.tc : Thread Cert.KernelIdeal.nD Cert.KernelIdeal.τ).loc Cert.KernelIdeal.main_v77_3)) (v4 : (c : Dev Cert.KernelIdeal.nD) → Buf (Elt Ideal) ((c.tc : Thread Cert.KernelIdeal.nD Cert.KernelIdeal.τ).loc Cert.KernelIdeal.main_v77_4)) (v5 : (c : Dev Cert.KernelIdeal.nD) → Buf (Elt Ideal) ((c.tc : Thread Cert.KernelIdeal.nD Cert.KernelIdeal.τ).loc Cert.KernelIdeal.main_v77_5)) (v6 : (c : Dev Cert.KernelIdeal.nD) → Buf (Elt Ideal) ((c.tc : Thread Cert.KernelIdeal.nD Cert.KernelIdeal.τ).loc Cert.KernelIdeal.main_v77_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_v77_3) = v3 c
          ∧ r.2.mem ((c.tc : Thread Cert.KernelIdeal.nD Cert.KernelIdeal.τ).loc Cert.KernelIdeal.main_v77_4) = v4 c
          ∧ r.2.mem ((c.tc : Thread Cert.KernelIdeal.nD Cert.KernelIdeal.τ).loc Cert.KernelIdeal.main_v77_5) = v5 c
          ∧ r.2.mem ((c.tc : Thread Cert.KernelIdeal.nD Cert.KernelIdeal.τ).loc Cert.KernelIdeal.main_v77_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v280) = v1 c
          ∧ r.2.mem ((c.tc : Thread Cert.ReferenceIdeal.nD Cert.ReferenceIdeal.τ).loc Cert.ReferenceIdeal.main_v281) = v2 c
          ∧ r.2.mem ((c.tc : Thread Cert.ReferenceIdeal.nD Cert.ReferenceIdeal.τ).loc Cert.ReferenceIdeal.main_v282) = v3 c
          ∧ r.2.mem ((c.tc : Thread Cert.ReferenceIdeal.nD Cert.ReferenceIdeal.τ).loc Cert.ReferenceIdeal.main_v283) = v4 c
          ∧ r.2.mem ((c.tc : Thread Cert.ReferenceIdeal.nD Cert.ReferenceIdeal.τ).loc Cert.ReferenceIdeal.main_v284) = v5 c
          ∧ r.2.mem ((c.tc : Thread Cert.ReferenceIdeal.nD Cert.ReferenceIdeal.τ).loc Cert.ReferenceIdeal.main_v207) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x2560 : Shape := ⟨2, ![4096, 2560]⟩
abbrev S1x1536 : Shape := ⟨2, ![1, 1536]⟩
abbrev S1x16 : Shape := ⟨2, ![1, 16]⟩
abbrev S4096x1024 : Shape := ⟨2, ![4096, 1024]⟩
abbrev S_ : Shape := ⟨0, ![]⟩

class Facts : Prop where
  bcast_S_S4096x2560 : S_.BroadcastsInDim S4096x2560 (![] : Fin 0 → Fin S4096x2560.rank)
  bcast_S_S1x1536 : S_.BroadcastsInDim S1x1536 (![] : Fin 0 → Fin S1x1536.rank)
  bcast_S_S1x16 : S_.BroadcastsInDim S1x16 (![] : Fin 0 → Fin S1x16.rank)
  bcast_S_S4096x1024 : S_.BroadcastsInDim S4096x1024 (![] : Fin 0 → Fin S4096x1024.rank)

variable [Facts]

def fn {F : FTy → Type} [FloatOps F] (main_arg0 : FVec F S4096x2560 .f32) (main_arg1 : FVec F S1x1536 .f32) (main_arg2 : FVec F S1x16 .f32) (main_arg3 : FVec F S4096x1024 .f32) : IVec S4096x2560 1 × IVec S1x1536 1 × IVec S1x16 1 × IVec S4096x1024 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_v3 : FVec F S1x1536 .f32 := Host.absf main_arg1
  let main_cst_0 : FVec F S_ .f32 := constant S_ .f32 0x7F800000#32
  let main_v4 : FVec F S1x1536 .f32 := broadcastInDim S1x1536 ![] bcast_S_S1x1536 main_cst_0
  let main_v5 : IVec S1x1536 1 := cmpf .olt main_v3 main_v4
  let main_v6 : FVec F S1x16 .f32 := Host.absf main_arg2
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x2560 : Shape := ⟨2, ![4096, 2560]⟩
abbrev S1x1536 : Shape := ⟨2, ![1, 1536]⟩
abbrev S1x16 : Shape := ⟨2, ![1, 16]⟩
abbrev S4096x1024 : Shape := ⟨2, ![4096, 1024]⟩
abbrev S1x1024 : Shape := ⟨2, ![1, 1024]⟩
abbrev S1x256 : Shape := ⟨2, ![1, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x256 : Shape := ⟨2, ![4096, 256]⟩
abbrev S1x4096x4x64 : Shape := ⟨4, ![1, 4096, 4, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S1x4096x4x16 : Shape := ⟨4, ![1, 4096, 4, 16]⟩
abbrev S1x4096x4x8 : Shape := ⟨4, ![1, 4096, 4, 8]⟩
abbrev S1x4096x4x48 : Shape := ⟨4, ![1, 4096, 4, 48]⟩
abbrev S8x512x256 : Shape := ⟨3, ![8, 512, 256]⟩
abbrev S7x128x256 : Shape := ⟨3, ![7, 128, 256]⟩
abbrev S128x256 : Shape := ⟨2, ![128, 256]⟩
abbrev S896x256 : Shape := ⟨2, ![896, 256]⟩
abbrev S1024x256 : Shape := ⟨2, ![1024, 256]⟩
abbrev S512x1024 : Shape := ⟨2, ![512, 1024]⟩
abbrev S512x256 : Shape := ⟨2, ![512, 256]⟩
abbrev S512x128 : Shape := ⟨2, ![512, 128]⟩
abbrev S1x1 : Shape := ⟨2, ![1, 1]⟩
abbrev S128x64 : Shape := ⟨2, ![128, 64]⟩
abbrev S512x64 : Shape := ⟨2, ![512, 64]⟩
abbrev S256x64 : Shape := ⟨2, ![256, 64]⟩
abbrev S128x1 : Shape := ⟨2, ![128, 1]⟩
abbrev S512x1 : Shape := ⟨2, ![512, 1]⟩
abbrev S512 : Shape := ⟨1, ![512]⟩
abbrev S384x64 : Shape := ⟨2, ![384, 64]⟩
abbrev S1x128x1 : Shape := ⟨3, ![1, 128, 1]⟩
abbrev S1 : Shape := ⟨1, ![1]⟩
abbrev S1x1x1 : Shape := ⟨3, ![1, 1, 1]⟩
abbrev S512x960 : Shape := ⟨2, ![512, 960]⟩
abbrev S512x896 : Shape := ⟨2, ![512, 896]⟩
abbrev S512x832 : Shape := ⟨2, ![512, 832]⟩
abbrev S512x768 : Shape := ⟨2, ![512, 768]⟩
abbrev S512x192 : Shape := ⟨2, ![512, 192]⟩
abbrev S512x704 : Shape := ⟨2, ![512, 704]⟩
abbrev S512x640 : Shape := ⟨2, ![512, 640]⟩
abbrev S512x320 : Shape := ⟨2, ![512, 320]⟩
abbrev S512x576 : Shape := ⟨2, ![512, 576]⟩
abbrev S512x384 : Shape := ⟨2, ![512, 384]⟩
abbrev S512x512 : Shape := ⟨2, ![512, 512]⟩
abbrev S512x448 : Shape := ⟨2, ![512, 448]⟩
abbrev S256 : Shape := ⟨1, ![256]⟩
abbrev S1024 : Shape := ⟨1, ![1024]⟩

abbrev nBuf : Space → Nat
  | .hbm => 140
  | .vmem => 32
  | .smem => 0
  | _ => 0

abbrev hbmTy0_0 (i : Nat) : BufTy := match i % 128 with
  | 0 => ⟨S4096x2560, .f32⟩
  | 1 => ⟨S1x1536, .f32⟩
  | 2 => ⟨S1x16, .f32⟩
  | 3 => ⟨S4096x1024, .f32⟩
  | 4 => ⟨S1x1024, .f32⟩
  | 5 => ⟨S1x256, .f32⟩
  | 6 => ⟨S1x256, .f32⟩
  | 7 => ⟨S128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i1⟩
  | 22 => ⟨S_, .i32⟩
  | 23 => ⟨S_, .i1⟩
  | 24 => ⟨S128, .i1⟩
  | 25 => ⟨S128, .i1⟩
  | 26 => ⟨S128, .i1⟩
  | 27 => ⟨S128, .i32⟩
  | 28 => ⟨S128, .i32⟩
  | 29 => ⟨S128, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S128, .i32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i1⟩
  | 44 => ⟨S_, .i32⟩
  | 45 => ⟨S_, .i1⟩
  | 46 => ⟨S128, .i1⟩
  | 47 => ⟨S128, .i1⟩
  | 48 => ⟨S128, .i1⟩
  | 49 => ⟨S128, .i32⟩
  | 50 => ⟨S128, .i32⟩
  | 51 => ⟨S128, .i32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S4096, .f32⟩
  | 61 => ⟨S4096x1, .f32⟩
  | 62 => ⟨S_, .i32⟩
  | 63 => ⟨S128, .i32⟩
  | 64 => ⟨S128, .i1⟩
  | 65 => ⟨S_, .f32⟩
  | 66 => ⟨S_, .f32⟩
  | 67 => ⟨S128, .f32⟩
  | 68 => ⟨S128, .f32⟩
  | 69 => ⟨S1x128, .f32⟩
  | 70 => ⟨S4096x128, .f32⟩
  | 71 => ⟨S4096x128, .f32⟩
  | 72 => ⟨S4096x128, .f32⟩
  | 73 => ⟨S4096x128, .f32⟩
  | 74 => ⟨S4096x128, .f32⟩
  | 75 => ⟨S4096x1024, .f32⟩
  | 76 => ⟨S4096x256, .f32⟩
  | 77 => ⟨S4096x256, .f32⟩
  | 78 => ⟨S1x256, .f32⟩
  | 79 => ⟨S4096x256, .f32⟩
  | 80 => ⟨S4096x256, .f32⟩
  | 81 => ⟨S1x4096x4x64, .f32⟩
  | 82 => ⟨S4096, .i32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S4096, .f32⟩
  | 92 => ⟨S4096x1, .f32⟩
  | 93 => ⟨S1x8, .f32⟩
  | 94 => ⟨S4096x8, .f32⟩
  | 95 => ⟨S4096x8, .f32⟩
  | 96 => ⟨S4096x8, .f32⟩
  | 97 => ⟨S4096x8, .f32⟩
  | 98 => ⟨S1x4096x1x8, .f32⟩
  | 99 => ⟨S4096x8, .f32⟩
  | 100 => ⟨S1x4096x1x8, .f32⟩
  | 101 => ⟨S1x4096x4x16, .f32⟩
  | 102 => ⟨S1x4096x4x8, .f32⟩
  | 103 => ⟨S1x4096x4x8, .f32⟩
  | 104 => ⟨S1x4096x4x8, .f32⟩
  | 105 => ⟨S1x4096x4x8, .f32⟩
  | 106 => ⟨S1x4096x4x8, .f32⟩
  | 107 => ⟨S1x4096x4x8, .f32⟩
  | 108 => ⟨S1x4096x4x8, .f32⟩
  | 109 => ⟨S1x4096x4x8, .f32⟩
  | 110 => ⟨S1x4096x4x8, .f32⟩
  | 111 => ⟨S1x4096x4x8, .f32⟩
  | 112 => ⟨S1x4096x4x8, .f32⟩
  | 113 => ⟨S1x4096x4x8, .f32⟩
  | 114 => ⟨S1x4096x4x16, .f32⟩
  | 115 => ⟨S1x4096x4x48, .f32⟩
  | 116 => ⟨S1x4096x4x64, .f32⟩
  | 117 => ⟨S4096x256, .f32⟩
  | 118 => ⟨S1x256, .f32⟩
  | 119 => ⟨S4096x256, .f32⟩
  | 120 => ⟨S4096x256, .f32⟩
  | 121 => ⟨S8x512x256, .f32⟩
  | 122 => ⟨S7x128x256, .f32⟩
  | 123 => ⟨S_, .f32⟩
  | 124 => ⟨S128x256, .f32⟩
  | 125 => ⟨S896x256, .f32⟩
  | 126 => ⟨S1024x256, .f32⟩
  | 127 => ⟨S8x512x256, .f32⟩
  | _ => ⟨S4096x2560, .f32⟩

abbrev hbmTy0_1 (i : Nat) : BufTy := match i % 128 with
  | 0 => ⟨S7x128x256, .f32⟩
  | 1 => ⟨S_, .f32⟩
  | 2 => ⟨S128x256, .f32⟩
  | 3 => ⟨S896x256, .f32⟩
  | 4 => ⟨S1024x256, .f32⟩
  | 5 => ⟨S4096x1024, .bf16⟩
  | 6 => ⟨S4096x256, .bf16⟩
  | 7 => ⟨S4096x256, .bf16⟩
  | 8 => ⟨S1x1024, .f32⟩
  | 9 => ⟨S1x256, .f32⟩
  | 10 => ⟨S1x256, .f32⟩
  | 11 => ⟨S1x16, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1024, .f32⟩
  | .local _ .vmem, ⟨11, _⟩ => ⟨S1x256, .f32⟩
  | .local _ .vmem, ⟨12, _⟩ => ⟨S1x256, .f32⟩
  | .local _ .vmem, ⟨13, _⟩ => ⟨S1x16, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S1x1024, .f32⟩
  | .local _ .vmem, ⟨27, _⟩ => ⟨S1x256, .f32⟩
  | .local _ .vmem, ⟨28, _⟩ => ⟨S1x256, .f32⟩
  | .local _ .vmem, ⟨29, _⟩ => ⟨S1x16, .f32⟩
  | .local _ .vmem, ⟨30, _⟩ => ⟨S128x256, .f32⟩
  | .local _ .vmem, ⟨31, _⟩ => ⟨S128x256, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v4 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_v9 : Ref sig .tc := ⟨.hbm, 56, rfl⟩
abbrev main_cst_1 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_c_2 : Ref sig .tc := ⟨.hbm, 62, rfl⟩
abbrev main_v14 : Ref sig .tc := ⟨.hbm, 63, rfl⟩
abbrev main_v15 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_4 : Ref sig .tc := ⟨.hbm, 85, rfl⟩
abbrev main_v33 : Ref sig .tc := ⟨.hbm, 86, rfl⟩
abbrev main_v34 : Ref sig .tc := ⟨.hbm, 87, rfl⟩
abbrev main_cst_5 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_6 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_7 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77_0 : Ref sig .tc := ⟨.hbm, 133, rfl⟩
abbrev main_v77_1 : Ref sig .tc := ⟨.hbm, 134, rfl⟩
abbrev main_v77_2 : Ref sig .tc := ⟨.hbm, 135, rfl⟩
abbrev main_v77_3 : Ref sig .tc := ⟨.hbm, 136, rfl⟩
abbrev main_v77_4 : Ref sig .tc := ⟨.hbm, 137, rfl⟩
abbrev main_v77_5 : Ref sig .tc := ⟨.hbm, 138, rfl⟩
abbrev main_v77_6 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c9_i32 : BitVec 32 := 9#32
  let c0_i32 : BitVec 32 := 0#32
  ![v0.toNat, c9_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x2560 : Shape := ⟨2, ![4096, 2560]⟩
abbrev S1x1536 : Shape := ⟨2, ![1, 1536]⟩
abbrev S1x16 : Shape := ⟨2, ![1, 16]⟩
abbrev S4096x1024 : Shape := ⟨2, ![4096, 1024]⟩
abbrev S4096x256 : Shape := ⟨2, ![4096, 256]⟩
abbrev S4096x1536 : Shape := ⟨2, ![4096, 1536]⟩
abbrev S4096x16x64 : Shape := ⟨3, ![4096, 16, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x16x8 : Shape := ⟨3, ![4096, 16, 8]⟩
abbrev S4096x16x48 : Shape := ⟨3, ![4096, 16, 48]⟩
abbrev S4096x4x64 : Shape := ⟨3, ![4096, 4, 64]⟩
abbrev S4096x4x8 : Shape := ⟨3, ![4096, 4, 8]⟩
abbrev S4096x4x48 : Shape := ⟨3, ![4096, 4, 48]⟩
abbrev S32x128x4x4x64 : Shape := ⟨5, ![32, 128, 4, 4, 64]⟩
abbrev S32x128x256 : Shape := ⟨3, ![32, 128, 256]⟩
abbrev S1x128x256 : Shape := ⟨3, ![1, 128, 256]⟩
abbrev S31x128x256 : Shape := ⟨3, ![31, 128, 256]⟩
abbrev S32x256x256 : Shape := ⟨3, ![32, 256, 256]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S1536 : Shape := ⟨1, ![1536]⟩
abbrev S1x1024 : Shape := ⟨2, ![1, 1024]⟩

abbrev nBuf : Space → Nat
  | .hbm => 338
  | .vmem => 0
  | .smem => 0
  | _ => 0

abbrev hbmTy0_0 (i : Nat) : BufTy := match i % 128 with
  | 0 => ⟨S4096x2560, .f32⟩
  | 1 => ⟨S1x1536, .f32⟩
  | 2 => ⟨S1x16, .f32⟩
  | 3 => ⟨S4096x1024, .f32⟩
  | 4 => ⟨S4096x1024, .f32⟩
  | 5 => ⟨S4096x256, .f32⟩
  | 6 => ⟨S4096x256, .f32⟩
  | 7 => ⟨S4096x1536, .f32⟩
  | 8 => ⟨S4096x1536, .f32⟩
  | 9 => ⟨S4096x1536, .f32⟩
  | 10 => ⟨S4096x1024, .f32⟩
  | 11 => ⟨S4096x256, .f32⟩
  | 12 => ⟨S4096x256, .f32⟩
  | 13 => ⟨S4096x16x64, .f32⟩
  | 14 => ⟨S4096, .i32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S4096, .f32⟩
  | 24 => ⟨S4096x1, .f32⟩
  | 25 => ⟨S1x8, .f32⟩
  | 26 => ⟨S4096x8, .f32⟩
  | 27 => ⟨S4096x8, .f32⟩
  | 28 => ⟨S4096x8, .f32⟩
  | 29 => ⟨S4096x8, .f32⟩
  | 30 => ⟨S4096x1x8, .f32⟩
  | 31 => ⟨S4096x8, .f32⟩
  | 32 => ⟨S4096x1x8, .f32⟩
  | 33 => ⟨S4096x16x8, .f32⟩
  | 34 => ⟨S4096x16x8, .f32⟩
  | 35 => ⟨S4096x16x8, .f32⟩
  | 36 => ⟨S4096x16x8, .f32⟩
  | 37 => ⟨S4096x16x8, .f32⟩
  | 38 => ⟨S4096x16x8, .f32⟩
  | 39 => ⟨S4096x16x8, .f32⟩
  | 40 => ⟨S4096x16x8, .f32⟩
  | 41 => ⟨S4096x16x8, .f32⟩
  | 42 => ⟨S4096x16x8, .f32⟩
  | 43 => ⟨S4096x16x8, .f32⟩
  | 44 => ⟨S4096x16x8, .f32⟩
  | 45 => ⟨S4096x16x48, .f32⟩
  | 46 => ⟨S4096x16x64, .f32⟩
  | 47 => ⟨S4096x4x64, .f32⟩
  | 48 => ⟨S4096, .i32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4096, .f32⟩
  | 58 => ⟨S4096x1, .f32⟩
  | 59 => ⟨S1x8, .f32⟩
  | 60 => ⟨S4096x8, .f32⟩
  | 61 => ⟨S4096x8, .f32⟩
  | 62 => ⟨S4096x8, .f32⟩
  | 63 => ⟨S4096x8, .f32⟩
  | 64 => ⟨S4096x1x8, .f32⟩
  | 65 => ⟨S4096x8, .f32⟩
  | 66 => ⟨S4096x1x8, .f32⟩
  | 67 => ⟨S4096x4x8, .f32⟩
  | 68 => ⟨S4096x4x8, .f32⟩
  | 69 => ⟨S4096x4x8, .f32⟩
  | 70 => ⟨S4096x4x8, .f32⟩
  | 71 => ⟨S4096x4x8, .f32⟩
  | 72 => ⟨S4096x4x8, .f32⟩
  | 73 => ⟨S4096x4x8, .f32⟩
  | 74 => ⟨S4096x4x8, .f32⟩
  | 75 => ⟨S4096x4x8, .f32⟩
  | 76 => ⟨S4096x4x8, .f32⟩
  | 77 => ⟨S4096x4x8, .f32⟩
  | 78 => ⟨S4096x4x8, .f32⟩
  | 79 => ⟨S4096x4x48, .f32⟩
  | 80 => ⟨S4096x4x64, .f32⟩
  | 81 => ⟨S32x128x4x4x64, .f32⟩
  | 82 => ⟨S_, .f32⟩
  | 83 => ⟨S32x128x4x4x64, .f32⟩
  | 84 => ⟨S32x128x4x4x64, .f32⟩
  | 85 => ⟨S32x128x256, .f32⟩
  | 86 => ⟨S1x128x256, .f32⟩
  | 87 => ⟨S_, .f32⟩
  | 88 => ⟨S1x128x256, .f32⟩
  | 89 => ⟨S31x128x256, .f32⟩
  | 90 => ⟨S32x128x256, .f32⟩
  | 91 => ⟨S_, .f32⟩
  | 92 => ⟨S1x128x256, .f32⟩
  | 93 => ⟨S32x256x256, .f32⟩
  | 94 => ⟨S32x256x4x64, .f32⟩
  | 95 => ⟨S32x128x256, .f32⟩
  | 96 => ⟨S1x128x256, .f32⟩
  | 97 => ⟨S_, .f32⟩
  | 98 => ⟨S1x128x256, .f32⟩
  | 99 => ⟨S31x128x256, .f32⟩
  | 100 => ⟨S32x128x256, .f32⟩
  | 101 => ⟨S_, .f32⟩
  | 102 => ⟨S1x128x256, .f32⟩
  | 103 => ⟨S32x256x256, .f32⟩
  | 104 => ⟨S32x256x4x64, .f32⟩
  | 105 => ⟨S32x4x256x128x4, .f32⟩
  | 106 => ⟨S32x4x4x128x256, .f32⟩
  | 107 => ⟨S128, .i32⟩
  | 108 => ⟨S128x1, .i32⟩
  | 109 => ⟨S_, .i32⟩
  | 110 => ⟨S128x1, .i32⟩
  | 111 => ⟨S128x1, .i32⟩
  | 112 => ⟨S256, .i32⟩
  | 113 => ⟨S1x256, .i32⟩
  | 114 => ⟨S128x256, .i32⟩
  | 115 => ⟨S128x256, .i32⟩
  | 116 => ⟨S128x256, .i32⟩
  | 117 => ⟨S_, .i32⟩
  | 118 => ⟨S128x256, .i32⟩
  | 119 => ⟨S128x256, .i1⟩
  | 120 => ⟨S_, .i32⟩
  | 121 => ⟨S128x256, .i32⟩
  | 122 => ⟨S128x256, .i1⟩
  | 123 => ⟨S128x256, .i1⟩
  | 124 => ⟨S1x128x256, .i1⟩
  | 125 => ⟨S32, .i32⟩
  | 126 => ⟨S32x1x1, .i32⟩
  | 127 => ⟨S_, .i32⟩
  | _ => ⟨S4096x2560, .f32⟩

abbrev hbmTy0_1 (i : Nat) : BufTy := match i % 128 with
  | 0 => ⟨S32x1x1, .i32⟩
  | 1 => ⟨S32x1x1, .i1⟩
  | 2 => ⟨S256, .i32⟩
  | 3 => ⟨S1x1x256, .i32⟩
  | 4 => ⟨S_, .i32⟩
  | 5 => ⟨S1x1x256, .i32⟩
  | 6 => ⟨S1x1x256, .i1⟩
  | 7 => ⟨S32x1x256, .i1⟩
  | 8 => ⟨S32x1x256, .i1⟩
  | 9 => ⟨S32x1x256, .i1⟩
  | 10 => ⟨S32x128x256, .i1⟩
  | 11 => ⟨S32x128x256, .i1⟩
  | 12 => ⟨S32x128x256, .i1⟩
  | 13 => ⟨S32x1x1x128x256, .i1⟩
  | 14 => ⟨S_, .f32⟩
  | 15 => ⟨S_, .f32⟩
  | 16 => ⟨S32x4x4x128x256, .i1⟩
  | 17 => ⟨S32x4x4x128x256, .f32⟩
  | 18 => ⟨S32x4x4x128x256, .f32⟩
  | 19 => ⟨S_, .f32⟩
  | 20 => ⟨S32x4x4x128x256, .f32⟩
  | 21 => ⟨S4x4, .f32⟩
  | 22 => ⟨S1x4x4x1x1, .f32⟩
  | 23 => ⟨S_, .f32⟩
  | 24 => ⟨S32x4x4x128, .f32⟩
  | 25 => ⟨S32x4x4x128x1, .f32⟩
  | 26 => ⟨S32x4x4x128x256, .f32⟩
  | 27 => ⟨S32x4x4x128x256, .i1⟩
  | 28 => ⟨S32x4x4x128x256, .f32⟩
  | 29 => ⟨S_, .f32⟩
  | 30 => ⟨S32x4x4x128, .f32⟩
  | 31 => ⟨S32x4x4x128x1, .f32⟩
  | 32 => ⟨S32x4x4x128x1, .f32⟩
  | 33 => ⟨S32x4x4x128x1, .f32⟩
  | 34 => ⟨S32x4x4x128x1, .f32⟩
  | 35 => ⟨S32x4x4x128x1, .i1⟩
  | 36 => ⟨S32x4x4x128x1, .f32⟩
  | 37 => ⟨S32x4x4x128x1, .i1⟩
  | 38 => ⟨S_, .f32⟩
  | 39 => ⟨S32x4x4x128x1, .f32⟩
  | 40 => ⟨S_, .f32⟩
  | 41 => ⟨S32x4x4x128x1, .f32⟩
  | 42 => ⟨S_, .f32⟩
  | 43 => ⟨S32x4x4x128x1, .f32⟩
  | 44 => ⟨S32x4x4x128x1, .f32⟩
  | 45 => ⟨S32x4x4x128x1, .f32⟩
  | 46 => ⟨S32x4x4x128x1, .f32⟩
  | 47 => ⟨S32x4x4x128x1, .i1⟩
  | 48 => ⟨S32x4x4x128x1, .f32⟩
  | 49 => ⟨S32x4x4x128x1, .i1⟩
  | 50 => ⟨S_, .f32⟩
  | 51 => ⟨S32x4x4x128x1, .f32⟩
  | 52 => ⟨S_, .f32⟩
  | 53 => ⟨S32x4x4x128x1, .f32⟩
  | 54 => ⟨S_, .f32⟩
  | 55 => ⟨S32x4x4x128x1, .f32⟩
  | 56 => ⟨S32x4x4x128x1, .f32⟩
  | 57 => ⟨S32x4x4x128x1, .f32⟩
  | 58 => ⟨S32x4x4x128x256, .f32⟩
  | 59 => ⟨S32x4x4x128x256, .f32⟩
  | 60 => ⟨S32x4x4x128x256, .f32⟩
  | 61 => ⟨S_, .f32⟩
  | 62 => ⟨S32x4x4x128, .f32⟩
  | 63 => ⟨S32x4x4x128x1, .f32⟩
  | 64 => ⟨S32x4x4x128x1, .f32⟩
  | 65 => ⟨S32x4x4x128x1, .f32⟩
  | 66 => ⟨S32x4x4x128x1, .f32⟩
  | 67 => ⟨S32x4x4x128x1, .f32⟩
  | 68 => ⟨S32x4x4x128x256, .f32⟩
  | 69 => ⟨S32x4x4x128x256, .f32⟩
  | 70 => ⟨S32x4x4x128x1, .f32⟩
  | 71 => ⟨S_, .f32⟩
  | 72 => ⟨S32x4x4x128x1, .f32⟩
  | 73 => ⟨S32x4x4x128x1, .f32⟩
  | 74 => ⟨S32x4x64x4x128, .f32⟩
  | 75 => ⟨S32x128x4x4x64, .f32⟩
  | 76 => ⟨S4096x1024, .f32⟩
  | 77 => ⟨S32x128x4x4x64, .f32⟩
  | 78 => ⟨S32x4x64x4x128, .f32⟩
  | 79 => ⟨S32x4x4x128x256, .f32⟩
  | 80 => ⟨S32x4x64x256, .f32⟩
  | 81 => ⟨S32x256x4x64, .f32⟩
  | 82 => ⟨S32x4x4x128x256, .f32⟩
  | 83 => ⟨S32x4x4x128x256, .f32⟩
  | 84 => ⟨S32x4x4x128x256, .f32⟩
  | 85 => ⟨S_, .f32⟩
  | 86 => ⟨S32x4x4x128, .f32⟩
  | 87 => ⟨S32x4x4x128x1, .f32⟩
  | 88 => ⟨S32x4x4x128x1, .f32⟩
  | 89 => ⟨S32x4x4x128x256, .f32⟩
  | 90 => ⟨S32x4x4x128x256, .f32⟩
  | 91 => ⟨S32x4x4x128x1, .f32⟩
  | 92 => ⟨S_, .f32⟩
  | 93 => ⟨S4x4x1, .f32⟩
  | 94 => ⟨S1x4x4x1x1, .f32⟩
  | 95 => ⟨S32x4x4x128x1, .f32⟩
  | 96 => ⟨S_, .f32⟩
  | 97 => ⟨S32x4x4x128, .f32⟩
  | 98 => ⟨S32x4x4x128x256, .f32⟩
  | 99 => ⟨S32x4x4x128x256, .f32⟩
  | 100 => ⟨S32x4x4x128x256, .f32⟩
  | 101 => ⟨S32x4x4x128x256, .f32⟩
  | 102 => ⟨S_, .f32⟩
  | 103 => ⟨S32x4x4x128, .f32⟩
  | 104 => ⟨S32x4x4x128x1, .f32⟩
  | 105 => ⟨S32x4x4x128x1, .f32⟩
  | 106 => ⟨S32x4x4x128x1, .f32⟩
  | 107 => ⟨S_, .f32⟩
  | 108 => ⟨S4x4x1, .f32⟩
  | 109 => ⟨S1x4x4x1x1, .f32⟩
  | 110 => ⟨S1x4x4x1x1, .f32⟩
  | 111 => ⟨S32x4x4x128x1, .f32⟩
  | 112 => ⟨S_, .f32⟩
  | 113 => ⟨S32x4x4x128, .f32⟩
  | 114 => ⟨S32x4x4x128, .f32⟩
  | 115 => ⟨S32x4x4x128x256, .f32⟩
  | 116 => ⟨S32x4x4x128x256, .f32⟩
  | 117 => ⟨S32x4x4x128x256, .f32⟩
  | 118 => ⟨S_, .f32⟩
  | 119 => ⟨S4x4, .f32⟩
  | 120 => ⟨S1x16, .f32⟩
  | 121 => ⟨S_, .f32⟩
  | 122 => ⟨S32x4x4x128x256, .f32⟩
  | 123 => ⟨S32x4x4x128x256, .f32⟩
  | 124 => ⟨S32x4x256x128x4, .f32⟩
  | 125 => ⟨S32x4x128x4x64, .f32⟩
  | 126 => ⟨S32x128x4x4x64, .f32⟩
  | 127 => ⟨S32x4x256x64, .f32⟩
  | _ => ⟨S4096x2560, .f32⟩

abbrev hbmTy0_2 (i : Nat) : BufTy := match i % 128 with
  | 0 => ⟨S32x256x4x64, .f32⟩
  | 1 => ⟨S32x256x256, .f32⟩
  | 2 => ⟨S32x128x256, .f32⟩
  | 3 => ⟨S32x128x256, .f32⟩
  | 4 => ⟨S1x128x256, .f32⟩
  | 5 => ⟨S31x128x256, .f32⟩
  | 6 => ⟨S_, .f32⟩
  | 7 => ⟨S32x128x256, .f32⟩
  | 8 => ⟨S32x128x256, .f32⟩
  | 9 => ⟨S4096x256, .f32⟩
  | 10 => ⟨S32x256x256, .f32⟩
  | 11 => ⟨S32x128x256, .f32⟩
  | 12 => ⟨S32x128x256, .f32⟩
  | 13 => ⟨S1x128x256, .f32⟩
  | 14 => ⟨S31x128x256, .f32⟩
  | 15 => ⟨S_, .f32⟩
  | 16 => ⟨S32x128x256, .f32⟩
  | 17 => ⟨S32x128x256, .f32⟩
  | 18 => ⟨S4096x4x64, .f32⟩
  | 19 => ⟨S_, .f32⟩
  | 20 => ⟨S32x128x4x4x64, .f32⟩
  | 21 => ⟨S32x128x4x4x64, .f32⟩
  | 22 => ⟨S4096x16x64, .f32⟩
  | 23 => ⟨S4096x4x8, .f32⟩
  | 24 => ⟨S4096x4x8, .f32⟩
  | 25 => ⟨S4096x4x48, .f32⟩
  | 26 => ⟨S_, .f32⟩
  | 27 => ⟨S4096x4x64, .f32⟩
  | 28 => ⟨S4096x4x8, .f32⟩
  | 29 => ⟨S4096x4x8, .f32⟩
  | 30 => ⟨S4096x4x8, .f32⟩
  | 31 => ⟨S4096x4x8, .f32⟩
  | 32 => ⟨S4096x4x8, .f32⟩
  | 33 => ⟨S4096x4x8, .f32⟩
  | 34 => ⟨S4096x4x8, .f32⟩
  | 35 => ⟨S4096x4x8, .f32⟩
  | 36 => ⟨S4096x4x8, .f32⟩
  | 37 => ⟨S4096x4x8, .f32⟩
  | 38 => ⟨S4096x4x8, .f32⟩
  | 39 => ⟨S_, .f32⟩
  | 40 => ⟨S4096x4x64, .f32⟩
  | 41 => ⟨S4096x4x64, .f32⟩
  | 42 => ⟨S_, .f32⟩
  | 43 => ⟨S4096x4x64, .f32⟩
  | 44 => ⟨S4096x4x64, .f32⟩
  | 45 => ⟨S4096x256, .f32⟩
  | 46 => ⟨S4096x16x8, .f32⟩
  | 47 => ⟨S4096x16x8, .f32⟩
  | 48 => ⟨S4096x16x48, .f32⟩
  | 49 => ⟨S_, .f32⟩
  | 50 => ⟨S4096x16x64, .f32⟩
  | 51 => ⟨S4096x16x8, .f32⟩
  | 52 => ⟨S4096x16x8, .f32⟩
  | 53 => ⟨S4096x16x8, .f32⟩
  | 54 => ⟨S4096x16x8, .f32⟩
  | 55 => ⟨S4096x16x8, .f32⟩
  | 56 => ⟨S4096x16x8, .f32⟩
  | 57 => ⟨S4096x16x8, .f32⟩
  | 58 => ⟨S4096x16x8, .f32⟩
  | 59 => ⟨S4096x16x8, .f32⟩
  | 60 => ⟨S4096x16x8, .f32⟩
  | 61 => ⟨S4096x16x8, .f32⟩
  | 62 => ⟨S_, .f32⟩
  | 63 => ⟨S4096x16x64, .f32⟩
  | 64 => ⟨S4096x16x64, .f32⟩
  | 65 => ⟨S_, .f32⟩
  | 66 => ⟨S4096x16x64, .f32⟩
  | 67 => ⟨S4096x16x64, .f32⟩
  | 68 => ⟨S4096x1024, .f32⟩
  | 69 => ⟨S4096x1536, .f32⟩
  | 70 => ⟨S_, .f32⟩
  | 71 => ⟨S1536, .f32⟩
  | 72 => ⟨S1x1536, .f32⟩
  | 73 => ⟨S4096x1024, .f32⟩
  | 74 => ⟨S4096x256, .f32⟩
  | 75 => ⟨S4096x256, .f32⟩
  | 76 => ⟨S4096x1024, .bf16⟩
  | 77 => ⟨S4096x256, .bf16⟩
  | 78 => ⟨S4096x256, .bf16⟩
  | 79 => ⟨S1x1024, .f32⟩
  | 80 => ⟨S1x256, .f32⟩
  | 81 => ⟨S1x256, .f32⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_3 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_4 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_5 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_6 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_7 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_c : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_c_8 : Ref sig .tc := ⟨.hbm, 117, rfl⟩
abbrev main_v103 : Ref sig .tc := ⟨.hbm, 118, rfl⟩
abbrev main_v104 : Ref sig .tc := ⟨.hbm, 119, rfl⟩
abbrev main_c_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c_10 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_c_11 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_cst_12 : Ref sig .tc := ⟨.hbm, 142, rfl⟩
abbrev main_call0_v0 : Ref sig .tc := ⟨.hbm, 143, rfl⟩
abbrev main_v124_1 : Ref sig .tc := ⟨.hbm, 144, rfl⟩
abbrev main_call0_v2 : Ref sig .tc := ⟨.hbm, 145, rfl⟩
abbrev main_v124_0 : Ref sig .tc := ⟨.hbm, 146, rfl⟩
abbrev main_call0_cst : Ref sig .tc := ⟨.hbm, 147, rfl⟩
abbrev main_v124_2 : Ref sig .tc := ⟨.hbm, 148, rfl⟩
abbrev main_v125 : Ref sig .tc := ⟨.hbm, 149, rfl⟩
abbrev main_v126 : Ref sig .tc := ⟨.hbm, 150, rfl⟩
abbrev main_cst_13 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_14 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_15 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_cst_17 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_18 : Ref sig .tc := ⟨.hbm, 178, rfl⟩
abbrev main_v149 : Ref sig .tc := ⟨.hbm, 179, rfl⟩
abbrev main_cst_19 : Ref sig .tc := ⟨.hbm, 180, rfl⟩
abbrev main_v150 : Ref sig .tc := ⟨.hbm, 181, rfl⟩
abbrev main_cst_20 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_21 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_22 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_23 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_cst_24 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_cst_25 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_cst_26 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_cst_27 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_cst_28 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_cst_29 : Ref sig .tc := ⟨.hbm, 246, rfl⟩
abbrev main_v206 : Ref sig .tc := ⟨.hbm, 247, rfl⟩
abbrev main_v207 : Ref sig .tc := ⟨.hbm, 248, rfl⟩
abbrev main_call1_cst : Ref sig .tc := ⟨.hbm, 249, rfl⟩
abbrev main_call1_v0 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_cst_30 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_31 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_32 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_cst_33 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_cst_34 : Ref sig .tc := ⟨.hbm, 295, rfl⟩
abbrev main_v248 : Ref sig .tc := ⟨.hbm, 296, rfl⟩
abbrev main_v249 : Ref sig .tc := ⟨.hbm, 297, rfl⟩
abbrev main_cst_35 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_cst_36 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_cst_37 : Ref sig .tc := ⟨.hbm, 318, rfl⟩
abbrev main_v268 : Ref sig .tc := ⟨.hbm, 319, rfl⟩
abbrev main_v269 : Ref sig .tc := ⟨.hbm, 320, rfl⟩
abbrev main_cst_38 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_cst_39 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2560 : Shape := ⟨2, ![4096, 2560]⟩
abbrev S4096x1024 : Shape := ⟨2, ![4096, 1024]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S2560x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2560 : Shape := ⟨2, ![4096, 2560]⟩
abbrev S4096x1024 : Shape := ⟨2, ![4096, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S2560x1024 : Shape := ⟨2, ![2560, 1024]⟩
abbrev S4096x2560 : Shape := ⟨2, ![4096, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S2560x1024 : Shape := ⟨2, ![2560, 1024]⟩
abbrev S1024x2560 : Shape := ⟨2, ![1024, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x1024, .f32⟩
  | .hbm, ⟨3, _⟩ => ⟨S1024x2560, .bf16⟩
  | .hbm, ⟨4, _⟩ => ⟨S1024x2560, .f32⟩
  | .hbm, ⟨5, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .bf16⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4096x2560 : Shape := ⟨2, ![4096, 2560]⟩
abbrev S2560x1024 : Shape := ⟨2, ![2560, 1024]⟩
abbrev S4096x1024 : Shape := ⟨2, ![4096, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x2560 : Shape := ⟨2, ![4096, 2560]⟩
abbrev S2560x1024 : Shape := ⟨2, ![2560, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2560, .bf16⟩
  | .hbm, ⟨25, _⟩ => ⟨S1024x2560, .f32⟩
  | .hbm, ⟨26, _⟩ => ⟨S4096x2560, .f32⟩
  | .hbm, ⟨27, _⟩ => ⟨S4096x2560, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4096x1024, .bf16⟩
  | .hbm, ⟨4, _⟩ => ⟨S4096x4096, .f32⟩
  | .local _ .vmem, ⟨0, _⟩ => ⟨S4096x1024, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x4096, .f32⟩
  | .local _ .vmem, ⟨7, _⟩ => ⟨S512x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4096, .bf16⟩
  | .hbm, ⟨20, _⟩ => ⟨S1024x4096, .f32⟩
  | .hbm, ⟨21, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Model.lean ====
/- The arithmetic of the attention's backward kernel at one grid point, written family by family: the
   rotation of the rows, the heads cut out of the blocks, one unit of four query heads against one key
   head, and the sums of zero padded pieces that put the gradients together again. Everything is stated
   over any float algebra; the body's own stored vectors are these by definition. -/
module

public import proofs.«01_k».proof.Proof.Gen.KernelIdeal.Skeleton

@[expose] public section

set_option maxRecDepth 16384

noncomputable section

namespace Cert.KernelIdeal.Swa

open Idealize.ShloMosaic Cert.KernelIdeal Cert.KernelIdeal.Gen

variable {F : FTy → Type} [FloatOps F] [Named F]

/-- What one grid point reads: the blocks of the queries, keys and values, the rotation tables, the
    biases, the sinks, the keys and values of the block before, the carried sums, the heads of the
    incoming gradient, and whether a block comes before this one. -/
structure In (F : FTy → Type) where
  q : FVec F S512x1024 .f32
  k : FVec F S512x256 .f32
  v : FVec F S512x256 .f32
  cos : FVec F S512x128 .f32
  sin : FVec F S512x128 .f32
  bq : FVec F S1x1024 .f32
  bk : FVec F S1x256 .f32
  bv : FVec F S1x256 .f32
  sk : Fin 16 → FVec F S1x1 .f32
  kp : Fin 4 → FVec F S128x64 .f32
  vp : Fin 4 → FVec F S128x64 .f32
  dkc : Fin 4 → FVec F S128x64 .f32
  dvc : Fin 4 → FVec F S128x64 .f32
  dh : Fin 16 → FVec F S512x64 .f32
  nf : BitVec 1

/-- The zero of the literals. -/
def z0 : F .f32 := Scalar.ofBits .f32 0x00000000#32

/-! ## The mask -/

def mRow : IVec S512x256 32 := andi (iota .tc S512x256 32 [0] iota_S512x256_d0_w32) (broadcast S512x256 127#32)
def mCol : IVec S512x256 32 := iota .tc S512x256 32 [1] iota_S512x256_d1_w32
def mCur : IVec S512x256 1 :=
  andi (cmpi .sge mCol (broadcast S512x256 128#32)) (cmpi .sge mRow (subi mCol (broadcast S512x256 128#32)))
def mPrev : IVec S512x256 1 := andi (cmpi .slt mCol (broadcast S512x256 128#32)) (cmpi .sgt mCol mRow)
/-- The band of a block whose keys before are there when `nf` is set. -/
def mask0 (nf : BitVec 1) : IVec S512x256 1 := ori mCur (andi mPrev (broadcast S512x256 nf))
/-- The band of a block with a block before it. -/
def mask1 : IVec S512x256 1 := ori mCur mPrev

/-! ## The rotation -/

def lane : IVec S512x128 32 := andi (iota .tc S512x128 32 [1] iota_S512x128_d1_w32) (broadcast S512x128 63#32)
def rotG (x : FVec F S512x128 .f32) : FVec F S512x128 .f32 :=
  select (cmpi .slt lane (broadcast S512x128 8#32))
    (subf (broadcast S512x128 (z0 (F := F))) (dynamicRotate 1 120#32 none x rotates_S512x128_d1))
    (select (cmpi .slt lane (broadcast S512x128 16#32)) (dynamicRotate 1 8#32 none x rotates_S512x128_d1)
      (broadcast S512x128 (z0 (F := F))))

def rot8 (x : FVec F S512x1024 .f32) : FVec F S512x1024 .f32 :=
  concatenate S512x1024 1 [⟨S512x128, rotG (extractStridedSlice S512x128 ![0, 0] x slices_S512x1024_o0_0_S512x128)⟩, ⟨S512x128, rotG (extractStridedSlice S512x128 ![0, 128] x slices_S512x1024_o0_128_S512x128)⟩, ⟨S512x128, rotG (extractStridedSlice S512x128 ![0, 256] x slices_S512x1024_o0_256_S512x128)⟩, ⟨S512x128, rotG (extractStridedSlice S512x128 ![0, 384] x slices_S512x1024_o0_384_S512x128)⟩, ⟨S512x128, rotG (extractStridedSlice S512x128 ![0, 512] x slices_S512x1024_o0_512_S512x128)⟩, ⟨S512x128, rotG (extractStridedSlice S512x128 ![0, 640] x slices_S512x1024_o0_640_S512x128)⟩, ⟨S512x128, rotG (extractStridedSlice S512x128 ![0, 768] x slices_S512x1024_o0_768_S512x128)⟩, ⟨S512x128, rotG (extractStridedSlice S512x128 ![0, 896] x slices_S512x1024_o0_896_S512x128)⟩] concatenates_S512x128_S512x128_S512x128_S512x128_S512x128_S512x128_S512x128_S512x128_S512x1024_d1
def rot2 (x : FVec F S512x256 .f32) : FVec F S512x256 .f32 :=
  concatenate S512x256 1 [⟨S512x128, rotG (extractStridedSlice S512x128 ![0, 0] x slices_S512x256_o0_0_S512x128)⟩, ⟨S512x128, rotG (extractStridedSlice S512x128 ![0, 128] x slices_S512x256_o0_128_S512x128)⟩] concatenates_S512x128_S512x128_S512x256_d1
def rep8 (x : FVec F S512x128 .f32) : FVec F S512x1024 .f32 :=
  concatenate S512x1024 1 [⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x1024_d1
def rep2 (x : FVec F S512x128 .f32) : FVec F S512x256 .f32 :=
  concatenate S512x256 1 [⟨S512x128, x⟩, ⟨S512x128, x⟩] concatenates_S512x128_S512x128_S512x256_d1

def eighth : F .f32 := Scalar.ofBits .f32 0x3E000000#32
/-- The turned and scaled queries. -/
def qa (a : In F) : FVec F S512x1024 .f32 :=
  mulf (addf (mulf (addf a.q (broadcastTo S512x1024 a.bq broadcasts_S1x1024_S512x1024)) (rep8 a.cos))
    (mulf (rot8 (addf a.q (broadcastTo S512x1024 a.bq broadcasts_S1x1024_S512x1024))) (rep8 a.sin)))
    (broadcast S512x1024 (eighth (F := F)))
/-- The turned keys. -/
def ka (a : In F) : FVec F S512x256 .f32 :=
  addf (mulf (addf a.k (broadcastTo S512x256 a.bk broadcasts_S1x256_S512x256)) (rep2 a.cos))
    (mulf (rot2 (addf a.k (broadcastTo S512x256 a.bk broadcasts_S1x256_S512x256))) (rep2 a.sin))
/-- The values. -/
def va (a : In F) : FVec F S512x256 .f32 :=
  addf a.v (broadcastTo S512x256 a.bv broadcasts_S1x256_S512x256)
/-- The rotation's transpose. -/
def back8 (a : In F) (x : FVec F S512x1024 .f32) : FVec F S512x1024 .f32 :=
  addf (subf (broadcast S512x1024 (z0 (F := F))) (rot8 (mulf x (rep8 a.sin)))) (mulf x (rep8 a.cos))
def back2 (a : In F) (x : FVec F S512x256 .f32) : FVec F S512x256 .f32 :=
  addf (subf (broadcast S512x256 (z0 (F := F))) (rot2 (mulf x (rep2 a.sin)))) (mulf x (rep2 a.cos))

/-! ## The heads -/

theorem slRow (j : Fin 4) : S512x64.Slices ![128 * j.val, 0] S128x64 := by revert j; decide
theorem slColQ (h : Fin 16) : S512x1024.Slices ![0, 64 * h.val] S512x64 := by revert h; decide
theorem slColK (g : Fin 4) : S512x256.Slices ![0, 64 * g.val] S512x64 := by revert g; decide
/-- Rows `128 j ..` of a `512`-row vector. -/
def rowB (j : Fin 4) (x : FVec F S512x64 .f32) : FVec F S128x64 .f32 :=
  extractStridedSlice S128x64 ![128 * j.val, 0] x (slRow j)
def colQ (h : Fin 16) (x : FVec F S512x1024 .f32) : FVec F S512x64 .f32 :=
  extractStridedSlice S512x64 ![0, 64 * h.val] x (slColQ h)
def colK (g : Fin 4) (x : FVec F S512x256 .f32) : FVec F S512x64 .f32 :=
  extractStridedSlice S512x64 ![0, 64 * g.val] x (slColK g)
/-- Query head `hh` of group `g`. -/
def hd (g hh : Fin 4) : Fin 16 := ⟨4 * g.val + hh.val, by omega⟩

def q2 (a : In F) (j g : Fin 4) : FVec F S512x64 .f32 :=
  concatenate S512x64 0 [⟨S128x64, rowB j (colQ (hd g 0) (qa a))⟩, ⟨S128x64, rowB j (colQ (hd g 1) (qa a))⟩,
    ⟨S128x64, rowB j (colQ (hd g 2) (qa a))⟩, ⟨S128x64, rowB j (colQ (hd g 3) (qa a))⟩] concatenates_S128x64_S128x64_S128x64_S128x64_S512x64_d0
/-- The block before and the block, of one head of keys. -/
def pairK (x y : FVec F S128x64 .f32) : FVec F S256x64 .f32 :=
  concatenate S256x64 0 [⟨S128x64, x⟩, ⟨S128x64, y⟩] concatenates_S128x64_S128x64_S256x64_d0
/-- Rows `128 j ..` of key head `g`, and of value head `g`. -/
def kB (a : In F) (j g : Fin 4) : FVec F S128x64 .f32 := rowB j (colK g (ka a))
def vB (a : In F) (j g : Fin 4) : FVec F S128x64 .f32 := rowB j (colK g (va a))

def snk (a : In F) (h : Fin 16) : FVec F S128x1 .f32 :=
  broadcastTo S128x1 (shapeCast S1x1 (a.sk h) shapeCasts_S1x1_S1x1) broadcasts_S1x1_S128x1
def sinkCol (a : In F) (g : Fin 4) : FVec F S512x1 .f32 :=
  concatenate S512x1 0 [⟨S128x1, snk a (hd g 0)⟩, ⟨S128x1, snk a (hd g 1)⟩, ⟨S128x1, snk a (hd g 2)⟩, ⟨S128x1, snk a (hd g 3)⟩] concatenates_S128x1_S128x1_S128x1_S128x1_S512x1_d0

/-! ## Zero padded pieces -/

def zr (s : Shape) : FVec F s .f32 := broadcast s (z0 (F := F))

/-! A piece of `128` rows placed at rows `0 ..`, `128 ..`, `256 ..`, `384 ..`, zero elsewhere. -/
def padR0 (x : FVec F S128x64 .f32) : FVec F S512x64 .f32 := concatenate S512x64 0 [⟨S128x64, x⟩, ⟨S384x64, zr S384x64⟩] concatenates_S128x64_S384x64_S512x64_d0
def padR1 (x : FVec F S128x64 .f32) : FVec F S512x64 .f32 := concatenate S512x64 0 [⟨S256x64, concatenate S256x64 0 [⟨S128x64, zr S128x64⟩, ⟨S128x64, x⟩] concatenates_S128x64_S128x64_S256x64_d0⟩, ⟨S256x64, zr S256x64⟩] concatenates_S256x64_S256x64_S512x64_d0
def padR2 (x : FVec F S128x64 .f32) : FVec F S512x64 .f32 := concatenate S512x64 0 [⟨S384x64, concatenate S384x64 0 [⟨S256x64, zr S256x64⟩, ⟨S128x64, x⟩] concatenates_S256x64_S128x64_S384x64_d0⟩, ⟨S128x64, zr S128x64⟩] concatenates_S384x64_S128x64_S512x64_d0
def padR3 (x : FVec F S128x64 .f32) : FVec F S512x64 .f32 := concatenate S512x64 0 [⟨S384x64, zr S384x64⟩, ⟨S128x64, x⟩] concatenates_S384x64_S128x64_S512x64_d0
/-! A head placed at columns `64 h ..` of `256`, zero elsewhere. -/
def padK0 (x : FVec F S512x64 .f32) : FVec F S512x256 .f32 := concatenate S512x256 1 [⟨S512x64, x⟩, ⟨S512x192, zr S512x192⟩] concatenates_S512x64_S512x192_S512x256_d1
def padK1 (x : FVec F S512x64 .f32) : FVec F S512x256 .f32 := concatenate S512x256 1 [⟨S512x128, concatenate S512x128 1 [⟨S512x64, zr S512x64⟩, ⟨S512x64, x⟩] concatenates_S512x64_S512x64_S512x128_d1⟩, ⟨S512x128, zr S512x128⟩] concatenates_S512x128_S512x128_S512x256_d1
def padK2 (x : FVec F S512x64 .f32) : FVec F S512x256 .f32 := concatenate S512x256 1 [⟨S512x192, concatenate S512x192 1 [⟨S512x128, zr S512x128⟩, ⟨S512x64, x⟩] concatenates_S512x128_S512x64_S512x192_d1⟩, ⟨S512x64, zr S512x64⟩] concatenates_S512x192_S512x64_S512x256_d1
def padK3 (x : FVec F S512x64 .f32) : FVec F S512x256 .f32 := concatenate S512x256 1 [⟨S512x192, zr S512x192⟩, ⟨S512x64, x⟩] concatenates_S512x192_S512x64_S512x256_d1
/-! A head placed at columns `64 h ..` of `1024`, zero elsewhere. -/
def padQ0 (x : FVec F S512x64 .f32) : FVec F S512x1024 .f32 := concatenate S512x1024 1 [⟨S512x64, x⟩, ⟨S512x960, zr S512x960⟩] concatenates_S512x64_S512x960_S512x1024_d1
def padQ1 (x : FVec F S512x64 .f32) : FVec F S512x1024 .f32 := concatenate S512x1024 1 [⟨S512x128, concatenate S512x128 1 [⟨S512x64, zr S512x64⟩, ⟨S512x64, x⟩] concatenates_S512x64_S512x64_S512x128_d1⟩, ⟨S512x896, zr S512x896⟩] concatenates_S512x128_S512x896_S512x1024_d1
def padQ2 (x : FVec F S512x64 .f32) : FVec F S512x1024 .f32 := concatenate S512x1024 1 [⟨S512x192, concatenate S512x192 1 [⟨S512x128, zr S512x128⟩, ⟨S512x64, x⟩] concatenates_S512x128_S512x64_S512x192_d1⟩, ⟨S512x832, zr S512x832⟩] concatenates_S512x192_S512x832_S512x1024_d1
def padQ3 (x : FVec F S512x64 .f32) : FVec F S512x1024 .f32 := concatenate S512x1024 1 [⟨S512x256, concatenate S512x256 1 [⟨S512x192, zr S512x192⟩, ⟨S512x64, x⟩] concatenates_S512x192_S512x64_S512x256_d1⟩, ⟨S512x768, zr S512x768⟩] concatenates_S512x256_S512x768_S512x1024_d1
def padQ4 (x : FVec F S512x64 .f32) : FVec F S512x1024 .f32 := concatenate S512x1024 1 [⟨S512x320, concatenate S512x320 1 [⟨S512x256, zr S512x256⟩, ⟨S512x64, x⟩] concatenates_S512x256_S512x64_S512x320_d1⟩, ⟨S512x704, zr S512x704⟩] concatenates_S512x320_S512x704_S512x1024_d1
def padQ5 (x : FVec F S512x64 .f32) : FVec F S512x1024 .f32 := concatenate S512x1024 1 [⟨S512x384, concatenate S512x384 1 [⟨S512x320, zr S512x320⟩, ⟨S512x64, x⟩] concatenates_S512x320_S512x64_S512x384_d1⟩, ⟨S512x640, zr S512x640⟩] concatenates_S512x384_S512x640_S512x1024_d1
def padQ6 (x : FVec F S512x64 .f32) : FVec F S512x1024 .f32 := concatenate S512x1024 1 [⟨S512x448, concatenate S512x448 1 [⟨S512x384, zr S512x384⟩, ⟨S512x64, x⟩] concatenates_S512x384_S512x64_S512x448_d1⟩, ⟨S512x576, zr S512x576⟩] concatenates_S512x448_S512x576_S512x1024_d1
def padQ7 (x : FVec F S512x64 .f32) : FVec F S512x1024 .f32 := concatenate S512x1024 1 [⟨S512x512, concatenate S512x512 1 [⟨S512x448, zr S512x448⟩, ⟨S512x64, x⟩] concatenates_S512x448_S512x64_S512x512_d1⟩, ⟨S512x512, zr S512x512⟩] concatenates_S512x512_S512x512_S512x1024_d1
def padQ8 (x : FVec F S512x64 .f32) : FVec F S512x1024 .f32 := concatenate S512x1024 1 [⟨S512x576, concatenate S512x576 1 [⟨S512x512, zr S512x512⟩, ⟨S512x64, x⟩] concatenates_S512x512_S512x64_S512x576_d1⟩, ⟨S512x448, zr S512x448⟩] concatenates_S512x576_S512x448_S512x1024_d1
def padQ9 (x : FVec F S512x64 .f32) : FVec F S512x1024 .f32 := concatenate S512x1024 1 [⟨S512x640, concatenate S512x640 1 [⟨S512x576, zr S512x576⟩, ⟨S512x64, x⟩] concatenates_S512x576_S512x64_S512x640_d1⟩, ⟨S512x384, zr S512x384⟩] concatenates_S512x640_S512x384_S512x1024_d1
def padQ10 (x : FVec F S512x64 .f32) : FVec F S512x1024 .f32 := concatenate S512x1024 1 [⟨S512x704, concatenate S512x704 1 [⟨S512x640, zr S512x640⟩, ⟨S512x64, x⟩] concatenates_S512x640_S512x64_S512x704_d1⟩, ⟨S512x320, zr S512x320⟩] concatenates_S512x704_S512x320_S512x1024_d1
def padQ11 (x : FVec F S512x64 .f32) : FVec F S512x1024 .f32 := concatenate S512x1024 1 [⟨S512x768, concatenate S512x768 1 [⟨S512x704, zr S512x704⟩, ⟨S512x64, x⟩] concatenates_S512x704_S512x64_S512x768_d1⟩, ⟨S512x256, zr S512x256⟩] concatenates_S512x768_S512x256_S512x1024_d1
def padQ12 (x : FVec F S512x64 .f32) : FVec F S512x1024 .f32 := concatenate S512x1024 1 [⟨S512x832, concatenate S512x832 1 [⟨S512x768, zr S512x768⟩, ⟨S512x64, x⟩] concatenates_S512x768_S512x64_S512x832_d1⟩, ⟨S512x192, zr S512x192⟩] concatenates_S512x832_S512x192_S512x1024_d1
def padQ13 (x : FVec F S512x64 .f32) : FVec F S512x1024 .f32 := concatenate S512x1024 1 [⟨S512x896, concatenate S512x896 1 [⟨S512x832, zr S512x832⟩, ⟨S512x64, x⟩] concatenates_S512x832_S512x64_S512x896_d1⟩, ⟨S512x128, zr S512x128⟩] concatenates_S512x896_S512x128_S512x1024_d1
def padQ14 (x : FVec F S512x64 .f32) : FVec F S512x1024 .f32 := concatenate S512x1024 1 [⟨S512x960, concatenate S512x960 1 [⟨S512x896, zr S512x896⟩, ⟨S512x64, x⟩] concatenates_S512x896_S512x64_S512x960_d1⟩, ⟨S512x64, zr S512x64⟩] concatenates_S512x960_S512x64_S512x1024_d1
def padQ15 (x : FVec F S512x64 .f32) : FVec F S512x1024 .f32 := concatenate S512x1024 1 [⟨S512x960, zr S512x960⟩, ⟨S512x64, x⟩] concatenates_S512x960_S512x64_S512x1024_d1
/-- The pieces of the keys' side put together. -/
def asmK (f0 f1 f2 f3 : Fin 4 → FVec F S128x64 .f32) : FVec F S512x256 .f32 :=
  addf (addf (addf (addf (addf (addf (addf (addf (addf (addf (addf (addf (addf (addf (addf (padK3 (padR3 (f3 3))) (padK2 (padR3 (f3 2)))) (padK1 (padR3 (f3 1)))) (padK0 (padR3 (f3 0)))) (padK3 (padR2 (f2 3)))) (padK2 (padR2 (f2 2)))) (padK1 (padR2 (f2 1)))) (padK0 (padR2 (f2 0)))) (padK3 (padR1 (f1 3)))) (padK2 (padR1 (f1 2)))) (padK1 (padR1 (f1 1)))) (padK0 (padR1 (f1 0)))) (padK3 (padR0 (f0 3)))) (padK2 (padR0 (f0 2)))) (padK1 (padR0 (f0 1)))) (padK0 (padR0 (f0 0)))
/-- The pieces of the queries' side put together. -/
def asmQ (f0 f1 f2 f3 : Fin 16 → FVec F S128x64 .f32) : FVec F S512x1024 .f32 :=
  addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (padQ15 (padR3 (f3 15))) (padQ14 (padR3 (f3 14)))) (padQ13 (padR3 (f3 13)))) (padQ12 (padR3 (f3 12)))) (padQ11 (padR3 (f3 11)))) (padQ10 (padR3 (f3 10)))) (padQ9 (padR3 (f3 9)))) (padQ8 (padR3 (f3 8)))) (padQ7 (padR3 (f3 7)))) (padQ6 (padR3 (f3 6)))) (padQ5 (padR3 (f3 5)))) (padQ4 (padR3 (f3 4)))) (padQ3 (padR3 (f3 3)))) (padQ2 (padR3 (f3 2)))) (padQ1 (padR3 (f3 1)))) (padQ0 (padR3 (f3 0)))) (padQ15 (padR2 (f2 15)))) (padQ14 (padR2 (f2 14)))) (padQ13 (padR2 (f2 13)))) (padQ12 (padR2 (f2 12)))) (padQ11 (padR2 (f2 11)))) (padQ10 (padR2 (f2 10)))) (padQ9 (padR2 (f2 9)))) (padQ8 (padR2 (f2 8)))) (padQ7 (padR2 (f2 7)))) (padQ6 (padR2 (f2 6)))) (padQ5 (padR2 (f2 5)))) (padQ4 (padR2 (f2 4)))) (padQ3 (padR2 (f2 3)))) (padQ2 (padR2 (f2 2)))) (padQ1 (padR2 (f2 1)))) (padQ0 (padR2 (f2 0)))) (padQ15 (padR1 (f1 15)))) (padQ14 (padR1 (f1 14)))) (padQ13 (padR1 (f1 13)))) (padQ12 (padR1 (f1 12)))) (padQ11 (padR1 (f1 11)))) (padQ10 (padR1 (f1 10)))) (padQ9 (padR1 (f1 9)))) (padQ8 (padR1 (f1 8)))) (padQ7 (padR1 (f1 7)))) (padQ6 (padR1 (f1 6)))) (padQ5 (padR1 (f1 5)))) (padQ4 (padR1 (f1 4)))) (padQ3 (padR1 (f1 3)))) (padQ2 (padR1 (f1 2)))) (padQ1 (padR1 (f1 1)))) (padQ0 (padR1 (f1 0)))) (padQ15 (padR0 (f0 15)))) (padQ14 (padR0 (f0 14)))) (padQ13 (padR0 (f0 13)))) (padQ12 (padR0 (f0 12)))) (padQ11 (padR0 (f0 11)))) (padQ10 (padR0 (f0 10)))) (padQ9 (padR0 (f0 9)))) (padQ8 (padR0 (f0 8)))) (padQ7 (padR0 (f0 7)))) (padQ6 (padR0 (f0 6)))) (padQ5 (padR0 (f0 5)))) (padQ4 (padR0 (f0 4)))) (padQ3 (padR0 (f0 3)))) (padQ2 (padR0 (f0 2)))) (padQ1 (padR0 (f0 1)))) (padQ0 (padR0 (f0 0)))

/-! ## One unit: four query heads against one key head, `128` positions -/

/-- The unit's share of the incoming gradient. -/
def do2 (a : In F) (j g : Fin 4) : FVec F S512x64 .f32 :=
  addf (addf (addf (padR3 (rowB j (a.dh (hd g 3)))) (padR2 (rowB j (a.dh (hd g 2))))) (padR1 (rowB j (a.dh (hd g 1)))))
    (padR0 (rowB j (a.dh (hd g 0))))

/-- What a unit works on: the band, four heads of queries, the keys and values of two blocks, the sinks,
    the incoming gradient. -/
structure Un (F : FTy → Type) where
  ok : IVec S512x256 1
  q : FVec F S512x64 .f32
  k : FVec F S256x64 .f32
  v : FVec F S256x64 .f32
  sk : FVec F S512x1 .f32
  dO : FVec F S512x64 .f32

namespace Un

def s (u : Un F) : FVec F S512x256 .f32 :=
  select u.ok
    (matmul dot_S512x64_S256x64_S512x256_1_1_0_0_n_n none (truncf .bf16 u.q bitsLt_bf16_f32) (truncf .bf16 u.k bitsLt_bf16_f32)
      (constant S512x256 .f32 0x00000000#32))
    (broadcast S512x256 (Named.named κ "mask" 0xF149F2CA#32))
def m (u : Un F) : FVec F S512x1 .f32 :=
  maximumf (shapeCast S512x1 (multiReduction .maximumf [1] S512 u.s 0xFF800000#32 reduces_S512x256_S512 (.inl rfl) rfl) shapeCasts_S512_S512x1) u.sk
def p (u : Un F) : FVec F S512x256 .f32 := exp (subf u.s (broadcastTo S512x256 u.m broadcasts_S512x1_S512x256))
def e (u : Un F) : FVec F S512x1 .f32 := exp (subf u.sk u.m)
def onesC : FVec F S256x64 .f32 := broadcast S256x64 (Scalar.ofBits .f32 0x3F800000#32)
def pv (u : Un F) : FVec F S512x64 .f32 :=
  matmul dot_S512x256_S256x64_S512x64_1_0_0_1_n_n none (truncf .bf16 u.p bitsLt_bf16_f32) (truncf .bf16 u.v bitsLt_bf16_f32)
    (constant S512x64 .f32 0x00000000#32)
def den (u : Un F) : FVec F S512x64 .f32 :=
  addf (matmul dot_S512x256_S256x64_S512x64_1_0_0_1_n_n none (truncf .bf16 u.p bitsLt_bf16_f32) (truncf .bf16 onesC bitsLt_bf16_f32)
    (constant S512x64 .f32 0x00000000#32)) (broadcastTo S512x64 u.e broadcasts_S512x1_S512x64)
/-- The gradient of the denominator, lane by lane. -/
def w (u : Un F) : FVec F S512x64 .f32 :=
  subf (broadcast S512x64 (z0 (F := F)))
    (mulf (mulf u.dO (divf (broadcast S512x64 (Scalar.ofBits .f32 0x3F800000#32)) (mulf u.den u.den))) u.pv)
def du (u : Un F) : FVec F S512x64 .f32 := divf u.dO u.den
def dp (u : Un F) : FVec F S512x256 .f32 :=
  addf (matmul dot_S512x64_S256x64_S512x256_1_1_0_0_n_n none (truncf .bf16 u.w bitsLt_bf16_f32) (truncf .bf16 onesC bitsLt_bf16_f32)
      (constant S512x256 .f32 0x00000000#32))
    (matmul dot_S512x64_S256x64_S512x256_1_1_0_0_n_n none (truncf .bf16 u.du bitsLt_bf16_f32) (truncf .bf16 u.v bitsLt_bf16_f32)
      (constant S512x256 .f32 0x00000000#32))
def ds (u : Un F) : FVec F S512x256 .f32 := select u.ok (mulf u.dp u.p) (broadcast S512x256 (z0 (F := F)))
def dq (u : Un F) : FVec F S512x64 .f32 :=
  matmul dot_S512x256_S256x64_S512x64_1_0_0_1_n_n none (truncf .bf16 u.ds bitsLt_bf16_f32) (truncf .bf16 u.k bitsLt_bf16_f32)
    (constant S512x64 .f32 0x00000000#32)
def dk (u : Un F) : FVec F S256x64 .f32 :=
  matmul dot_S512x256_S512x64_S256x64_0_0_1_1_n_n none (truncf .bf16 u.ds bitsLt_bf16_f32) (truncf .bf16 u.q bitsLt_bf16_f32)
    (constant S256x64 .f32 0x00000000#32)
def dv (u : Un F) : FVec F S256x64 .f32 :=
  matmul dot_S512x256_S512x64_S256x64_0_0_1_1_n_n none (truncf .bf16 u.p bitsLt_bf16_f32) (truncf .bf16 u.du bitsLt_bf16_f32)
    (constant S256x64 .f32 0x00000000#32)
/-- The gradient of the sink's column, position by position. -/
def t (u : Un F) : FVec F S512x1 .f32 :=
  mulf (shapeCast S512x1 (multiReduction .add [1] S512 u.w 0x00000000#32 reduces_S512x64_S512 (.inl rfl) rfl) shapeCasts_S512_S512x1) u.e

end Un

/-- The units of the block's first `128` positions, and of the others. -/
def un0 (a : In F) (g : Fin 4) : Un F := ⟨mask0 a.nf, q2 a 0 g, pairK (a.kp g) (kB a 0 g), pairK (a.vp g) (vB a 0 g), sinkCol a g, do2 a 0 g⟩
def un1 (a : In F) (g : Fin 4) : Un F := ⟨mask1, q2 a 1 g, pairK (kB a 0 g) (kB a 1 g), pairK (vB a 0 g) (vB a 1 g), sinkCol a g, do2 a 1 g⟩
def un2 (a : In F) (g : Fin 4) : Un F := ⟨mask1, q2 a 2 g, pairK (kB a 1 g) (kB a 2 g), pairK (vB a 1 g) (vB a 2 g), sinkCol a g, do2 a 2 g⟩
def un3 (a : In F) (g : Fin 4) : Un F := ⟨mask1, q2 a 3 g, pairK (kB a 2 g) (kB a 3 g), pairK (vB a 2 g) (vB a 3 g), sinkCol a g, do2 a 3 g⟩

/-! ## The gradients of the block -/

/-- The part that belongs to the keys before. -/
def lo (x : FVec F S256x64 .f32) : FVec F S128x64 .f32 := extractStridedSlice S128x64 ![0, 0] x slices_S256x64_o0_0_S128x64
def hi (x : FVec F S256x64 .f32) : FVec F S128x64 .f32 := extractStridedSlice S128x64 ![128, 0] x slices_S256x64_o128_0_S128x64
def dkP0 (a : In F) (g : Fin 4) : FVec F S128x64 .f32 := addf (lo (un1 a g).dk) (hi (un0 a g).dk)
def dkP1 (a : In F) (g : Fin 4) : FVec F S128x64 .f32 := addf (lo (un2 a g).dk) (hi (un1 a g).dk)
def dkP2 (a : In F) (g : Fin 4) : FVec F S128x64 .f32 := addf (lo (un3 a g).dk) (hi (un2 a g).dk)
def dkP3 (a : In F) (g : Fin 4) : FVec F S128x64 .f32 := addf (a.dkc g) (hi (un3 a g).dk)
def dvP0 (a : In F) (g : Fin 4) : FVec F S128x64 .f32 := addf (lo (un1 a g).dv) (hi (un0 a g).dv)
def dvP1 (a : In F) (g : Fin 4) : FVec F S128x64 .f32 := addf (lo (un2 a g).dv) (hi (un1 a g).dv)
def dvP2 (a : In F) (g : Fin 4) : FVec F S128x64 .f32 := addf (lo (un3 a g).dv) (hi (un2 a g).dv)
def dvP3 (a : In F) (g : Fin 4) : FVec F S128x64 .f32 := addf (a.dvc g) (hi (un3 a g).dv)
def grp (h : Fin 16) : Fin 4 := ⟨h.val / 4, by omega⟩
def sub (h : Fin 16) : Fin 4 := ⟨h.val % 4, by omega⟩
def dqP0 (a : In F) (h : Fin 16) : FVec F S128x64 .f32 := rowB (sub h) (un0 a (grp h)).dq
def dqP1 (a : In F) (h : Fin 16) : FVec F S128x64 .f32 := rowB (sub h) (un1 a (grp h)).dq
def dqP2 (a : In F) (h : Fin 16) : FVec F S128x64 .f32 := rowB (sub h) (un2 a (grp h)).dq
def dqP3 (a : In F) (h : Fin 16) : FVec F S128x64 .f32 := rowB (sub h) (un3 a (grp h)).dq
def dvT (a : In F) : FVec F S512x256 .f32 := asmK (dvP0 a) (dvP1 a) (dvP2 a) (dvP3 a)
def dkS (a : In F) : FVec F S512x256 .f32 := asmK (dkP0 a) (dkP1 a) (dkP2 a) (dkP3 a)
def dqS (a : In F) : FVec F S512x1024 .f32 := asmQ (dqP0 a) (dqP1 a) (dqP2 a) (dqP3 a)
def dkT (a : In F) : FVec F S512x256 .f32 := back2 a (dkS a)
def dqT (a : In F) : FVec F S512x1024 .f32 := back8 a (mulf (dqS a) (broadcast S512x1024 (eighth (F := F))))
def sumQ (x : FVec F S512x1024 .f32) : FVec F S1x1024 .f32 :=
  shapeCast S1x1024 (multiReduction .add [0] S1024 x 0x00000000#32 reduces_S512x1024_S1024 (.inl rfl) rfl) shapeCasts_S1024_S1x1024
def sumK (x : FVec F S512x256 .f32) : FVec F S1x256 .f32 :=
  shapeCast S1x256 (multiReduction .add [0] S256 x 0x00000000#32 reduces_S512x256_S256 (.inl rfl) rfl) shapeCasts_S256_S1x256
theorem slRow1 (j : Fin 4) : S512x1.Slices ![128 * j.val, 0] S128x1 := by revert j; decide
def tT (a : In F) (g : Fin 4) : FVec F S512x1 .f32 := addf (addf (addf (un3 a g).t (un2 a g).t) (un1 a g).t) (un0 a g).t
/-- The gradient of sink `h` out of this block. -/
def dskT (a : In F) (h : Fin 16) : FVec F S1x1 .f32 :=
  broadcast S1x1 (extractAt ![0, 0, 0] (shapeCast S1x1x1 (multiReduction .add [1, 2] S1 (shapeCast S1x128x1
    (extractStridedSlice S128x1 ![128 * (sub h).val, 0] (tT a (grp h)) (slRow1 (sub h))) shapeCasts_S128x1_S1x128x1)
    0x00000000#32 reduces_S1x128x1_S1 (.inl rfl) rfl) shapeCasts_S1_S1x1x1) inpos_S1x1x1_p0_0_0)

end Cert.KernelIdeal.Swa
-- ==== Proof.Inb.lean ====
/- The rectangles the body reads lie inside their windows. -/
module
public import proofs.«01_k».proof.Proof.Model

@[expose] public section
set_option maxRecDepth 16384
noncomputable section
namespace Cert.KernelIdeal.Swa
open Idealize.ShloMosaic Idealize.ShloMosaic.TcCoe Cert.KernelIdeal Cert.KernelIdeal.Gen
theorem inbS (h : Fin 16) : ∀ a, (![0, h.val] : Fin 2 → Nat) a + S1x1.size a ≤ S1x16.size a := by revert h; decide
theorem inbP (g : Fin 4) : ∀ a, (![0, 64 * g.val] : Fin 2 → Nat) a + S128x64.size a ≤ S128x256.size a := by revert g; decide
theorem inbH (h : Fin 16) : ∀ a, (![0, 64 * h.val] : Fin 2 → Nat) a + S512x64.size a ≤ S512x1024.size a := by revert h; decide
end Cert.KernelIdeal.Swa
-- ==== Proof.BodyA.lean ====
/- The vectors the body of case A stores are the families of the model at what the point reads. -/
module
public import proofs.«01_k».proof.Proof.Gen.KernelIdeal.Frame.RunA
public import proofs.«01_k».proof.Proof.Model
public import proofs.«01_k».proof.Proof.Inb

@[expose] public section
set_option maxRecDepth 16384
noncomputable section
namespace Cert.KernelIdeal.Swa
open Idealize.ShloMosaic Idealize.ShloMosaic.TcCoe Cert.KernelIdeal Cert.KernelIdeal.Gen
attribute [local irreducible] ori andi select exp subf addf mulf divf concatenate extractStridedSlice broadcastTo broadcast shapeCast truncf multiReduction maximumf iota cmpi subi dynamicRotate extractAt
variable {F : FTy → Type} [FloatOps F] [Named F]

/-- What the point of case A reads. -/
def inpA (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (arg21 : Memref sig .tc .vmem S128x256 .f32) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32) : In F where
  q := View.readAt (Elt F) arg1.view (Rect.unit (s := S512x1024) ![0, 0] S512x1024.size inb_S512x1024_S512x1024_0_0).toLoadRect (harg1.unread x0)
  k := View.readAt (Elt F) arg2.view (Rect.unit (s := S512x256) ![0, 0] S512x256.size inb_S512x256_S512x256_0_0).toLoadRect (harg2.unread x1)
  v := View.readAt (Elt F) arg3.view (Rect.unit (s := S512x256) ![0, 0] S512x256.size inb_S512x256_S512x256_0_0).toLoadRect (harg3.unread x2)
  cos := (kernelRun0_A.sl.v8 c arg4 harg4 x3)
  sin := (kernelRun0_A.sl.v10 c arg5 harg5 x4)
  bq := (kernelRun0_A.sl.v12 c arg6 harg6 x5)
  bk := (kernelRun0_A.sl.v14 c arg7 harg7 x6)
  bv := (kernelRun0_A.sl.v16 c arg8 harg8 x7)
  sk := fun h => View.readAt (Elt F) arg9.view (Rect.unit (s := S1x16) ![0, h.val] S1x1.size (inbS h)).toLoadRect (harg9.unread x8)
  kp := fun g => shapeCast S128x64 (View.readAt (Elt F) arg10.view (Rect.unit (s := S128x256) ![0, 64 * g.val] S128x64.size (inbP g)).toLoadRect (harg10.unread x9)) shapeCasts_S128x64_S128x64
  vp := fun g => shapeCast S128x64 (View.readAt (Elt F) arg11.view (Rect.unit (s := S128x256) ![0, 64 * g.val] S128x64.size (inbP g)).toLoadRect (harg11.unread x10)) shapeCasts_S128x64_S128x64
  dkc := fun g => arg20.view.readCov (kernelRun0_A.sl.HS0_1 (F := F)) (Rect.unit (s := S128x256) ![0, 64 * g.val] S128x64.size (inbP g)).toLoadRect
  dvc := fun g => arg21.view.readCov (kernelRun0_A.sl.HS0_1 (F := F)) (Rect.unit (s := S128x256) ![0, 64 * g.val] S128x64.size (inbP g)).toLoadRect
  dh := fun h => View.readAt (Elt F) arg12.view (Rect.unit (s := S512x1024) ![0, 64 * h.val] S512x64.size (inbH h)).toLoadRect (harg12.unread x11)
  nf := (kernelRun0_A.sl.v63 i)

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (arg21 : Memref sig .tc .vmem S128x256 .f32) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32)
set_option maxHeartbeats 40000000 in
/-- All of them at once, since they share the units. -/
theorem allA :
    ((kernelRun0_A.sl.v2508 c i arg1 harg1 arg2 harg2 arg4 harg4 arg5 harg5 arg6 harg6 arg7 harg7 arg9 harg9 arg10 harg10 arg12 harg12 arg21 x0 x1 x3 x4 x5 x6 x8 x9 x11),
      (kernelRun0_A.sl.v2654 c i arg1 harg1 arg2 harg2 arg3 harg3 arg4 harg4 arg5 harg5 arg6 harg6 arg7 harg7 arg8 harg8 arg9 harg9 arg10 harg10 arg11 harg11 arg12 harg12 arg20 x0 x1 x2 x3 x4 x5 x6 x7 x8 x9 x10 x11),
      (kernelRun0_A.sl.v2763 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v2765 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v2656 c i arg1 harg1 arg2 harg2 arg3 harg3 arg4 harg4 arg5 harg5 arg6 harg6 arg7 harg7 arg8 harg8 arg9 harg9 arg10 harg10 arg11 harg11 arg12 harg12 arg20 x0 x1 x2 x3 x4 x5 x6 x7 x8 x9 x10 x11),
      (kernelRun0_A.sl.v2621 c i arg1 harg1 arg2 harg2 arg4 harg4 arg5 harg5 arg6 harg6 arg7 harg7 arg9 harg9 arg10 harg10 arg12 harg12 arg21 x0 x1 x3 x4 x5 x6 x8 x9 x11),
      (kernelRun0_A.sl.v1662 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1657 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1652 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1647 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1638 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1633 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1628 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1623 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1614 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1609 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1604 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1599 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1590 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1585 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1580 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1575 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1836 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1825 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1814 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1803 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_A.sl.v1548 c i arg1 harg1 arg2 harg2 arg4 harg4 arg5 harg5 arg6 harg6 arg7 harg7 arg9 harg9 arg10 harg10 arg12 harg12 x0 x1 x3 x4 x5 x6 x8 x9 x11),
      (kernelRun0_A.sl.v1538 c i arg1 harg1 arg2 harg2 arg4 harg4 arg5 harg5 arg6 harg6 arg7 harg7 arg9 harg9 arg10 harg10 arg12 harg12 x0 x1 x3 x4 x5 x6 x8 x9 x11),
      (kernelRun0_A.sl.v1528 c i arg1 harg1 arg2 harg2 arg4 harg4 arg5 harg5 arg6 harg6 arg7 harg7 arg9 harg9 arg10 harg10 arg12 harg12 x0 x1 x3 x4 x5 x6 x8 x9 x11),
      (kernelRun0_A.sl.v1518 c i arg1 harg1 arg2 harg2 arg4 harg4 arg5 harg5 arg6 harg6 arg7 harg7 arg9 harg9 arg10 harg10 arg12 harg12 x0 x1 x3 x4 x5 x6 x8 x9 x11))
    = (fun a : In F => (dvT a, dkT a, dqT a, sumQ (dqT a), sumK (dkT a), sumK (dvT a), dskT a 0, dskT a 1, dskT a 2, dskT a 3, dskT a 4, dskT a 5, dskT a 6, dskT a 7, dskT a 8, dskT a 9, dskT a 10, dskT a 11, dskT a 12, dskT a 13, dskT a 14, dskT a 15, lo (un0 a 0).dk, lo (un0 a 1).dk, lo (un0 a 2).dk, lo (un0 a 3).dk, lo (un0 a 0).dv, lo (un0 a 1).dv, lo (un0 a 2).dv, lo (un0 a 3).dv))
      (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) := by sl_kernel_rfl
theorem dvA : (kernelRun0_A.sl.v2508 c i arg1 harg1 arg2 harg2 arg4 harg4 arg5 harg5 arg6 harg6 arg7 harg7 arg9 harg9 arg10 harg10 arg12 harg12 arg21 x0 x1 x3 x4 x5 x6 x8 x9 x11) = dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) := congrArg (fun y => y.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem dkA : (kernelRun0_A.sl.v2654 c i arg1 harg1 arg2 harg2 arg3 harg3 arg4 harg4 arg5 harg5 arg6 harg6 arg7 harg7 arg8 harg8 arg9 harg9 arg10 harg10 arg11 harg11 arg12 harg12 arg20 x0 x1 x2 x3 x4 x5 x6 x7 x8 x9 x10 x11) = dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) := congrArg (fun y => y.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem dqA : (kernelRun0_A.sl.v2763 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) := congrArg (fun y => y.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem bqA : (kernelRun0_A.sl.v2765 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = sumQ (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) := congrArg (fun y => y.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem bkA : (kernelRun0_A.sl.v2656 c i arg1 harg1 arg2 harg2 arg3 harg3 arg4 harg4 arg5 harg5 arg6 harg6 arg7 harg7 arg8 harg8 arg9 harg9 arg10 harg10 arg11 harg11 arg12 harg12 arg20 x0 x1 x2 x3 x4 x5 x6 x7 x8 x9 x10 x11) = sumK (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) := congrArg (fun y => y.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem bvA : (kernelRun0_A.sl.v2621 c i arg1 harg1 arg2 harg2 arg4 harg4 arg5 harg5 arg6 harg6 arg7 harg7 arg9 harg9 arg10 harg10 arg12 harg12 arg21 x0 x1 x3 x4 x5 x6 x8 x9 x11) = sumK (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) := congrArg (fun y => y.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds0A : (kernelRun0_A.sl.v1662 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 0 := congrArg (fun y => y.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds1A : (kernelRun0_A.sl.v1657 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 1 := congrArg (fun y => y.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds2A : (kernelRun0_A.sl.v1652 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 2 := congrArg (fun y => y.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds3A : (kernelRun0_A.sl.v1647 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 3 := congrArg (fun y => y.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds4A : (kernelRun0_A.sl.v1638 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 4 := congrArg (fun y => y.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds5A : (kernelRun0_A.sl.v1633 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 5 := congrArg (fun y => y.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds6A : (kernelRun0_A.sl.v1628 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 6 := congrArg (fun y => y.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds7A : (kernelRun0_A.sl.v1623 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 7 := congrArg (fun y => y.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds8A : (kernelRun0_A.sl.v1614 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 8 := congrArg (fun y => y.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds9A : (kernelRun0_A.sl.v1609 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 9 := congrArg (fun y => y.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds10A : (kernelRun0_A.sl.v1604 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 10 := congrArg (fun y => y.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds11A : (kernelRun0_A.sl.v1599 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 11 := congrArg (fun y => y.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds12A : (kernelRun0_A.sl.v1590 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 12 := congrArg (fun y => y.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds13A : (kernelRun0_A.sl.v1585 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 13 := congrArg (fun y => y.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds14A : (kernelRun0_A.sl.v1580 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 14 := congrArg (fun y => y.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ds15A : (kernelRun0_A.sl.v1575 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 15 := congrArg (fun y => y.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ck0A : (kernelRun0_A.sl.v1836 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 0).dk := congrArg (fun y => y.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ck1A : (kernelRun0_A.sl.v1825 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 1).dk := congrArg (fun y => y.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ck2A : (kernelRun0_A.sl.v1814 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 2).dk := congrArg (fun y => y.2.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem ck3A : (kernelRun0_A.sl.v1803 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 3).dk := congrArg (fun y => y.2.2.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem cv0A : (kernelRun0_A.sl.v1548 c i arg1 harg1 arg2 harg2 arg4 harg4 arg5 harg5 arg6 harg6 arg7 harg7 arg9 harg9 arg10 harg10 arg12 harg12 x0 x1 x3 x4 x5 x6 x8 x9 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 0).dv := congrArg (fun y => y.2.2.2.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem cv1A : (kernelRun0_A.sl.v1538 c i arg1 harg1 arg2 harg2 arg4 harg4 arg5 harg5 arg6 harg6 arg7 harg7 arg9 harg9 arg10 harg10 arg12 harg12 x0 x1 x3 x4 x5 x6 x8 x9 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 1).dv := congrArg (fun y => y.2.2.2.2.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem cv2A : (kernelRun0_A.sl.v1528 c i arg1 harg1 arg2 harg2 arg4 harg4 arg5 harg5 arg6 harg6 arg7 harg7 arg9 harg9 arg10 harg10 arg12 harg12 x0 x1 x3 x4 x5 x6 x8 x9 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 2).dv := congrArg (fun y => y.2.2.2.2.2.2.2.2.2.2.2.2.2.2.2.2.2.2.2.2.2.2.2.2.2.2.2.2.1) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)
theorem cv3A : (kernelRun0_A.sl.v1518 c i arg1 harg1 arg2 harg2 arg4 harg4 arg5 harg5 arg6 harg6 arg7 harg7 arg9 harg9 arg10 harg10 arg12 harg12 x0 x1 x3 x4 x5 x6 x8 x9 x11) = lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) 3).dv := congrArg (fun y => y.2.2.2.2.2.2.2.2.2.2.2.2.2.2.2.2.2.2.2.2.2.2.2.2.2.2.2.2.2) (allA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)

end Cert.KernelIdeal.Swa
-- ==== Proof.Row.lean ====
/- One row of the attention over the real numbers: its scores over the two blocks of keys, the softmax with
   a sink, and the derivatives of both, as the mathematics states them. -/
module

public import Idealize.ShloMosaic.Lib.Pointwise
public import Mathlib.Analysis.SpecialFunctions.Exp

@[expose] public section

noncomputable section

namespace Swa

/-- One row: which of the `256` keys it sees, its query, the gradient that comes in, keys, values, sink. -/
structure Row where
  ok : ℕ → Bool
  q : ℕ → ℝ
  o : ℕ → ℝ
  k : ℕ → ℕ → ℝ
  v : ℕ → ℕ → ℝ
  sk : ℝ

namespace Row

variable (R : Row)

def S (t : ℕ) : ℝ := ∑ d : Fin 64, R.q d * R.k t d
/-- The masked score. -/
def SE (t : ℕ) : EReal := if R.ok t then (R.S t : EReal) else ⊥
def ME : EReal := max (Finset.univ.fold max ⊥ fun t : Fin 256 => R.SE t) (R.sk : EReal)
def M : ℝ := R.ME.toReal
def P (t : ℕ) : ℝ := if R.ok t then Real.exp (R.S t - R.M) else 0
def E : ℝ := Real.exp (R.sk - R.M)
def D : ℝ := (∑ t : Fin 256, R.P t) + R.E
/-- The gradient of a weight. -/
def G (t : ℕ) : ℝ := ∑ d : Fin 64, R.o d * R.v t d
/-- The gradient of the denominator. -/
def W : ℝ := -((∑ t : Fin 256, R.G t * R.P t) / (R.D * R.D))
/-- The gradient of a score. -/
def dS (t : ℕ) : ℝ := (R.G t / R.D + R.W) * R.P t

theorem fold_max_top_ne {ι : Type*} (s : Finset ι) (f : ι → EReal) (h : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a
    · exact ih

theorem SE_ne_top (t : ℕ) : R.SE t ≠ ⊤ := by
  unfold SE; split
  · exact EReal.coe_ne_top _
  · exact bot_ne_top

theorem coe_M : (R.M : EReal) = R.ME := by
  refine EReal.coe_toReal ?_ ?_
  · unfold ME
    rcases max_choice (Finset.univ.fold max ⊥ fun t : Fin 256 => R.SE t) (R.sk : EReal) with e | e <;> rw [e]
    · exact fold_max_top_ne _ _ fun t => R.SE_ne_top t
    · exact EReal.coe_ne_top _
  · refine ne_of_gt (lt_of_lt_of_le (EReal.bot_lt_coe R.sk) ?_)
    exact le_max_right _ _

theorem P_nonneg (t : ℕ) : 0 ≤ R.P t := by
  unfold P; split
  · exact (Real.exp_pos _).le
  · exact le_rfl

theorem E_pos : 0 < R.E := Real.exp_pos _

theorem D_pos : 0 < R.D :=
  add_pos_of_nonneg_of_pos (Finset.sum_nonneg fun t _ => R.P_nonneg t) R.E_pos

theorem D_ne : R.D ≠ 0 := R.D_pos.ne'

/-- What flows back into the maximum cancels. -/
theorem max_path : W R * R.E + ∑ t : Fin 256, R.dS t = 0 := by
  have h : ∑ t : Fin 256, R.dS t = (∑ t : Fin 256, R.G t * R.P t) / R.D + R.W * ∑ t : Fin 256, R.P t := by
    rw [Finset.sum_div, Finset.mul_sum, ← Finset.sum_add_distrib]
    refine Finset.sum_congr rfl fun t _ => ?_
    unfold dS; ring
  have hE : R.E = R.D - ∑ t : Fin 256, R.P t := by unfold D; ring
  rw [h, hE]
  have : R.W * R.D = -((∑ t : Fin 256, R.G t * R.P t) / R.D) := by
    unfold W; field_simp [R.D_ne]
  linear_combination this

theorem dS_not_ok (t : ℕ) (h : R.ok t = false) : R.dS t = 0 := by
  unfold dS P; simp [h]

end Row

/-! ## Sums and quotients of real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type*} (s : Finset ι) (f : ι → ℝ) (g : ι → EReal) (h : ∀ i ∈ s, g i = (f i : EReal)) :
    ∑ i ∈ s, g i = ((∑ i ∈ s, f i : ℝ) : EReal) := by
  rw [coe_sum]; exact Finset.sum_congr rfl h

end Swa
-- ==== Proof.Unit.lean ====
/- One unit of the kernel over the extended reals: `512` rows of the attention against one pair of blocks. -/
module

public import proofs.«01_k».proof.Proof.Model
public import proofs.«01_k».proof.Proof.Row
public import Idealize.ShloMosaic.Lib.Pointwise

@[expose] public section

set_option maxRecDepth 16384

noncomputable section

namespace Cert.KernelIdeal.Swa

open Idealize.ShloMosaic Cert.KernelIdeal Cert.KernelIdeal.Gen
open _root_.Swa (Row sum_coe)

/-- The unit holds these rows. -/
structure Holds (u : Un Ideal) (R : Fin 512 → Row) : Prop where
  ok : ∀ (i : Fin 512) (t : Fin 256), u.ok (ix2 i t) = if (R i).ok t then 1#1 else 0#1
  q : ∀ (i : Fin 512) (d : Fin 64), u.q (ix2 i d) = (((R i).q d : ℝ) : EReal)
  k : ∀ (i : Fin 512) (t : Fin 256) (d : Fin 64), u.k (ix2 t d) = (((R i).k t d : ℝ) : EReal)
  v : ∀ (i : Fin 512) (t : Fin 256) (d : Fin 64), u.v (ix2 t d) = (((R i).v t d : ℝ) : EReal)
  sk : ∀ i : Fin 512, u.sk (ix2 i 0) = (((R i).sk : ℝ) : EReal)
  o : ∀ (i : Fin 512) (d : Fin 64), u.dO (ix2 i d) = (((R i).o d : ℝ) : EReal)

variable {u : Un Ideal} {R : Fin 512 → Row} (H : Holds u R)
theorem named_mask : (Named.named κ "mask" 4048155338#32 : Ideal .f32) = (⊥ : EReal) := rfl

theorem ofBits_bot : Ideal.ofBits FTy.f32 4286578688#32 = (⊥ : EReal) := by
  simp [Ideal.ofBits, Ideal.ieee]

theorem z0_eq : (z0 : Ideal .f32) = (0 : EReal) := Ideal.ofBits_zero_f32

include H

theorem s_at (i : Fin 512) (t : Fin 256) : u.s (ix2 i t) = (R i).SE t := by
  pointwise [Un.s]
  rw [H.ok i t, named_mask]
  unfold Row.SE
  by_cases h : (R i).ok t
  · simp only [h, if_true]
    rw [show ∀ a b : Ideal .f32, Scalar.select 1#1 a b = a from fun _ _ => rfl]
    refine (sum_coe _ (fun d : Fin 64 => (R i).q d * (R i).k t d) _ fun d _ => ?_)
    rw [H.q, H.k i, EReal.coe_mul]
  · simp only [h, if_false]; rfl

theorem m_at (i : Fin 512) : u.m (ix2 i 0) = (((R i).M : ℝ) : EReal) := by
  rw [Row.coe_M]
  pointwise [Un.m]
  simp only [s_at H, H.sk, ofBits_bot]
  rfl

theorem p_at (i : Fin 512) (t : Fin 256) : u.p (ix2 i t) = (((R i).P t : ℝ) : EReal) := by
  pointwise [Un.p]
  simp only [s_at H, m_at H]
  unfold Row.SE Row.P
  by_cases h : (R i).ok t
  · simp only [h, if_true]; rw [← EReal.coe_sub, Ideal.exp_coe]
  · simp only [h]; exact Ideal.exp_bot

theorem e_at (i : Fin 512) : u.e (ix2 i 0) = (((R i).E : ℝ) : EReal) := by
  pointwise [Un.e]
  simp only [m_at H, H.sk]
  rw [← EReal.coe_sub, Ideal.exp_coe]; rfl

theorem den_at (i : Fin 512) (d : Fin 64) : u.den (ix2 i d) = (((R i).D : ℝ) : EReal) := by
  pointwise [Un.den, Un.onesC]
  simp only [p_at H, e_at H]
  rw [← _root_.Swa.coe_sum, ← EReal.coe_add]; rfl

theorem w_at (i : Fin 512) (d : Fin 64) : u.w (ix2 i d) = (((-((R i).o d * (1 / ((R i).D * (R i).D)) * ∑ t : Fin 256, (R i).P t * (R i).v t d)) : ℝ) : EReal) := by
  pointwise [Un.w, Un.pv]
  simp only [p_at H, den_at H, H.v i, H.o, z0_eq]
  rw [sum_coe _ (fun t : Fin 256 => (R i).P t * (R i).v t d) _ fun t _ => (EReal.coe_mul _ _).symm,
    ← EReal.coe_mul, ← EReal.coe_one, Ideal.div_coe (mul_ne_zero (R i).D_ne (R i).D_ne), ← EReal.coe_mul, ← EReal.coe_mul, one_mul,
    ← EReal.coe_mul, ← EReal.coe_zero, ← EReal.coe_sub, zero_sub]

omit H in
theorem sum_w (r : Row) : (∑ d : Fin 64, -(r.o d * (1 / (r.D * r.D)) * ∑ t : Fin 256, r.P t * r.v t d) : ℝ) = r.W := by
  unfold Row.W Row.G
  rw [Finset.sum_neg_distrib, neg_inj, Finset.sum_div]
  simp only [Finset.mul_sum, Finset.sum_mul, Finset.sum_div]
  rw [Finset.sum_comm]
  refine Finset.sum_congr rfl fun t _ => Finset.sum_congr rfl fun d _ => ?_
  ring

theorem du_at (i : Fin 512) (d : Fin 64) : u.du (ix2 i d) = (((R i).o d / (R i).D : ℝ) : EReal) := by
  pointwise [Un.du]
  rw [H.o, den_at H, Ideal.div_coe (R i).D_ne, ← EReal.coe_mul, mul_one_div]

theorem dp_at (i : Fin 512) (t : Fin 256) : u.dp (ix2 i t) = (((R i).G t / (R i).D + (R i).W : ℝ) : EReal) := by
  pointwise [Un.dp, Un.onesC]
  rw [sum_coe _ _ _ fun d _ => w_at H i d, sum_w,
    sum_coe _ (fun d : Fin 64 => (R i).o d / (R i).D * (R i).v t d) _ fun d _ => by rw [du_at H, H.v i, EReal.coe_mul],
    ← EReal.coe_add]
  congr 1
  unfold Row.G
  rw [Finset.sum_div, add_comm]
  congr 1
  exact Finset.sum_congr rfl fun d _ => by ring

theorem t_at (i : Fin 512) : u.t (ix2 i 0) = (((R i).W * (R i).E : ℝ) : EReal) := by
  pointwise [Un.t]
  rw [sum_coe _ _ _ fun d _ => w_at H i d, sum_w, e_at H, EReal.coe_mul]

theorem ds_at (i : Fin 512) (t : Fin 256) : u.ds (ix2 i t) = (((R i).dS t : ℝ) : EReal) := by
  pointwise [Un.ds]
  rw [H.ok i t, dp_at H, p_at H, z0_eq, ← EReal.coe_mul]
  by_cases h : (R i).ok t
  · simp only [h, if_true]; rfl
  · have h' : (R i).ok t = false := by simpa using h
    rw [Row.dS_not_ok _ _ h']; simp only [h']; rfl

theorem dq_at (i : Fin 512) (d : Fin 64) : u.dq (ix2 i d) = ((∑ t : Fin 256, (R i).dS t * (R i).k t d : ℝ) : EReal) := by
  pointwise [Un.dq]
  exact sum_coe _ (fun t : Fin 256 => (R i).dS t * (R i).k t d) _ fun t _ => by rw [ds_at H, H.k i, EReal.coe_mul]

theorem dk_at (t : Fin 256) (d : Fin 64) : u.dk (ix2 t d) = ((∑ i : Fin 512, (R i).dS t * (R i).q d : ℝ) : EReal) := by
  pointwise [Un.dk]
  exact sum_coe _ (fun i : Fin 512 => (R i).dS t * (R i).q d) _ fun i _ => by rw [ds_at H, H.q, EReal.coe_mul]

theorem dv_at (t : Fin 256) (d : Fin 64) : u.dv (ix2 t d) = ((∑ i : Fin 512, (R i).P t * ((R i).o d / (R i).D) : ℝ) : EReal) := by
  pointwise [Un.dv]
  exact sum_coe _ (fun i : Fin 512 => (R i).P t * ((R i).o d / (R i).D)) _ fun i _ => by rw [p_at H, du_at H, EReal.coe_mul]

end Cert.KernelIdeal.Swa
-- ==== Proof.Turn.lean ====
/- The rotation of the rows and the zero padded pieces of the kernel, read at an index over the extended reals. -/
module

public import proofs.«01_k».proof.Proof.Model
public import proofs.«01_k».proof.Proof.Unit
public import Idealize.ShloMosaic.Lib.Pointwise

@[expose] public section

set_option maxRecDepth 16384

noncomputable section

namespace Cert.KernelIdeal.Swa

open Idealize.ShloMosaic Cert.KernelIdeal Cert.KernelIdeal.Gen

theorem lane_lt8 (l : Fin 128) : IntOp.cmpi CmpIPredicate.slt (IntOp.andi (BitVec.ofNat 32 l.val) 63#32) 8#32
    = if l.val % 64 < 8 then 1#1 else 0#1 := by revert l; decide +kernel
theorem lane_lt16 (l : Fin 128) : IntOp.cmpi CmpIPredicate.slt (IntOp.andi (BitVec.ofNat 32 l.val) 63#32) 16#32
    = if l.val % 64 < 16 then 1#1 else 0#1 := by revert l; decide +kernel
theorem select_if {α : Type} (c : Prop) [Decidable c] (a b : α) :
    Scalar.select (if c then 1#1 else 0#1) a b = if c then a else b := by split <;> rfl

theorem rotG_at (x : FVec Ideal S512x128 .f32) (i : Fin 512) (l : Fin 128) :
    rotG x (ix2 i l) = if l.val % 64 < 8 then (0 : EReal) - x (ix2 i ⟨(l.val + 8) % 128, by omega⟩)
      else if l.val % 64 < 16 then x (ix2 i ⟨(l.val + 120) % 128, by omega⟩) else (0 : EReal) := by
  pointwise [rotG, lane]
  rw [lane_lt8, lane_lt16, select_if, select_if, z0_eq]
  have e1 : (l.val + 128 - 120) % 128 = (l.val + 8) % 128 := by omega
  have e2 : (l.val + 128 - 8) % 128 = (l.val + 120) % 128 := by omega
  simp only [e1, e2]

/-- What the rotation brings to column `c` of a block of `n` columns. -/
def rotAt {n : ℕ} (hn : 0 < n) (f : Fin n → EReal) (c : Fin n) : EReal :=
  if c.val % 64 < 8 then (0 : EReal) - f ⟨(c.val + 8) % n, Nat.mod_lt _ hn⟩
  else if c.val % 64 < 16 then f ⟨(c.val - 8) % n, Nat.mod_lt _ hn⟩ else (0 : EReal)

theorem rotG_sl8 (x : FVec Ideal S512x1024 .f32) (o : ℕ) (ho : o % 64 = 0) (hs : S512x1024.Slices ![0, o] S512x128)
    (i : Fin 512) (l : Fin 128) (c : Fin 1024) (h : c.val = o + l.val) :
    rotG (extractStridedSlice S512x128 ![0, o] x hs) (ix2 i l) = rotAt (by decide) (fun c => x (ix2 i c)) c := by
  have hl := l.isLt
  have hc := c.isLt
  rw [rotG_at]
  unfold rotAt
  have hm : c.val % 64 = l.val % 64 := by omega
  rw [hm]
  split_ifs with h1 h2
  · pointwise
    congr 4
    omega
  · pointwise
    congr 3
    omega
  · rfl

theorem rotG_sl2 (x : FVec Ideal S512x256 .f32) (o : ℕ) (ho : o % 64 = 0) (hs : S512x256.Slices ![0, o] S512x128)
    (i : Fin 512) (l : Fin 128) (c : Fin 256) (h : c.val = o + l.val) :
    rotG (extractStridedSlice S512x128 ![0, o] x hs) (ix2 i l) = rotAt (by decide) (fun c => x (ix2 i c)) c := by
  have hl := l.isLt
  have hc := c.isLt
  rw [rotG_at]
  unfold rotAt
  have hm : c.val % 64 = l.val % 64 := by omega
  rw [hm]
  split_ifs with h1 h2
  · pointwise
    congr 4
    omega
  · pointwise
    congr 3
    omega
  · rfl

set_option maxHeartbeats 1000000 in
theorem rot8_at (x : FVec Ideal S512x1024 .f32) (i : Fin 512) (c : Fin 1024) :
    rot8 x (ix2 i c) = rotAt (by decide) (fun c => x (ix2 i c)) c := by
  have hc := c.isLt
  pointwise [rot8]
  by_cases h0 : c.val < 128
  · rw [dif_pos h0]
    refine Eq.trans ?_ (rotG_sl8 x 0 rfl slices_S512x1024_o0_0_S512x128 i ⟨c.val - 0, by omega⟩ c (by show c.val = 0 + (c.val - 0); omega))
    refine congrArg (rotG _) (congrArg (ix2 i) (Fin.ext ?_))
    show c.val = c.val - 0
    omega
  rw [dif_neg h0]
  by_cases h1 : c.val - 128 < 128
  · rw [dif_pos h1]
    refine Eq.trans ?_ (rotG_sl8 x 128 rfl slices_S512x1024_o0_128_S512x128 i ⟨c.val - 128, by omega⟩ c (by show c.val = 128 + (c.val - 128); omega))
    refine congrArg (rotG _) (congrArg (ix2 i) (Fin.ext ?_))
    show c.val - 128 = c.val - 128
    omega
  rw [dif_neg h1]
  by_cases h2 : c.val - 128 - 128 < 128
  · rw [dif_pos h2]
    refine Eq.trans ?_ (rotG_sl8 x 256 rfl slices_S512x1024_o0_256_S512x128 i ⟨c.val - 256, by omega⟩ c (by show c.val = 256 + (c.val - 256); omega))
    refine congrArg (rotG _) (congrArg (ix2 i) (Fin.ext ?_))
    show c.val - 128 - 128 = c.val - 256
    omega
  rw [dif_neg h2]
  by_cases h3 : c.val - 128 - 128 - 128 < 128
  · rw [dif_pos h3]
    refine Eq.trans ?_ (rotG_sl8 x 384 rfl slices_S512x1024_o0_384_S512x128 i ⟨c.val - 384, by omega⟩ c (by show c.val = 384 + (c.val - 384); omega))
    refine congrArg (rotG _) (congrArg (ix2 i) (Fin.ext ?_))
    show c.val - 128 - 128 - 128 = c.val - 384
    omega
  rw [dif_neg h3]
  by_cases h4 : c.val - 128 - 128 - 128 - 128 < 128
  · rw [dif_pos h4]
    refine Eq.trans ?_ (rotG_sl8 x 512 rfl slices_S512x1024_o0_512_S512x128 i ⟨c.val - 512, by omega⟩ c (by show c.val = 512 + (c.val - 512); omega))
    refine congrArg (rotG _) (congrArg (ix2 i) (Fin.ext ?_))
    show c.val - 128 - 128 - 128 - 128 = c.val - 512
    omega
  rw [dif_neg h4]
  by_cases h5 : c.val - 128 - 128 - 128 - 128 - 128 < 128
  · rw [dif_pos h5]
    refine Eq.trans ?_ (rotG_sl8 x 640 rfl slices_S512x1024_o0_640_S512x128 i ⟨c.val - 640, by omega⟩ c (by show c.val = 640 + (c.val - 640); omega))
    refine congrArg (rotG _) (congrArg (ix2 i) (Fin.ext ?_))
    show c.val - 128 - 128 - 128 - 128 - 128 = c.val - 640
    omega
  rw [dif_neg h5]
  by_cases h6 : c.val - 128 - 128 - 128 - 128 - 128 - 128 < 128
  · rw [dif_pos h6]
    refine Eq.trans ?_ (rotG_sl8 x 768 rfl slices_S512x1024_o0_768_S512x128 i ⟨c.val - 768, by omega⟩ c (by show c.val = 768 + (c.val - 768); omega))
    refine congrArg (rotG _) (congrArg (ix2 i) (Fin.ext ?_))
    show c.val - 128 - 128 - 128 - 128 - 128 - 128 = c.val - 768
    omega
  rw [dif_neg h6]
  · refine Eq.trans ?_ (rotG_sl8 x 896 rfl slices_S512x1024_o0_896_S512x128 i ⟨c.val - 896, by omega⟩ c (by show c.val = 896 + (c.val - 896); omega))
    refine congrArg (rotG _) (congrArg (ix2 i) (Fin.ext ?_))
    show c.val - 128 - 128 - 128 - 128 - 128 - 128 - 128 = c.val - 896
    omega

theorem rot2_at (x : FVec Ideal S512x256 .f32) (i : Fin 512) (c : Fin 256) :
    rot2 x (ix2 i c) = rotAt (by decide) (fun c => x (ix2 i c)) c := by
  have hc := c.isLt
  pointwise [rot2]
  by_cases h0 : c.val < 128
  · rw [dif_pos h0]
    refine Eq.trans ?_ (rotG_sl2 x 0 rfl slices_S512x256_o0_0_S512x128 i ⟨c.val - 0, by omega⟩ c (by show c.val = 0 + (c.val - 0); omega))
    refine congrArg (rotG _) (congrArg (ix2 i) (Fin.ext ?_))
    show c.val = c.val - 0
    omega
  rw [dif_neg h0]
  · refine Eq.trans ?_ (rotG_sl2 x 128 rfl slices_S512x256_o0_128_S512x128 i ⟨c.val - 128, by omega⟩ c (by show c.val = 128 + (c.val - 128); omega))
    refine congrArg (rotG _) (congrArg (ix2 i) (Fin.ext ?_))
    show c.val - 128 = c.val - 128
    omega

theorem rep8_at (x : FVec Ideal S512x128 .f32) (i : Fin 512) (c : Fin 1024) :
    rep8 x (ix2 i c) = x (ix2 i ⟨c.val % 128, by omega⟩) := by
  have hc := c.isLt
  pointwise [rep8]
  by_cases h0 : c.val < 128
  · rw [dif_pos h0]
    refine congrArg x (congrArg (ix2 i) (Fin.ext ?_))
    show c.val = c.val % 128
    omega
  rw [dif_neg h0]
  by_cases h1 : c.val - 128 < 128
  · rw [dif_pos h1]
    refine congrArg x (congrArg (ix2 i) (Fin.ext ?_))
    show c.val - 128 = c.val % 128
    omega
  rw [dif_neg h1]
  by_cases h2 : c.val - 128 - 128 < 128
  · rw [dif_pos h2]
    refine congrArg x (congrArg (ix2 i) (Fin.ext ?_))
    show c.val - 128 - 128 = c.val % 128
    omega
  rw [dif_neg h2]
  by_cases h3 : c.val - 128 - 128 - 128 < 128
  · rw [dif_pos h3]
    refine congrArg x (congrArg (ix2 i) (Fin.ext ?_))
    show c.val - 128 - 128 - 128 = c.val % 128
    omega
  rw [dif_neg h3]
  by_cases h4 : c.val - 128 - 128 - 128 - 128 < 128
  · rw [dif_pos h4]
    refine congrArg x (congrArg (ix2 i) (Fin.ext ?_))
    show c.val - 128 - 128 - 128 - 128 = c.val % 128
    omega
  rw [dif_neg h4]
  by_cases h5 : c.val - 128 - 128 - 128 - 128 - 128 < 128
  · rw [dif_pos h5]
    refine congrArg x (congrArg (ix2 i) (Fin.ext ?_))
    show c.val - 128 - 128 - 128 - 128 - 128 = c.val % 128
    omega
  rw [dif_neg h5]
  by_cases h6 : c.val - 128 - 128 - 128 - 128 - 128 - 128 < 128
  · rw [dif_pos h6]
    refine congrArg x (congrArg (ix2 i) (Fin.ext ?_))
    show c.val - 128 - 128 - 128 - 128 - 128 - 128 = c.val % 128
    omega
  rw [dif_neg h6]
  · refine congrArg x (congrArg (ix2 i) (Fin.ext ?_))
    show c.val - 128 - 128 - 128 - 128 - 128 - 128 - 128 = c.val % 128
    omega

theorem rep2_at (x : FVec Ideal S512x128 .f32) (i : Fin 512) (c : Fin 256) :
    rep2 x (ix2 i c) = x (ix2 i ⟨c.val % 128, by omega⟩) := by
  have hc := c.isLt
  pointwise [rep2]
  by_cases h0 : c.val < 128
  · rw [dif_pos h0]
    refine congrArg x (congrArg (ix2 i) (Fin.ext ?_))
    show c.val = c.val % 128
    omega
  rw [dif_neg h0]
  · refine congrArg x (congrArg (ix2 i) (Fin.ext ?_))
    show c.val - 128 = c.val % 128
    omega

end Cert.KernelIdeal.Swa
-- ==== Proof.Pads.lean ====
/- The zero padded pieces of the kernel read at an index over the extended reals, and their sums. -/
module

public import proofs.«01_k».proof.Proof.Model
public import proofs.«01_k».proof.Proof.Unit
public import Idealize.ShloMosaic.Lib.Pointwise

@[expose] public section

set_option maxRecDepth 16384

noncomputable section

namespace Cert.KernelIdeal.Swa

open Idealize.ShloMosaic Cert.KernelIdeal Cert.KernelIdeal.Gen

theorem padR0_at (x : FVec Ideal S128x64 .f32) (i : Fin 512) (d : Fin 64) :
    padR0 x (ix2 i d) = if i.val / 128 = 0 then x (ix2 ⟨i.val % 128, by omega⟩ d) else (0 : EReal) := by
  have hc := i.isLt
  pointwise [padR0, zr]
  by_cases a : i.val < 128
  · refine (dif_pos a).trans ?_
    refine Eq.trans ?_ (if_pos (by omega)).symm
    refine congrArg x (congrArg (fun r => ix2 r d) (Fin.ext ?_))
    show i.val = i.val % 128
    omega
  · refine (dif_neg a).trans ?_
    refine Eq.trans ?_ (if_neg (by omega)).symm
    exact z0_eq

theorem padR1_at (x : FVec Ideal S128x64 .f32) (i : Fin 512) (d : Fin 64) :
    padR1 x (ix2 i d) = if i.val / 128 = 1 then x (ix2 ⟨i.val % 128, by omega⟩ d) else (0 : EReal) := by
  have hc := i.isLt
  pointwise [padR1, zr]
  by_cases a : i.val < 256
  · refine (dif_pos a).trans ?_
    by_cases b : i.val < 128
    · refine (dif_pos b).trans ?_
      refine Eq.trans ?_ (if_neg (by omega)).symm
      exact z0_eq
    refine (dif_neg b).trans ?_
    refine Eq.trans ?_ (if_pos (by omega)).symm
    refine congrArg x (congrArg (fun r => ix2 r d) (Fin.ext ?_))
    show i.val - 128 = i.val % 128
    omega
  · refine (dif_neg a).trans ?_
    refine Eq.trans ?_ (if_neg (by omega)).symm
    exact z0_eq

theorem padR2_at (x : FVec Ideal S128x64 .f32) (i : Fin 512) (d : Fin 64) :
    padR2 x (ix2 i d) = if i.val / 128 = 2 then x (ix2 ⟨i.val % 128, by omega⟩ d) else (0 : EReal) := by
  have hc := i.isLt
  pointwise [padR2, zr]
  by_cases a : i.val < 384
  · refine (dif_pos a).trans ?_
    by_cases b : i.val < 256
    · refine (dif_pos b).trans ?_
      refine Eq.trans ?_ (if_neg (by omega)).symm
      exact z0_eq
    refine (dif_neg b).trans ?_
    refine Eq.trans ?_ (if_pos (by omega)).symm
    refine congrArg x (congrArg (fun r => ix2 r d) (Fin.ext ?_))
    show i.val - 256 = i.val % 128
    omega
  · refine (dif_neg a).trans ?_
    refine Eq.trans ?_ (if_neg (by omega)).symm
    exact z0_eq

theorem padR3_at (x : FVec Ideal S128x64 .f32) (i : Fin 512) (d : Fin 64) :
    padR3 x (ix2 i d) = if i.val / 128 = 3 then x (ix2 ⟨i.val % 128, by omega⟩ d) else (0 : EReal) := by
  have hc := i.isLt
  pointwise [padR3, zr]
  by_cases a : i.val < 384
  · refine (dif_pos a).trans ?_
    refine Eq.trans ?_ (if_neg (by omega)).symm
    exact z0_eq
  · refine (dif_neg a).trans ?_
    refine Eq.trans ?_ (if_pos (by omega)).symm
    refine congrArg x (congrArg (fun r => ix2 r d) (Fin.ext ?_))
    show i.val - 384 = i.val % 128
    omega

theorem padK0_at (x : FVec Ideal S512x64 .f32) (i : Fin 512) (c : Fin 256) :
    padK0 x (ix2 i c) = if c.val / 64 = 0 then x (ix2 i ⟨c.val % 64, by omega⟩) else (0 : EReal) := by
  have hc := c.isLt
  pointwise [padK0, zr]
  by_cases a : c.val < 64
  · refine (dif_pos a).trans ?_
    refine Eq.trans ?_ (if_pos (by omega)).symm
    refine congrArg x (congrArg (ix2 i) (Fin.ext ?_))
    show c.val = c.val % 64
    omega
  · refine (dif_neg a).trans ?_
    refine Eq.trans ?_ (if_neg (by omega)).symm
    exact z0_eq

theorem padK1_at (x : FVec Ideal S512x64 .f32) (i : Fin 512) (c : Fin 256) :
    padK1 x (ix2 i c) = if c.val / 64 = 1 then x (ix2 i ⟨c.val % 64, by omega⟩) else (0 : EReal) := by
  have hc := c.isLt
  pointwise [padK1, zr]
  by_cases a : c.val < 128
  · refine (dif_pos a).trans ?_
    by_cases b : c.val < 64
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 64 = c.val % 64
    omega
  · refine (dif_neg a).trans ?_
    refine Eq.trans ?_ (if_neg (by omega)).symm
    exact z0_eq

theorem padK2_at (x : FVec Ideal S512x64 .f32) (i : Fin 512) (c : Fin 256) :
    padK2 x (ix2 i c) = if c.val / 64 = 2 then x (ix2 i ⟨c.val % 64, by omega⟩) else (0 : EReal) := by
  have hc := c.isLt
  pointwise [padK2, zr]
  by_cases a : c.val < 192
  · refine (dif_pos a).trans ?_
    by_cases b : c.val < 128
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 128 = c.val % 64
    omega
  · refine (dif_neg a).trans ?_
    refine Eq.trans ?_ (if_neg (by omega)).symm
    exact z0_eq

theorem padK3_at (x : FVec Ideal S512x64 .f32) (i : Fin 512) (c : Fin 256) :
    padK3 x (ix2 i c) = if c.val / 64 = 3 then x (ix2 i ⟨c.val % 64, by omega⟩) else (0 : EReal) := by
  have hc := c.isLt
  pointwise [padK3, zr]
  by_cases a : c.val < 192
  · refine (dif_pos a).trans ?_
    refine Eq.trans ?_ (if_neg (by omega)).symm
    exact z0_eq
  · refine (dif_neg a).trans ?_
    refine Eq.trans ?_ (if_pos (by omega)).symm
    refine congrArg x (congrArg (ix2 i) (Fin.ext ?_))
    show c.val - 192 = c.val % 64
    omega

theorem padQ0_at (x : FVec Ideal S512x64 .f32) (i : Fin 512) (c : Fin 1024) :
    padQ0 x (ix2 i c) = if c.val / 64 = 0 then x (ix2 i ⟨c.val % 64, by omega⟩) else (0 : EReal) := by
  have hc := c.isLt
  pointwise [padQ0, zr]
  by_cases a : c.val < 64
  · refine (dif_pos a).trans ?_
    refine Eq.trans ?_ (if_pos (by omega)).symm
    refine congrArg x (congrArg (ix2 i) (Fin.ext ?_))
    show c.val = c.val % 64
    omega
  · refine (dif_neg a).trans ?_
    refine Eq.trans ?_ (if_neg (by omega)).symm
    exact z0_eq

theorem padQ1_at (x : FVec Ideal S512x64 .f32) (i : Fin 512) (c : Fin 1024) :
    padQ1 x (ix2 i c) = if c.val / 64 = 1 then x (ix2 i ⟨c.val % 64, by omega⟩) else (0 : EReal) := by
  have hc := c.isLt
  pointwise [padQ1, zr]
  by_cases a : c.val < 128
  · refine (dif_pos a).trans ?_
    by_cases b : c.val < 64
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 64 = c.val % 64
    omega
  · refine (dif_neg a).trans ?_
    refine Eq.trans ?_ (if_neg (by omega)).symm
    exact z0_eq

theorem padQ2_at (x : FVec Ideal S512x64 .f32) (i : Fin 512) (c : Fin 1024) :
    padQ2 x (ix2 i c) = if c.val / 64 = 2 then x (ix2 i ⟨c.val % 64, by omega⟩) else (0 : EReal) := by
  have hc := c.isLt
  pointwise [padQ2, zr]
  by_cases a : c.val < 192
  · refine (dif_pos a).trans ?_
    by_cases b : c.val < 128
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 128 = c.val % 64
    omega
  · refine (dif_neg a).trans ?_
    refine Eq.trans ?_ (if_neg (by omega)).symm
    exact z0_eq

theorem padQ3_at (x : FVec Ideal S512x64 .f32) (i : Fin 512) (c : Fin 1024) :
    padQ3 x (ix2 i c) = if c.val / 64 = 3 then x (ix2 i ⟨c.val % 64, by omega⟩) else (0 : EReal) := by
  have hc := c.isLt
  pointwise [padQ3, zr]
  by_cases a : c.val < 256
  · refine (dif_pos a).trans ?_
    by_cases b : c.val < 192
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 192 = c.val % 64
    omega
  · refine (dif_neg a).trans ?_
    refine Eq.trans ?_ (if_neg (by omega)).symm
    exact z0_eq

theorem padQ4_at (x : FVec Ideal S512x64 .f32) (i : Fin 512) (c : Fin 1024) :
    padQ4 x (ix2 i c) = if c.val / 64 = 4 then x (ix2 i ⟨c.val % 64, by omega⟩) else (0 : EReal) := by
  have hc := c.isLt
  pointwise [padQ4, zr]
  by_cases a : c.val < 320
  · refine (dif_pos a).trans ?_
    by_cases b : c.val < 256
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 256 = c.val % 64
    omega
  · refine (dif_neg a).trans ?_
    refine Eq.trans ?_ (if_neg (by omega)).symm
    exact z0_eq

theorem padQ5_at (x : FVec Ideal S512x64 .f32) (i : Fin 512) (c : Fin 1024) :
    padQ5 x (ix2 i c) = if c.val / 64 = 5 then x (ix2 i ⟨c.val % 64, by omega⟩) else (0 : EReal) := by
  have hc := c.isLt
  pointwise [padQ5, zr]
  by_cases a : c.val < 384
  · refine (dif_pos a).trans ?_
    by_cases b : c.val < 320
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 320 = c.val % 64
    omega
  · refine (dif_neg a).trans ?_
    refine Eq.trans ?_ (if_neg (by omega)).symm
    exact z0_eq

theorem padQ6_at (x : FVec Ideal S512x64 .f32) (i : Fin 512) (c : Fin 1024) :
    padQ6 x (ix2 i c) = if c.val / 64 = 6 then x (ix2 i ⟨c.val % 64, by omega⟩) else (0 : EReal) := by
  have hc := c.isLt
  pointwise [padQ6, zr]
  by_cases a : c.val < 448
  · refine (dif_pos a).trans ?_
    by_cases b : c.val < 384
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 384 = c.val % 64
    omega
  · refine (dif_neg a).trans ?_
    refine Eq.trans ?_ (if_neg (by omega)).symm
    exact z0_eq

theorem padQ7_at (x : FVec Ideal S512x64 .f32) (i : Fin 512) (c : Fin 1024) :
    padQ7 x (ix2 i c) = if c.val / 64 = 7 then x (ix2 i ⟨c.val % 64, by omega⟩) else (0 : EReal) := by
  have hc := c.isLt
  pointwise [padQ7, zr]
  by_cases a : c.val < 512
  · refine (dif_pos a).trans ?_
    by_cases b : c.val < 448
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 448 = c.val % 64
    omega
  · refine (dif_neg a).trans ?_
    refine Eq.trans ?_ (if_neg (by omega)).symm
    exact z0_eq

theorem padQ8_at (x : FVec Ideal S512x64 .f32) (i : Fin 512) (c : Fin 1024) :
    padQ8 x (ix2 i c) = if c.val / 64 = 8 then x (ix2 i ⟨c.val % 64, by omega⟩) else (0 : EReal) := by
  have hc := c.isLt
  pointwise [padQ8, zr]
  by_cases a : c.val < 576
  · refine (dif_pos a).trans ?_
    by_cases b : c.val < 512
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 512 = c.val % 64
    omega
  · refine (dif_neg a).trans ?_
    refine Eq.trans ?_ (if_neg (by omega)).symm
    exact z0_eq

theorem padQ9_at (x : FVec Ideal S512x64 .f32) (i : Fin 512) (c : Fin 1024) :
    padQ9 x (ix2 i c) = if c.val / 64 = 9 then x (ix2 i ⟨c.val % 64, by omega⟩) else (0 : EReal) := by
  have hc := c.isLt
  pointwise [padQ9, zr]
  by_cases a : c.val < 640
  · refine (dif_pos a).trans ?_
    by_cases b : c.val < 576
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 576 = c.val % 64
    omega
  · refine (dif_neg a).trans ?_
    refine Eq.trans ?_ (if_neg (by omega)).symm
    exact z0_eq

theorem padQ10_at (x : FVec Ideal S512x64 .f32) (i : Fin 512) (c : Fin 1024) :
    padQ10 x (ix2 i c) = if c.val / 64 = 10 then x (ix2 i ⟨c.val % 64, by omega⟩) else (0 : EReal) := by
  have hc := c.isLt
  pointwise [padQ10, zr]
  by_cases a : c.val < 704
  · refine (dif_pos a).trans ?_
    by_cases b : c.val < 640
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 640 = c.val % 64
    omega
  · refine (dif_neg a).trans ?_
    refine Eq.trans ?_ (if_neg (by omega)).symm
    exact z0_eq

theorem padQ11_at (x : FVec Ideal S512x64 .f32) (i : Fin 512) (c : Fin 1024) :
    padQ11 x (ix2 i c) = if c.val / 64 = 11 then x (ix2 i ⟨c.val % 64, by omega⟩) else (0 : EReal) := by
  have hc := c.isLt
  pointwise [padQ11, zr]
  by_cases a : c.val < 768
  · refine (dif_pos a).trans ?_
    by_cases b : c.val < 704
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 704 = c.val % 64
    omega
  · refine (dif_neg a).trans ?_
    refine Eq.trans ?_ (if_neg (by omega)).symm
    exact z0_eq

theorem padQ12_at (x : FVec Ideal S512x64 .f32) (i : Fin 512) (c : Fin 1024) :
    padQ12 x (ix2 i c) = if c.val / 64 = 12 then x (ix2 i ⟨c.val % 64, by omega⟩) else (0 : EReal) := by
  have hc := c.isLt
  pointwise [padQ12, zr]
  by_cases a : c.val < 832
  · refine (dif_pos a).trans ?_
    by_cases b : c.val < 768
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 768 = c.val % 64
    omega
  · refine (dif_neg a).trans ?_
    refine Eq.trans ?_ (if_neg (by omega)).symm
    exact z0_eq

theorem padQ13_at (x : FVec Ideal S512x64 .f32) (i : Fin 512) (c : Fin 1024) :
    padQ13 x (ix2 i c) = if c.val / 64 = 13 then x (ix2 i ⟨c.val % 64, by omega⟩) else (0 : EReal) := by
  have hc := c.isLt
  pointwise [padQ13, zr]
  by_cases a : c.val < 896
  · refine (dif_pos a).trans ?_
    by_cases b : c.val < 832
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 832 = c.val % 64
    omega
  · refine (dif_neg a).trans ?_
    refine Eq.trans ?_ (if_neg (by omega)).symm
    exact z0_eq

theorem padQ14_at (x : FVec Ideal S512x64 .f32) (i : Fin 512) (c : Fin 1024) :
    padQ14 x (ix2 i c) = if c.val / 64 = 14 then x (ix2 i ⟨c.val % 64, by omega⟩) else (0 : EReal) := by
  have hc := c.isLt
  pointwise [padQ14, zr]
  by_cases a : c.val < 960
  · refine (dif_pos a).trans ?_
    by_cases b : c.val < 896
    · refine (dif_pos b).trans ?_
      refine Eq.trans ?_ (if_neg (by omega)).symm
      exact z0_eq
    refine (dif_neg b).trans ?_
    refine Eq.trans ?_ (if_pos (by omega)).symm
    refine congrArg x (congrArg (ix2 i) (Fin.ext ?_))
    show c.val - 896 = c.val % 64
    omega
  · refine (dif_neg a).trans ?_
    refine Eq.trans ?_ (if_neg (by omega)).symm
    exact z0_eq

theorem padQ15_at (x : FVec Ideal S512x64 .f32) (i : Fin 512) (c : Fin 1024) :
    padQ15 x (ix2 i c) = if c.val / 64 = 15 then x (ix2 i ⟨c.val % 64, by omega⟩) else (0 : EReal) := by
  have hc := c.isLt
  pointwise [padQ15, zr]
  by_cases a : c.val < 960
  · refine (dif_pos a).trans ?_
    refine Eq.trans ?_ (if_neg (by omega)).symm
    exact z0_eq
  · refine (dif_neg a).trans ?_
    refine Eq.trans ?_ (if_pos (by omega)).symm
    refine congrArg x (congrArg (ix2 i) (Fin.ext ?_))
    show c.val - 960 = c.val % 64
    omega

set_option maxHeartbeats 4000000 in
theorem asmK_at (f : Fin 4 → Fin 4 → FVec Ideal S128x64 .f32) (i : Fin 512) (c : Fin 256) :
    asmK (f 0) (f 1) (f 2) (f 3) (ix2 i c) = f ⟨i.val / 128, by omega⟩ ⟨c.val / 64, by omega⟩ (ix2 ⟨i.val % 128, by omega⟩ ⟨c.val % 64, by omega⟩) := by
  pointwise [asmK]
  simp only [padK0_at, padK1_at, padK2_at, padK3_at, padR0_at, padR1_at, padR2_at, padR3_at]
  have hi := i.isLt
  have hc := c.isLt
  obtain ⟨a, ha⟩ : ∃ a : Fin 4, i.val / 128 = a.val := ⟨⟨i.val / 128, by omega⟩, rfl⟩
  obtain ⟨b, hb⟩ : ∃ b : Fin 4, c.val / 64 = b.val := ⟨⟨c.val / 64, by omega⟩, rfl⟩
  have e1 : (⟨i.val / 128, by omega⟩ : Fin 4) = a := Fin.ext ha
  have e2 : (⟨c.val / 64, by omega⟩ : Fin 4) = b := Fin.ext hb
  rw [e1, e2]
  simp only [ha, hb]
  clear e1 e2 ha hb
  rcases (by omega : a.val = 0 ∨ a.val = 1 ∨ a.val = 2 ∨ a.val = 3) with hA | hA | hA | hA <;>
  rcases (by omega : b.val = 0 ∨ b.val = 1 ∨ b.val = 2 ∨ b.val = 3) with hB | hB | hB | hB <;>
  simp only [hA, hB, Nat.reduceEqDiff, OfNat.ofNat_ne_zero, OfNat.zero_ne_ofNat, OfNat.ofNat_ne_one, OfNat.one_ne_ofNat, one_ne_zero, zero_ne_one, if_true, if_false, zero_add, add_zero]
  · rw [show a = 0 from Fin.ext hA, show b = 0 from Fin.ext hB]
  · rw [show a = 0 from Fin.ext hA, show b = 1 from Fin.ext hB]
  · rw [show a = 0 from Fin.ext hA, show b = 2 from Fin.ext hB]
  · rw [show a = 0 from Fin.ext hA, show b = 3 from Fin.ext hB]
  · rw [show a = 1 from Fin.ext hA, show b = 0 from Fin.ext hB]
  · rw [show a = 1 from Fin.ext hA, show b = 1 from Fin.ext hB]
  · rw [show a = 1 from Fin.ext hA, show b = 2 from Fin.ext hB]
  · rw [show a = 1 from Fin.ext hA, show b = 3 from Fin.ext hB]
  · rw [show a = 2 from Fin.ext hA, show b = 0 from Fin.ext hB]
  · rw [show a = 2 from Fin.ext hA, show b = 1 from Fin.ext hB]
  · rw [show a = 2 from Fin.ext hA, show b = 2 from Fin.ext hB]
  · rw [show a = 2 from Fin.ext hA, show b = 3 from Fin.ext hB]
  · rw [show a = 3 from Fin.ext hA, show b = 0 from Fin.ext hB]
  · rw [show a = 3 from Fin.ext hA, show b = 1 from Fin.ext hB]
  · rw [show a = 3 from Fin.ext hA, show b = 2 from Fin.ext hB]
  · rw [show a = 3 from Fin.ext hA, show b = 3 from Fin.ext hB]

set_option maxHeartbeats 4000000 in
theorem asmQ_at (f : Fin 4 → Fin 16 → FVec Ideal S128x64 .f32) (i : Fin 512) (c : Fin 1024) :
    asmQ (f 0) (f 1) (f 2) (f 3) (ix2 i c) = f ⟨i.val / 128, by omega⟩ ⟨c.val / 64, by omega⟩ (ix2 ⟨i.val % 128, by omega⟩ ⟨c.val % 64, by omega⟩) := by
  pointwise [asmQ]
  simp only [padQ0_at, padQ1_at, padQ2_at, padQ3_at, padQ4_at, padQ5_at, padQ6_at, padQ7_at, padQ8_at, padQ9_at, padQ10_at, padQ11_at, padQ12_at, padQ13_at, padQ14_at, padQ15_at, padR0_at, padR1_at, padR2_at, padR3_at]
  have hi := i.isLt
  have hc := c.isLt
  obtain ⟨a, ha⟩ : ∃ a : Fin 4, i.val / 128 = a.val := ⟨⟨i.val / 128, by omega⟩, rfl⟩
  obtain ⟨b, hb⟩ : ∃ b : Fin 16, c.val / 64 = b.val := ⟨⟨c.val / 64, by omega⟩, rfl⟩
  have e1 : (⟨i.val / 128, by omega⟩ : Fin 4) = a := Fin.ext ha
  have e2 : (⟨c.val / 64, by omega⟩ : Fin 16) = b := Fin.ext hb
  rw [e1, e2]
  simp only [ha, hb]
  clear e1 e2 ha hb
  rcases (by omega : a.val = 0 ∨ a.val = 1 ∨ a.val = 2 ∨ a.val = 3) with hA | hA | hA | hA <;>
  rcases (by omega : b.val = 0 ∨ b.val = 1 ∨ b.val = 2 ∨ b.val = 3 ∨ b.val = 4 ∨ b.val = 5 ∨ b.val = 6 ∨ b.val = 7 ∨ b.val = 8 ∨ b.val = 9 ∨ b.val = 10 ∨ b.val = 11 ∨ b.val = 12 ∨ b.val = 13 ∨ b.val = 14 ∨ b.val = 15) with hB | hB | hB | hB | hB | hB | hB | hB | hB | hB | hB | hB | hB | hB | hB | hB <;>
  simp only [hA, hB, Nat.reduceEqDiff, OfNat.ofNat_ne_zero, OfNat.zero_ne_ofNat, OfNat.ofNat_ne_one, OfNat.one_ne_ofNat, one_ne_zero, zero_ne_one, if_true, if_false, zero_add, add_zero]
  · rw [show a = 0 from Fin.ext hA, show b = 0 from Fin.ext hB]
  · rw [show a = 0 from Fin.ext hA, show b = 1 from Fin.ext hB]
  · rw [show a = 0 from Fin.ext hA, show b = 2 from Fin.ext hB]
  · rw [show a = 0 from Fin.ext hA, show b = 3 from Fin.ext hB]
  · rw [show a = 0 from Fin.ext hA, show b = 4 from Fin.ext hB]
  · rw [show a = 0 from Fin.ext hA, show b = 5 from Fin.ext hB]
  · rw [show a = 0 from Fin.ext hA, show b = 6 from Fin.ext hB]
  · rw [show a = 0 from Fin.ext hA, show b = 7 from Fin.ext hB]
  · rw [show a = 0 from Fin.ext hA, show b = 8 from Fin.ext hB]
  · rw [show a = 0 from Fin.ext hA, show b = 9 from Fin.ext hB]
  · rw [show a = 0 from Fin.ext hA, show b = 10 from Fin.ext hB]
  · rw [show a = 0 from Fin.ext hA, show b = 11 from Fin.ext hB]
  · rw [show a = 0 from Fin.ext hA, show b = 12 from Fin.ext hB]
  · rw [show a = 0 from Fin.ext hA, show b = 13 from Fin.ext hB]
  · rw [show a = 0 from Fin.ext hA, show b = 14 from Fin.ext hB]
  · rw [show a = 0 from Fin.ext hA, show b = 15 from Fin.ext hB]
  · rw [show a = 1 from Fin.ext hA, show b = 0 from Fin.ext hB]
  · rw [show a = 1 from Fin.ext hA, show b = 1 from Fin.ext hB]
  · rw [show a = 1 from Fin.ext hA, show b = 2 from Fin.ext hB]
  · rw [show a = 1 from Fin.ext hA, show b = 3 from Fin.ext hB]
  · rw [show a = 1 from Fin.ext hA, show b = 4 from Fin.ext hB]
  · rw [show a = 1 from Fin.ext hA, show b = 5 from Fin.ext hB]
  · rw [show a = 1 from Fin.ext hA, show b = 6 from Fin.ext hB]
  · rw [show a = 1 from Fin.ext hA, show b = 7 from Fin.ext hB]
  · rw [show a = 1 from Fin.ext hA, show b = 8 from Fin.ext hB]
  · rw [show a = 1 from Fin.ext hA, show b = 9 from Fin.ext hB]
  · rw [show a = 1 from Fin.ext hA, show b = 10 from Fin.ext hB]
  · rw [show a = 1 from Fin.ext hA, show b = 11 from Fin.ext hB]
  · rw [show a = 1 from Fin.ext hA, show b = 12 from Fin.ext hB]
  · rw [show a = 1 from Fin.ext hA, show b = 13 from Fin.ext hB]
  · rw [show a = 1 from Fin.ext hA, show b = 14 from Fin.ext hB]
  · rw [show a = 1 from Fin.ext hA, show b = 15 from Fin.ext hB]
  · rw [show a = 2 from Fin.ext hA, show b = 0 from Fin.ext hB]
  · rw [show a = 2 from Fin.ext hA, show b = 1 from Fin.ext hB]
  · rw [show a = 2 from Fin.ext hA, show b = 2 from Fin.ext hB]
  · rw [show a = 2 from Fin.ext hA, show b = 3 from Fin.ext hB]
  · rw [show a = 2 from Fin.ext hA, show b = 4 from Fin.ext hB]
  · rw [show a = 2 from Fin.ext hA, show b = 5 from Fin.ext hB]
  · rw [show a = 2 from Fin.ext hA, show b = 6 from Fin.ext hB]
  · rw [show a = 2 from Fin.ext hA, show b = 7 from Fin.ext hB]
  · rw [show a = 2 from Fin.ext hA, show b = 8 from Fin.ext hB]
  · rw [show a = 2 from Fin.ext hA, show b = 9 from Fin.ext hB]
  · rw [show a = 2 from Fin.ext hA, show b = 10 from Fin.ext hB]
  · rw [show a = 2 from Fin.ext hA, show b = 11 from Fin.ext hB]
  · rw [show a = 2 from Fin.ext hA, show b = 12 from Fin.ext hB]
  · rw [show a = 2 from Fin.ext hA, show b = 13 from Fin.ext hB]
  · rw [show a = 2 from Fin.ext hA, show b = 14 from Fin.ext hB]
  · rw [show a = 2 from Fin.ext hA, show b = 15 from Fin.ext hB]
  · rw [show a = 3 from Fin.ext hA, show b = 0 from Fin.ext hB]
  · rw [show a = 3 from Fin.ext hA, show b = 1 from Fin.ext hB]
  · rw [show a = 3 from Fin.ext hA, show b = 2 from Fin.ext hB]
  · rw [show a = 3 from Fin.ext hA, show b = 3 from Fin.ext hB]
  · rw [show a = 3 from Fin.ext hA, show b = 4 from Fin.ext hB]
  · rw [show a = 3 from Fin.ext hA, show b = 5 from Fin.ext hB]
  · rw [show a = 3 from Fin.ext hA, show b = 6 from Fin.ext hB]
  · rw [show a = 3 from Fin.ext hA, show b = 7 from Fin.ext hB]
  · rw [show a = 3 from Fin.ext hA, show b = 8 from Fin.ext hB]
  · rw [show a = 3 from Fin.ext hA, show b = 9 from Fin.ext hB]
  · rw [show a = 3 from Fin.ext hA, show b = 10 from Fin.ext hB]
  · rw [show a = 3 from Fin.ext hA, show b = 11 from Fin.ext hB]
  · rw [show a = 3 from Fin.ext hA, show b = 12 from Fin.ext hB]
  · rw [show a = 3 from Fin.ext hA, show b = 13 from Fin.ext hB]
  · rw [show a = 3 from Fin.ext hA, show b = 14 from Fin.ext hB]
  · rw [show a = 3 from Fin.ext hA, show b = 15 from Fin.ext hB]

end Cert.KernelIdeal.Swa
-- ==== Proof.Spec.lean ====
/- The derivative of the attention over the real numbers, from the projected rows, the biases, the sinks and
   the gradient that comes in. Rows are numbered `0 .. 4095`, blocks of `128` rows `0 .. 31`, query heads
   `0 .. 15`, key heads `0 .. 3`, the coordinates of a head `0 .. 63`. -/
module

public import proofs.«01_k».proof.Proof.Row
public import Mathlib.Analysis.SpecialFunctions.Pow.Real
public import Mathlib.Analysis.SpecialFunctions.Trigonometric.Basic

@[expose] public section

noncomputable section

namespace Swa

structure Dat where
  X : ℕ → ℕ → ℝ
  B : ℕ → ℝ
  Sk : ℕ → ℝ
  DO : ℕ → ℕ → ℝ

/-- The angle of pair `l` at row `r`. -/
def ang (r l : ℕ) : ℝ := (r : ℝ) * (500000 : ℝ) ^ (-(l : ℝ) / 8)
/-- The tables of the rotation, `1` and `0` past the coordinates it turns. -/
def cs (r d : ℕ) : ℝ := if d < 16 then Real.cos (ang r (d % 8)) else 1
def sn (r d : ℕ) : ℝ := if d < 16 then Real.sin (ang r (d % 8)) else 0
def rot (x : ℕ → ℝ) (d : ℕ) : ℝ := if d < 8 then -x (d + 8) else if d < 16 then x (d - 8) else 0
/-- A head turned by its row's angles, and the transpose of that. -/
def turn (r : ℕ) (x : ℕ → ℝ) (d : ℕ) : ℝ := x d * cs r d + rot x d * sn r d
def turnT (r : ℕ) (y : ℕ → ℝ) (d : ℕ) : ℝ := -rot (fun e => y e * sn r e) d + y d * cs r d
/-- Key `t` of the two blocks that block `n` sees. -/
def two (f : ℕ → ℝ) (n t : ℕ) : ℝ :=
  if t < 128 then (if n = 0 then 0 else f (128 * (n - 1) + t)) else f (128 * n + (t - 128))

namespace Dat

variable (D : Dat)

def Q (r h d : ℕ) : ℝ := turn r (fun e => D.X r (1024 + (64 * h + e)) + D.B (64 * h + e)) d * (1 / 8)
def K (r g d : ℕ) : ℝ := turn r (fun e => D.X r (2048 + (64 * g + e)) + D.B (1024 + (64 * g + e))) d
def V (r g d : ℕ) : ℝ := D.X r (2304 + (64 * g + d)) + D.B (1280 + (64 * g + d))
def band (n q t : ℕ) : Bool := (decide (t ≤ q + 128) && decide (q < t)) && (decide (0 < n) || decide (128 ≤ t))
/-- Row `q` of block `n`, query head `h`. -/
def row (n h q : ℕ) : Row where
  ok := band n q
  q d := D.Q (128 * n + q) h d
  o d := D.DO (128 * n + q) (64 * h + d)
  k t d := two (fun r => D.K r (h / 4) d) n t
  v t d := two (fun r => D.V r (h / 4) d) n t
  sk := D.Sk h

/-- The gradient of the turned queries, and the shares block `n` gives to the keys and values it sees. -/
def dq0 (n h q d : ℕ) : ℝ := ∑ t : Fin 256, (D.row n h q).dS t * (D.row n h q).k t d
def dkB (n g t d : ℕ) : ℝ := ∑ a : Fin 4, ∑ q : Fin 128, (D.row n (4 * g + a) q).dS t * (D.row n (4 * g + a) q).q d
def dvB (n g t d : ℕ) : ℝ := ∑ a : Fin 4, ∑ q : Fin 128,
  (D.row n (4 * g + a) q).P t * ((D.row n (4 * g + a) q).o d / (D.row n (4 * g + a) q).D)
/-- A row's share as a key of its own block and of the block after. -/
def fold2 (f : ℕ → ℕ → ℝ) (r : ℕ) : ℝ := (if r / 128 < 31 then f (r / 128 + 1) (r % 128) else 0) + f (r / 128) (128 + r % 128)
def dkR (r g d : ℕ) : ℝ := fold2 (fun n t => D.dkB n g t d) r
/-- The seven results. -/
def dQ (r c : ℕ) : ℝ := turnT r (fun e => D.dq0 (r / 128) (c / 64) (r % 128) e * (1 / 8)) (c % 64)
def dK (r c : ℕ) : ℝ := turnT r (fun e => D.dkR r (c / 64) e) (c % 64)
def dV (r c : ℕ) : ℝ := fold2 (fun n t => D.dvB n (c / 64) t (c % 64)) r
def dBq (c : ℕ) : ℝ := ∑ r : Fin 4096, D.dQ r c
def dBk (c : ℕ) : ℝ := ∑ r : Fin 4096, D.dK r c
def dBv (c : ℕ) : ℝ := ∑ r : Fin 4096, D.dV r c
def dSk (h : ℕ) : ℝ := ∑ n : Fin 32, ∑ q : Fin 128, (D.row n h q).W * (D.row n h q).E

end Dat

/-- `n * m` summands taken `m` at a time. -/
theorem sum_split {M : Type*} [AddCommMonoid M] (n m N : ℕ) (h : N = n * m) (f : ℕ → M) :
    ∑ i : Fin N, f i = ∑ a : Fin n, ∑ q : Fin m, f (m * a + q) := by
  subst h
  rw [← Equiv.sum_comp finProdFinEquiv, Fintype.sum_prod_type]
  refine Finset.sum_congr rfl fun a _ => Finset.sum_congr rfl fun q _ => ?_
  rw [finProdFinEquiv_apply_val, add_comm]

end Swa
-- ==== Proof.Point.lean ====
/- A grid point of the kernel over the extended reals: what it stores out of blocks of real numbers. -/
module

public import proofs.«01_k».proof.Proof.Turn
public import proofs.«01_k».proof.Proof.Pads
public import proofs.«01_k».proof.Proof.Unit
public import proofs.«01_k».proof.Proof.Spec
public import Idealize.ShloMosaic.Lib.Tactic.WordOmega

@[expose] public section

set_option maxRecDepth 16384

noncomputable section

namespace Cert.KernelIdeal.Swa

open Idealize.ShloMosaic Cert.KernelIdeal Cert.KernelIdeal.Gen
open _root_.Swa (Row sum_coe Dat cs sn rot turn turnT two sum_split)

/-- The point reads block `b` of this data (rows `512 b ..`), the keys and values before it, and the sums
    the point before it left: none at the last block. -/
structure Reads (a : In Ideal) (D : Dat) (b : ℕ) : Prop where
  lt : b < 8
  q : ∀ (i : Fin 512) (c : Fin 1024), a.q (ix2 i c) = ((D.X (512 * b + i) (1024 + c) : ℝ) : EReal)
  k : ∀ (i : Fin 512) (c : Fin 256), a.k (ix2 i c) = ((D.X (512 * b + i) (2048 + c) : ℝ) : EReal)
  v : ∀ (i : Fin 512) (c : Fin 256), a.v (ix2 i c) = ((D.X (512 * b + i) (2304 + c) : ℝ) : EReal)
  cos : ∀ (i : Fin 512) (l : Fin 128), a.cos (ix2 i l) = ((cs (512 * b + i) (l % 64) : ℝ) : EReal)
  sin : ∀ (i : Fin 512) (l : Fin 128), a.sin (ix2 i l) = ((sn (512 * b + i) (l % 64) : ℝ) : EReal)
  bq : ∀ c : Fin 1024, a.bq (ix2 0 c) = ((D.B c : ℝ) : EReal)
  bk : ∀ c : Fin 256, a.bk (ix2 0 c) = ((D.B (1024 + c) : ℝ) : EReal)
  bv : ∀ c : Fin 256, a.bv (ix2 0 c) = ((D.B (1280 + c) : ℝ) : EReal)
  sk : ∀ h : Fin 16, a.sk h (ix2 0 0) = ((D.Sk h : ℝ) : EReal)
  kp : ∀ (g : Fin 4) (t : Fin 128) (d : Fin 64), a.kp g (ix2 t d) = ((two (fun r => D.K r g d) (4 * b) t : ℝ) : EReal)
  vp : ∀ (g : Fin 4) (t : Fin 128) (d : Fin 64), a.vp g (ix2 t d) = ((two (fun r => D.V r g d) (4 * b) t : ℝ) : EReal)
  dkc : ∀ (g : Fin 4) (t : Fin 128) (d : Fin 64), a.dkc g (ix2 t d) = ((if b = 7 then 0 else D.dkB (4 * (b + 1)) g t d : ℝ) : EReal)
  dvc : ∀ (g : Fin 4) (t : Fin 128) (d : Fin 64), a.dvc g (ix2 t d) = ((if b = 7 then 0 else D.dvB (4 * (b + 1)) g t d : ℝ) : EReal)
  dh : ∀ (h : Fin 16) (i : Fin 512) (d : Fin 64), a.dh h (ix2 i d) = ((D.DO (512 * b + i) (64 * h + d) : ℝ) : EReal)
  nf : a.nf = if b = 0 then 0#1 else 1#1

variable {a : In Ideal} {D : Dat} {b : ℕ} (H : Reads a D b)

theorem rotAt_coe {n : ℕ} (hn : 0 < n) (h64 : n % 64 = 0) (f : Fin n → EReal) (x : ℕ → ℝ) (c : Fin n) (h : ℕ) (hc : c.val / 64 = h)
    (e : ∀ (d : ℕ) (hd : 64 * h + d < n), d < 64 → f ⟨64 * h + d, hd⟩ = ((x d : ℝ) : EReal)) :
    rotAt hn f c = ((rot x (c.val % 64) : ℝ) : EReal) := by
  have hcn := c.isLt
  have hdiv : 64 * h + c.val % 64 = c.val := by omega
  have hb : 64 * h + 64 ≤ n := by omega
  unfold rotAt rot
  split_ifs with h1 h2
  · have : (⟨(c.val + 8) % n, Nat.mod_lt _ hn⟩ : Fin n) = ⟨64 * h + (c.val % 64 + 8), by omega⟩ := by
      refine Fin.ext ?_
      show (c.val + 8) % n = 64 * h + (c.val % 64 + 8)
      rw [Nat.mod_eq_of_lt (by omega)]; omega
    rw [this, e _ _ (by omega), ← EReal.coe_zero, ← EReal.coe_sub, zero_sub]
  · have : (⟨(c.val - 8) % n, Nat.mod_lt _ hn⟩ : Fin n) = ⟨64 * h + (c.val % 64 - 8), by omega⟩ := by
      refine Fin.ext ?_
      show (c.val - 8) % n = 64 * h + (c.val % 64 - 8)
      rw [Nat.mod_eq_of_lt (by omega)]; omega
    rw [this, e _ _ (by omega)]
  · exact EReal.coe_zero.symm

theorem eighth_eq : (eighth : Ideal .f32) = (((1 / 8 : ℝ)) : EReal) := by
  unfold eighth
  show Ideal.ofBits .f32 1040187392#32 = _
  simp [Ideal.ofBits, Ideal.ieee, -EReal.coe_mul]
  norm_num

theorem q2_at (j g : Fin 4) (i : Fin 512) (d : Fin 64) :
    q2 a j g (ix2 i d) = qa a (ix2 ⟨128 * j.val + i.val % 128, by omega⟩ ⟨64 * (4 * g.val + i.val / 128) + d.val, by omega⟩) := by
  have hi := i.isLt
  have hj := j.isLt
  pointwise [q2, rowB, colQ]
  by_cases h0 : i.val < 128
  · refine (dif_pos h0).trans ?_
    refine congrArg (qa a) (congrArg₂ ix2 (Fin.ext ?_) (Fin.ext ?_)) <;> simp [hd] <;> omega
  refine (dif_neg h0).trans ?_
  by_cases h1 : i.val - 128 < 128
  · refine (dif_pos h1).trans ?_
    refine congrArg (qa a) (congrArg₂ ix2 (Fin.ext ?_) (Fin.ext ?_)) <;> simp [hd] <;> omega
  refine (dif_neg h1).trans ?_
  by_cases h2 : i.val - 128 - 128 < 128
  · refine (dif_pos h2).trans ?_
    refine congrArg (qa a) (congrArg₂ ix2 (Fin.ext ?_) (Fin.ext ?_)) <;> simp [hd] <;> omega
  refine (dif_neg h2).trans ?_
  refine congrArg (qa a) (congrArg₂ ix2 (Fin.ext ?_) (Fin.ext ?_)) <;> simp [hd] <;> omega

theorem sinkCol_at (g : Fin 4) (i : Fin 512) :
    sinkCol a g (ix2 i 0) = a.sk ⟨4 * g.val + i.val / 128, by omega⟩ (ix2 0 0) := by
  have hi := i.isLt
  pointwise [sinkCol, snk]
  by_cases h0 : i.val < 128
  · refine (dif_pos h0).trans ?_
    refine congrArg (fun h => a.sk h (ix2 0 0)) (Fin.ext ?_) <;> simp [hd] <;> omega
  refine (dif_neg h0).trans ?_
  by_cases h1 : i.val - 128 < 128
  · refine (dif_pos h1).trans ?_
    refine congrArg (fun h => a.sk h (ix2 0 0)) (Fin.ext ?_) <;> simp [hd] <;> omega
  refine (dif_neg h1).trans ?_
  by_cases h2 : i.val - 128 - 128 < 128
  · refine (dif_pos h2).trans ?_
    refine congrArg (fun h => a.sk h (ix2 0 0)) (Fin.ext ?_) <;> simp [hd] <;> omega
  refine (dif_neg h2).trans ?_
  refine congrArg (fun h => a.sk h (ix2 0 0)) (Fin.ext ?_) <;> simp [hd] <;> omega

theorem do2_at (j g : Fin 4) (i : Fin 512) (d : Fin 64) :
    do2 a j g (ix2 i d) = a.dh ⟨4 * g.val + i.val / 128, by omega⟩ (ix2 ⟨128 * j.val + i.val % 128, by omega⟩ d) := by
  have hi := i.isLt
  pointwise [do2, rowB]
  simp only [padR0_at, padR1_at, padR2_at, padR3_at]
  pointwise
  rcases (by omega : i.val / 128 = 0 ∨ i.val / 128 = 1 ∨ i.val / 128 = 2 ∨ i.val / 128 = 3) with h | h | h | h <;>
  simp only [h, Nat.reduceEqDiff, OfNat.ofNat_ne_zero, OfNat.zero_ne_ofNat, OfNat.ofNat_ne_one, OfNat.one_ne_ofNat, one_ne_zero, zero_ne_one, if_true, if_false, zero_add, add_zero] <;> rfl

theorem kB_at (j g : Fin 4) (t : Fin 128) (d : Fin 64) :
    kB a j g (ix2 t d) = ka a (ix2 ⟨128 * j.val + t.val, by omega⟩ ⟨64 * g.val + d.val, by omega⟩) := by
  pointwise [kB, rowB, colK]
theorem vB_at (j g : Fin 4) (t : Fin 128) (d : Fin 64) :
    vB a j g (ix2 t d) = va a (ix2 ⟨128 * j.val + t.val, by omega⟩ ⟨64 * g.val + d.val, by omega⟩) := by
  pointwise [vB, rowB, colK]

theorem row127 (i : Fin 512) : IntOp.andi (BitVec.ofNat 32 i.val) 127#32 = BitVec.ofNat 32 (i.val % 128) := by revert i; decide +kernel

/-- The band of a pair of blocks, and where it touches the block before. -/
theorem band_cur (r : Fin 128) (t : Fin 256) :
    IntOp.andi (IntOp.cmpi .sge (BitVec.ofNat 32 t.val) 128#32) (IntOp.cmpi .sge (BitVec.ofNat 32 r.val) (IntOp.subi (BitVec.ofNat 32 t.val) 128#32))
      = if 128 ≤ t.val ∧ t.val ≤ r.val + 128 then 1#1 else 0#1 := by revert r t; decide +kernel
theorem band_prev (r : Fin 128) (t : Fin 256) :
    IntOp.andi (IntOp.cmpi .slt (BitVec.ofNat 32 t.val) 128#32) (IntOp.cmpi .sgt (BitVec.ofNat 32 t.val) (BitVec.ofNat 32 r.val))
      = if t.val < 128 ∧ r.val < t.val then 1#1 else 0#1 := by revert r t; decide +kernel

theorem mask1_at (i : Fin 512) (t : Fin 256) :
    mask1 (ix2 i t) = if t.val ≤ i.val % 128 + 128 ∧ i.val % 128 < t.val then 1#1 else 0#1 := by
  have hi := i.isLt
  have ht := t.isLt
  pointwise [mask1, mCur, mPrev, mRow, mCol]
  rw [row127]
  have h1 := band_cur ⟨i.val % 128, by omega⟩ t
  have h2 := band_prev ⟨i.val % 128, by omega⟩ t
  simp only [] at h1 h2
  rw [h1, h2]
  split_ifs <;> first | rfl | omega

theorem mask0_at (nf : BitVec 1) (i : Fin 512) (t : Fin 256) :
    mask0 nf (ix2 i t) = if (t.val ≤ i.val % 128 + 128 ∧ i.val % 128 < t.val) ∧ (nf = 1#1 ∨ 128 ≤ t.val) then 1#1 else 0#1 := by
  have hi := i.isLt
  have ht := t.isLt
  pointwise [mask0, mCur, mPrev, mRow, mCol]
  rw [row127]
  have h1 := band_cur ⟨i.val % 128, by omega⟩ t
  have h2 := band_prev ⟨i.val % 128, by omega⟩ t
  simp only [] at h1 h2
  rw [h1, h2]
  rcases (by revert nf; decide : nf = 0#1 ∨ nf = 1#1) with rfl | rfl
  · have e : ((0#1 : BitVec 1) = 1#1) = False := by simp
    simp only [e, false_or]
    split_ifs <;> first | rfl | omega
  · simp only [true_or, and_true]
    split_ifs <;> first | rfl | omega

include H

theorem qa_at (i : Fin 512) (c : Fin 1024) : qa a (ix2 i c) = ((D.Q (512 * b + i) (c / 64) (c % 64) : ℝ) : EReal) := by
  have hc := c.isLt
  have e1 : 64 * (c.val / 64) + c.val % 64 = c.val := by omega
  have e2 : c.val % 128 % 64 = c.val % 64 := by omega
  pointwise [qa]
  simp only [rot8_at, rep8_at]
  rw [rotAt_coe (by decide) (by decide) _ (fun e => D.X (512 * b + i) (1024 + (64 * (c / 64) + e)) + D.B (64 * (c / 64) + e)) c _ rfl
    (fun d hd _ => by pointwise; rw [H.q, H.bq, ← EReal.coe_add]), H.q, H.bq, H.cos, H.sin, eighth_eq]
  simp only [← EReal.coe_add, ← EReal.coe_mul]
  unfold Dat.Q turn
  simp only [e1, e2]

theorem ka_at (i : Fin 512) (c : Fin 256) : ka a (ix2 i c) = ((D.K (512 * b + i) (c / 64) (c % 64) : ℝ) : EReal) := by
  have hc := c.isLt
  have e1 : 64 * (c.val / 64) + c.val % 64 = c.val := by omega
  have e2 : c.val % 128 % 64 = c.val % 64 := by omega
  pointwise [ka]
  simp only [rot2_at, rep2_at]
  rw [rotAt_coe (by decide) (by decide) _ (fun e => D.X (512 * b + i) (2048 + (64 * (c / 64) + e)) + D.B (1024 + (64 * (c / 64) + e))) c _ rfl
    (fun d hd _ => by pointwise; rw [H.k, H.bk, ← EReal.coe_add]), H.k, H.bk, H.cos, H.sin]
  simp only [← EReal.coe_add, ← EReal.coe_mul]
  unfold Dat.K turn
  simp only [e1, e2]

theorem va_at (i : Fin 512) (c : Fin 256) : va a (ix2 i c) = ((D.V (512 * b + i) (c / 64) (c % 64) : ℝ) : EReal) := by
  have hc := c.isLt
  have e1 : 64 * (c.val / 64) + c.val % 64 = c.val := by omega
  pointwise [va]
  rw [H.v, H.bv, ← EReal.coe_add]
  unfold Dat.V
  rw [e1]

/-- Rows of the unit `j` that belong to this data. -/
def rowsOf (D : Dat) (b j : ℕ) (g : Fin 4) (i : Fin 512) : Row := D.row (4 * b + j) (4 * g.val + i.val / 128) (i.val % 128)

theorem q2_coe (j g : Fin 4) (i : Fin 512) (d : Fin 64) : q2 a j g (ix2 i d) = (((rowsOf D b j g i).q d : ℝ) : EReal) := by
  have hd := d.isLt
  rw [q2_at, qa_at H]
  unfold rowsOf Dat.row
  simp only []
  congr 2 <;> omega

theorem do2_coe (j g : Fin 4) (i : Fin 512) (d : Fin 64) : do2 a j g (ix2 i d) = (((rowsOf D b j g i).o d : ℝ) : EReal) := by
  rw [do2_at, H.dh]
  unfold rowsOf Dat.row
  simp only []
  congr 2; omega

theorem sink_coe (j g : Fin 4) (i : Fin 512) : sinkCol a g (ix2 i 0) = (((rowsOf D b j g i).sk : ℝ) : EReal) := by
  rw [sinkCol_at, H.sk]; rfl

theorem kB_coe (j g : Fin 4) (t : Fin 128) (d : Fin 64) : kB a j g (ix2 t d) = ((D.K (128 * (4 * b + j) + t) g d : ℝ) : EReal) := by
  have hd := d.isLt
  rw [kB_at, ka_at H]
  congr 2 <;> simp only [] <;> omega
theorem vB_coe (j g : Fin 4) (t : Fin 128) (d : Fin 64) : vB a j g (ix2 t d) = ((D.V (128 * (4 * b + j) + t) g d : ℝ) : EReal) := by
  have hd := d.isLt
  rw [vB_at, va_at H]
  congr 2 <;> simp only [] <;> omega

omit H in
theorem pairK_two (x y : FVec Ideal S128x64 .f32) (f : ℕ → ℕ → ℝ) (n : ℕ)
    (hx : ∀ (t : Fin 128) (d : Fin 64), x (ix2 t d) = ((if n = 0 then 0 else f (128 * (n - 1) + t) d : ℝ) : EReal))
    (hy : ∀ (t : Fin 128) (d : Fin 64), y (ix2 t d) = ((f (128 * n + t) d : ℝ) : EReal)) (t : Fin 256) (d : Fin 64) :
    (pairK x y (ix2 t d) : Ideal .f32) = ((two (fun r => f r d) n t : ℝ) : EReal) := by
  have ht := t.isLt
  pointwise [pairK]
  unfold two
  by_cases h : t.val < 128
  · refine (dif_pos h).trans ?_
    rw [hx, if_pos h]
  · refine (dif_neg h).trans ?_
    rw [hy, if_neg h]

theorem un0_holds (g : Fin 4) : Holds (un0 a g) (rowsOf D b 0 g) where
  ok i t := by
    show mask0 a.nf (ix2 i t) = _
    rw [mask0_at, H.nf]
    unfold rowsOf Dat.row Dat.band
    simp only [Bool.and_eq_true, Bool.or_eq_true, decide_eq_true_eq]
    refine if_congr ?_ rfl rfl
    by_cases hb : b = 0
    · subst hb; simp
    · simp [hb]; omega
  q i d := q2_coe H 0 g i d
  o i d := do2_coe H 0 g i d
  sk i := sink_coe H 0 g i
  k i t d := by
    have hi := i.isLt
    have hg : (4 * g.val + i.val / 128) / 4 = g.val := by omega
    show (pairK _ _ (ix2 t d) : Ideal .f32) = ((two (fun r => D.K r ((4 * g.val + i.val / 128) / 4) d) (4 * b + 0) t : ℝ) : EReal)
    rw [hg]
    refine pairK_two _ _ (fun r d => D.K r g d) (4 * b) (fun t d => ?_) (fun t d => kB_coe H 0 g t d) t d
    rw [H.kp]; unfold two; rw [if_pos t.isLt]
  v i t d := by
    have hi := i.isLt
    have hg : (4 * g.val + i.val / 128) / 4 = g.val := by omega
    show (pairK _ _ (ix2 t d) : Ideal .f32) = ((two (fun r => D.V r ((4 * g.val + i.val / 128) / 4) d) (4 * b + 0) t : ℝ) : EReal)
    rw [hg]
    refine pairK_two _ _ (fun r d => D.V r g d) (4 * b) (fun t d => ?_) (fun t d => vB_coe H 0 g t d) t d
    rw [H.vp]; unfold two; rw [if_pos t.isLt]

theorem un1_holds (g : Fin 4) : Holds (un1 a g) (rowsOf D b 1 g) where
  ok i t := by
    show mask1 (ix2 i t) = _
    rw [mask1_at]
    unfold rowsOf Dat.row Dat.band
    simp only [Bool.and_eq_true, Bool.or_eq_true, decide_eq_true_eq]
    refine if_congr ?_ rfl rfl
    omega
  q i d := q2_coe H 1 g i d
  o i d := do2_coe H 1 g i d
  sk i := sink_coe H 1 g i
  k i t d := by
    have hi := i.isLt
    have hg : (4 * g.val + i.val / 128) / 4 = g.val := by omega
    show (pairK _ _ (ix2 t d) : Ideal .f32) = ((two (fun r => D.K r ((4 * g.val + i.val / 128) / 4) d) (4 * b + 1) t : ℝ) : EReal)
    rw [hg]
    refine pairK_two _ _ (fun r d => D.K r g d) (4 * b + 1) (fun t d => ?_) (fun t d => kB_coe H 1 g t d) t d
    rw [if_neg (by omega)]; exact kB_coe H 0 g t d
  v i t d := by
    have hi := i.isLt
    have hg : (4 * g.val + i.val / 128) / 4 = g.val := by omega
    show (pairK _ _ (ix2 t d) : Ideal .f32) = ((two (fun r => D.V r ((4 * g.val + i.val / 128) / 4) d) (4 * b + 1) t : ℝ) : EReal)
    rw [hg]
    refine pairK_two _ _ (fun r d => D.V r g d) (4 * b + 1) (fun t d => ?_) (fun t d => vB_coe H 1 g t d) t d
    rw [if_neg (by omega)]; exact vB_coe H 0 g t d

theorem un2_holds (g : Fin 4) : Holds (un2 a g) (rowsOf D b 2 g) where
  ok i t := by
    show mask1 (ix2 i t) = _
    rw [mask1_at]
    unfold rowsOf Dat.row Dat.band
    simp only [Bool.and_eq_true, Bool.or_eq_true, decide_eq_true_eq]
    refine if_congr ?_ rfl rfl
    omega
  q i d := q2_coe H 2 g i d
  o i d := do2_coe H 2 g i d
  sk i := sink_coe H 2 g i
  k i t d := by
    have hi := i.isLt
    have hg : (4 * g.val + i.val / 128) / 4 = g.val := by omega
    show (pairK _ _ (ix2 t d) : Ideal .f32) = ((two (fun r => D.K r ((4 * g.val + i.val / 128) / 4) d) (4 * b + 2) t : ℝ) : EReal)
    rw [hg]
    refine pairK_two _ _ (fun r d => D.K r g d) (4 * b + 2) (fun t d => ?_) (fun t d => kB_coe H 2 g t d) t d
    rw [if_neg (by omega)]; exact kB_coe H 1 g t d
  v i t d := by
    have hi := i.isLt
    have hg : (4 * g.val + i.val / 128) / 4 = g.val := by omega
    show (pairK _ _ (ix2 t d) : Ideal .f32) = ((two (fun r => D.V r ((4 * g.val + i.val / 128) / 4) d) (4 * b + 2) t : ℝ) : EReal)
    rw [hg]
    refine pairK_two _ _ (fun r d => D.V r g d) (4 * b + 2) (fun t d => ?_) (fun t d => vB_coe H 2 g t d) t d
    rw [if_neg (by omega)]; exact vB_coe H 1 g t d

theorem un3_holds (g : Fin 4) : Holds (un3 a g) (rowsOf D b 3 g) where
  ok i t := by
    show mask1 (ix2 i t) = _
    rw [mask1_at]
    unfold rowsOf Dat.row Dat.band
    simp only [Bool.and_eq_true, Bool.or_eq_true, decide_eq_true_eq]
    refine if_congr ?_ rfl rfl
    omega
  q i d := q2_coe H 3 g i d
  o i d := do2_coe H 3 g i d
  sk i := sink_coe H 3 g i
  k i t d := by
    have hi := i.isLt
    have hg : (4 * g.val + i.val / 128) / 4 = g.val := by omega
    show (pairK _ _ (ix2 t d) : Ideal .f32) = ((two (fun r => D.K r ((4 * g.val + i.val / 128) / 4) d) (4 * b + 3) t : ℝ) : EReal)
    rw [hg]
    refine pairK_two _ _ (fun r d => D.K r g d) (4 * b + 3) (fun t d => ?_) (fun t d => kB_coe H 3 g t d) t d
    rw [if_neg (by omega)]; exact kB_coe H 2 g t d
  v i t d := by
    have hi := i.isLt
    have hg : (4 * g.val + i.val / 128) / 4 = g.val := by omega
    show (pairK _ _ (ix2 t d) : Ideal .f32) = ((two (fun r => D.V r ((4 * g.val + i.val / 128) / 4) d) (4 * b + 3) t : ℝ) : EReal)
    rw [hg]
    refine pairK_two _ _ (fun r d => D.V r g d) (4 * b + 3) (fun t d => ?_) (fun t d => vB_coe H 3 g t d) t d
    rw [if_neg (by omega)]; exact vB_coe H 2 g t d

end Cert.KernelIdeal.Swa
-- ==== Proof.Store.lean ====
/- What a grid point stores, out of the block of data it reads: the three gradients of its rows, its share of
   the sums over the rows, and what it hands to the point after. -/
module

public import proofs.«01_k».proof.Proof.Point

@[expose] public section

set_option maxRecDepth 16384

noncomputable section

namespace Cert.KernelIdeal.Swa

open Idealize.ShloMosaic Cert.KernelIdeal Cert.KernelIdeal.Gen
open _root_.Swa (Row sum_coe coe_sum Dat cs sn rot turn turnT two sum_split)

variable {a : In Ideal} {D : Dat} {b : ℕ} (H : Reads a D b)

theorem rows_sum (D : Dat) (b j : ℕ) (g : Fin 4) (f : Row → ℝ) :
    ∑ i : Fin 512, f (rowsOf D b j g i) = ∑ a : Fin 4, ∑ q : Fin 128, f (D.row (4 * b + j) (4 * g + a) q) := by
  refine (sum_split 4 128 512 rfl (fun n => f (D.row (4 * b + j) (4 * g.val + n / 128) (n % 128)))).trans ?_
  refine Finset.sum_congr rfl fun a _ => Finset.sum_congr rfl fun q _ => ?_
  have hq := q.isLt
  have e1 : (128 * a.val + q.val) / 128 = a.val := by omega
  have e2 : (128 * a.val + q.val) % 128 = q.val := by omega
  rw [e1, e2]

theorem lo_at (x : FVec Ideal S256x64 .f32) (t : Fin 128) (d : Fin 64) : (lo x (ix2 t d) : Ideal .f32) = x (ix2 ⟨t.val, by omega⟩ d) := by
  pointwise [lo]
theorem hi_at (x : FVec Ideal S256x64 .f32) (t : Fin 128) (d : Fin 64) : (hi x (ix2 t d) : Ideal .f32) = x (ix2 ⟨128 + t.val, by omega⟩ d) := by
  pointwise [hi]

theorem dkB_of {u : Un Ideal} {j : ℕ} {g : Fin 4} (h : Holds u (rowsOf D b j g)) (t : Fin 256) (d : Fin 64) :
    u.dk (ix2 t d) = ((D.dkB (4 * b + j) g t d : ℝ) : EReal) := by
  rw [dk_at h, rows_sum D b j g (fun r => r.dS t * r.q d)]; rfl
theorem dvB_of {u : Un Ideal} {j : ℕ} {g : Fin 4} (h : Holds u (rowsOf D b j g)) (t : Fin 256) (d : Fin 64) :
    u.dv (ix2 t d) = ((D.dvB (4 * b + j) g t d : ℝ) : EReal) := by
  rw [dv_at h, rows_sum D b j g (fun r => r.P t * (r.o d / r.D))]; rfl

include H

/-- What the point hands on. -/
theorem lo_dk (g : Fin 4) (t : Fin 128) (d : Fin 64) : (lo (un0 a g).dk (ix2 t d) : Ideal .f32) = ((D.dkB (4 * b) g t d : ℝ) : EReal) := by
  rw [lo_at, dkB_of (un0_holds H g)]; rfl
theorem lo_dv (g : Fin 4) (t : Fin 128) (d : Fin 64) : (lo (un0 a g).dv (ix2 t d) : Ideal .f32) = ((D.dvB (4 * b) g t d : ℝ) : EReal) := by
  rw [lo_at, dvB_of (un0_holds H g)]; rfl

theorem dkP_at (j g : Fin 4) (t : Fin 128) (d : Fin 64) :
    ((![dkP0 a, dkP1 a, dkP2 a, dkP3 a] : Fin 4 → Fin 4 → FVec Ideal S128x64 .f32) j g (ix2 t d) : Ideal .f32)
      = (((if 4 * b + j.val < 31 then D.dkB (4 * b + j.val + 1) g t d else 0) + D.dkB (4 * b + j.val) g (128 + t) d : ℝ) : EReal) := by
  have hb := H.lt
  match j with
  | 0 =>
    show (dkP0 a g (ix2 t d) : Ideal .f32) = _
    pointwise [dkP0]
    rw [lo_at, hi_at, dkB_of (un1_holds H g), dkB_of (un0_holds H g), ← EReal.coe_add, if_pos (show 4 * b < 31 by omega)]; rfl
  | 1 =>
    show (dkP1 a g (ix2 t d) : Ideal .f32) = _
    pointwise [dkP1]
    rw [lo_at, hi_at, dkB_of (un2_holds H g), dkB_of (un1_holds H g), ← EReal.coe_add, if_pos (show 4 * b + 1 < 31 by omega)]
  | 2 =>
    show (dkP2 a g (ix2 t d) : Ideal .f32) = _
    pointwise [dkP2]
    rw [lo_at, hi_at, dkB_of (un3_holds H g), dkB_of (un2_holds H g), ← EReal.coe_add, if_pos (show 4 * b + 2 < 31 by omega)]
  | 3 =>
    show (dkP3 a g (ix2 t d) : Ideal .f32) = _
    pointwise [dkP3]
    rw [hi_at, H.dkc, dkB_of (un3_holds H g), ← EReal.coe_add]
    refine congrArg Real.toEReal (congrArg (· + D.dkB (4 * b + 3) g (128 + t) d) ?_)
    by_cases h : b = 7
    · rw [if_pos h, if_neg (show ¬ 4 * b + 3 < 31 by omega)]
    · rw [if_neg h, if_pos (show 4 * b + 3 < 31 by omega)]; rfl

theorem dvP_at (j g : Fin 4) (t : Fin 128) (d : Fin 64) :
    ((![dvP0 a, dvP1 a, dvP2 a, dvP3 a] : Fin 4 → Fin 4 → FVec Ideal S128x64 .f32) j g (ix2 t d) : Ideal .f32)
      = (((if 4 * b + j.val < 31 then D.dvB (4 * b + j.val + 1) g t d else 0) + D.dvB (4 * b + j.val) g (128 + t) d : ℝ) : EReal) := by
  have hb := H.lt
  match j with
  | 0 =>
    show (dvP0 a g (ix2 t d) : Ideal .f32) = _
    pointwise [dvP0]
    rw [lo_at, hi_at, dvB_of (un1_holds H g), dvB_of (un0_holds H g), ← EReal.coe_add, if_pos (show 4 * b < 31 by omega)]; rfl
  | 1 =>
    show (dvP1 a g (ix2 t d) : Ideal .f32) = _
    pointwise [dvP1]
    rw [lo_at, hi_at, dvB_of (un2_holds H g), dvB_of (un1_holds H g), ← EReal.coe_add, if_pos (show 4 * b + 1 < 31 by omega)]
  | 2 =>
    show (dvP2 a g (ix2 t d) : Ideal .f32) = _
    pointwise [dvP2]
    rw [lo_at, hi_at, dvB_of (un3_holds H g), dvB_of (un2_holds H g), ← EReal.coe_add, if_pos (show 4 * b + 2 < 31 by omega)]
  | 3 =>
    show (dvP3 a g (ix2 t d) : Ideal .f32) = _
    pointwise [dvP3]
    rw [hi_at, H.dvc, dvB_of (un3_holds H g), ← EReal.coe_add]
    refine congrArg Real.toEReal (congrArg (· + D.dvB (4 * b + 3) g (128 + t) d) ?_)
    by_cases h : b = 7
    · rw [if_pos h, if_neg (show ¬ 4 * b + 3 < 31 by omega)]
    · rw [if_neg h, if_pos (show 4 * b + 3 < 31 by omega)]; rfl

/-- Row `i` of the block, in blocks of `128`. -/
theorem row_div (i : Fin 512) : (512 * b + i.val) / 128 = 4 * b + i.val / 128 := by omega
theorem row_mod (i : Fin 512) : (512 * b + i.val) % 128 = i.val % 128 := by omega

theorem dkS_at (i : Fin 512) (c : Fin 256) : (dkS a (ix2 i c) : Ideal .f32) = ((D.dkR (512 * b + i) (c / 64) (c % 64) : ℝ) : EReal) := by
  refine (asmK_at (![dkP0 a, dkP1 a, dkP2 a, dkP3 a]) i c).trans ?_
  rw [dkP_at H]
  unfold Dat.dkR Dat.fold2
  simp only [row_div H, row_mod H]

theorem dvT_at (i : Fin 512) (c : Fin 256) : (dvT a (ix2 i c) : Ideal .f32) = ((D.dV (512 * b + i) c : ℝ) : EReal) := by
  refine (asmK_at (![dvP0 a, dvP1 a, dvP2 a, dvP3 a]) i c).trans ?_
  rw [dvP_at H]
  unfold Dat.dV Dat.fold2
  simp only [row_div H, row_mod H]

theorem dkT_at (i : Fin 512) (c : Fin 256) : (dkT a (ix2 i c) : Ideal .f32) = ((D.dK (512 * b + i) c : ℝ) : EReal) := by
  have hc := c.isLt
  have e2 : c.val % 128 % 64 = c.val % 64 := by omega
  pointwise [dkT, back2]
  simp only [rot2_at, rep2_at]
  rw [rotAt_coe (by decide) (by decide) _ (fun e => D.dkR (512 * b + i) (c / 64) e * sn (512 * b + i) e) c _ rfl
    (fun d hd hlt => by
      have e3 : (64 * (c.val / 64) + d) / 64 = c.val / 64 := by omega
      have e4 : (64 * (c.val / 64) + d) % 64 = d := by omega
      have e5 : (64 * (c.val / 64) + d) % 128 % 64 = d := by omega
      pointwise
      rw [dkS_at H, rep2_at, H.sin, ← EReal.coe_mul]
      simp only [e3, e4, e5]), dkS_at H, H.cos, z0_eq, ← EReal.coe_zero, ← EReal.coe_sub, ← EReal.coe_mul, ← EReal.coe_add, zero_sub]
  unfold Dat.dK turnT
  simp only [e2]

theorem dqP_at (j : Fin 4) (h : Fin 16) (t : Fin 128) (d : Fin 64) :
    ((![dqP0 a, dqP1 a, dqP2 a, dqP3 a] : Fin 4 → Fin 16 → FVec Ideal S128x64 .f32) j h (ix2 t d) : Ideal .f32)
      = ((D.dq0 (4 * b + j.val) h t d : ℝ) : EReal) := by
  have hh := h.isLt
  have ht := t.isLt
  have e1 : 4 * (h.val / 4) + (128 * (h.val % 4) + t.val) / 128 = h.val := by omega
  have e2 : (128 * (h.val % 4) + t.val) % 128 = t.val := by omega
  match j with
  | 0 =>
    show (dqP0 a h (ix2 t d) : Ideal .f32) = _
    pointwise [dqP0, rowB]
    rw [dq_at (un0_holds H _)]
    unfold rowsOf grp sub
    simp only [e1, e2]; rfl
  | 1 =>
    show (dqP1 a h (ix2 t d) : Ideal .f32) = _
    pointwise [dqP1, rowB]
    rw [dq_at (un1_holds H _)]
    unfold rowsOf grp sub
    simp only [e1, e2]; rfl
  | 2 =>
    show (dqP2 a h (ix2 t d) : Ideal .f32) = _
    pointwise [dqP2, rowB]
    rw [dq_at (un2_holds H _)]
    unfold rowsOf grp sub
    simp only [e1, e2]; rfl
  | 3 =>
    show (dqP3 a h (ix2 t d) : Ideal .f32) = _
    pointwise [dqP3, rowB]
    rw [dq_at (un3_holds H _)]
    unfold rowsOf grp sub
    simp only [e1, e2]; rfl

theorem dqS_at (i : Fin 512) (c : Fin 1024) :
    (dqS a (ix2 i c) : Ideal .f32) = ((D.dq0 ((512 * b + i) / 128) (c / 64) ((512 * b + i) % 128) (c % 64) : ℝ) : EReal) := by
  refine (asmQ_at (![dqP0 a, dqP1 a, dqP2 a, dqP3 a]) i c).trans ?_
  rw [dqP_at H, row_div H, row_mod H]

theorem dqT_at (i : Fin 512) (c : Fin 1024) : (dqT a (ix2 i c) : Ideal .f32) = ((D.dQ (512 * b + i) c : ℝ) : EReal) := by
  have hc := c.isLt
  have e2 : c.val % 128 % 64 = c.val % 64 := by omega
  pointwise [dqT, back8]
  simp only [rot8_at, rep8_at]
  rw [rotAt_coe (by decide) (by decide) _ (fun e => D.dq0 ((512 * b + i) / 128) (c / 64) ((512 * b + i) % 128) e * (1 / 8) * sn (512 * b + i) e) c _ rfl
    (fun d hd hlt => by
      have e3 : (64 * (c.val / 64) + d) / 64 = c.val / 64 := by omega
      have e4 : (64 * (c.val / 64) + d) % 64 = d := by omega
      have e5 : (64 * (c.val / 64) + d) % 128 % 64 = d := by omega
      pointwise
      rw [dqS_at H, rep8_at, H.sin, eighth_eq, ← EReal.coe_mul, ← EReal.coe_mul]
      simp only [e3, e4, e5]), dqS_at H, H.cos, z0_eq, eighth_eq, ← EReal.coe_zero, ← EReal.coe_sub, ← EReal.coe_mul, ← EReal.coe_mul, ← EReal.coe_add, zero_sub]
  unfold Dat.dQ turnT
  simp only [e2]

theorem sumQ_at (c : Fin 1024) : (sumQ (dqT a) (ix2 0 c) : Ideal .f32) = ((∑ i : Fin 512, D.dQ (512 * b + i) c : ℝ) : EReal) := by
  pointwise [sumQ]
  simp only [dqT_at H]
  exact sum_coe _ _ _ (fun _ _ => rfl)
theorem sumK_at (c : Fin 256) : (sumK (dkT a) (ix2 0 c) : Ideal .f32) = ((∑ i : Fin 512, D.dK (512 * b + i) c : ℝ) : EReal) := by
  pointwise [sumK]
  simp only [dkT_at H]
  exact sum_coe _ _ _ (fun _ _ => rfl)
theorem sumV_at (c : Fin 256) : (sumK (dvT a) (ix2 0 c) : Ideal .f32) = ((∑ i : Fin 512, D.dV (512 * b + i) c : ℝ) : EReal) := by
  pointwise [sumK]
  simp only [dvT_at H]
  exact sum_coe _ _ _ (fun _ _ => rfl)

/-- The gradient of sink `h` out of blocks `4 b ..`. -/
def skB (D : Dat) (b h : ℕ) : ℝ := ∑ q : Fin 128, ((((D.row (4 * b + 3) h q).W * (D.row (4 * b + 3) h q).E
  + (D.row (4 * b + 2) h q).W * (D.row (4 * b + 2) h q).E) + (D.row (4 * b + 1) h q).W * (D.row (4 * b + 1) h q).E)
  + (D.row (4 * b) h q).W * (D.row (4 * b) h q).E)

theorem dskT_at (h : Fin 16) : (dskT a h (ix2 0 0) : Ideal .f32) = ((skB D b h : ℝ) : EReal) := by
  have hh := h.isLt
  pointwise [dskT, tT]
  refine sum_coe _ _ _ (fun q _ => ?_)
  have hq := q.isLt
  have e1 : 4 * (h.val / 4) + (128 * (h.val % 4) + q.val) / 128 = h.val := by omega
  have e2 : (128 * (h.val % 4) + q.val) % 128 = q.val := by omega
  rw [t_at (un0_holds H _), t_at (un1_holds H _), t_at (un2_holds H _), t_at (un3_holds H _)]
  simp only [← EReal.coe_add]
  unfold rowsOf grp sub
  simp only [e1, e2]
  exact Fintype.sum_unique _

end Cert.KernelIdeal.Swa
-- ==== Proof.OutLib.lean ====
/- Contents left by stores of columns: a run of single entries, each added to what the entry held, and four
   blocks of sixty-four columns. -/
module
public import proofs.«01_k».proof.Proof.Store
public import proofs.«01_k».proof.Proof.Inb
public import Idealize.ShloMosaic.Lib.Pipeline.ValueKit

@[expose] public section
set_option maxRecDepth 16384
noncomputable section
namespace Cert.KernelIdeal.Swa
open Idealize.ShloMosaic Idealize.ShloMosaic.TcCoe Cert.KernelIdeal Cert.KernelIdeal.Gen
variable {F : FTy → Type} [FloatOps F] [Named F]

/-- Single entries in turn, each added to what the earlier stores left there. -/
def stA (M : Memref sig .tc .vmem S1x16 .f32) (z : FVec F S1x16 .f32) (f : Fin 16 → FVec F S1x1 .f32) :
    ℕ → List (View.Piece (Elt F) S1x16 .f32)
  | 0 => [⟨Rect.unit (s := S1x16) ![0, 0] S1x16.size inb_S1x16_S1x16_0_0, z⟩]
  | n + 1 => if h : n < 16 then
      ⟨Rect.unit (s := S1x16) ![0, n] S1x1.size (inbS ⟨n, h⟩),
        addf (shapeCast S1x1 (M.view.readCov (stA M z f n) (Rect.unit (s := S1x16) ![0, n] S1x1.size (inbS ⟨n, h⟩)).toLoadRect) shapeCasts_S1x1_S1x1) (f ⟨n, h⟩)⟩ :: stA M z f n
    else stA M z f n

/-- Single entries in turn, each added to what was there before. -/
def stB (M : Memref sig .tc .vmem S1x16 .f32) (hM : M.IsWhole) (z : FVec F S1x16 .f32) (f : Fin 16 → FVec F S1x1 .f32) :
    ℕ → List (View.Piece (Elt F) S1x16 .f32)
  | 0 => []
  | n + 1 => if h : n < 16 then
      ⟨Rect.unit (s := S1x16) ![0, n] S1x1.size (inbS ⟨n, h⟩),
        addf (shapeCast S1x1 (View.readAt (Elt F) M.view (Rect.unit (s := S1x16) ![0, n] S1x1.size (inbS ⟨n, h⟩)).toLoadRect (hM.unread z)) shapeCasts_S1x1_S1x1) (f ⟨n, h⟩)⟩ :: stB M hM z f n
    else stB M hM z f n

/-- Four blocks of sixty-four columns. -/
def cols (f : Fin 4 → FVec F S128x64 .f32) (L : List (View.Piece (Elt F) S128x256 .f32)) : ℕ → List (View.Piece (Elt F) S128x256 .f32)
  | 0 => L
  | n + 1 => if h : n < 4 then
      ⟨Rect.unit (s := S128x256) ![0, 64 * n] S128x64.size (inbP ⟨n, h⟩), f ⟨n, h⟩⟩ :: cols f L n
    else cols f L n

theorem emb_ix (n : ℕ) (h : n < 16) (c : Fin 16) (hc : c.val = n) :
    (Rect.unit (s := S1x16) ![0, n] S1x1.size (inbS ⟨n, h⟩)).emb (ix2 0 0) = ix2 0 c := by
  subst hc
  funext a; apply Fin.ext; refine (Rect.idx_unit_val _ _ _ _ a).trans ?_; fin_cases a <;> simp [ix2]

theorem not_mem_ix (n : ℕ) (h : n < 16) (c : Fin 16) (hc : c.val ≠ n) :
    (ix2 0 c : S1x16.Idx) ∉ (Rect.unit (s := S1x16) ![0, n] S1x1.size (inbS ⟨n, h⟩)).set := by
  intro hm
  have := Rect.mem_set_unit.mp hm 1
  have h1 : (ix2 (0 : Fin 1) c : S1x16.Idx) 1 = c := rfl
  have h2 : (![0, n] : Fin 2 → Nat) 1 = n := rfl
  have h3 : S1x1.size 1 = 1 := rfl
  rw [h1, h2, h3] at this
  omega

theorem addf_cast (X Y : FVec Ideal S1x1 .f32) (h : S1x1.ShapeCasts S1x1) :
    (addf (shapeCast S1x1 X h) Y (ix2 0 0) : Ideal .f32) = ((X (ix2 0 0) : Ideal .f32) + (Y (ix2 0 0) : Ideal .f32) : EReal) := by
  rw [shapeCast_self]; rfl

theorem stA_at (M : Memref sig .tc .vmem S1x16 .f32) (z : FVec Ideal S1x16 .f32) (f : Fin 16 → FVec Ideal S1x1 .f32) (c : Fin 16) :
    ∀ n : ℕ, n ≤ 16 → (View.canon (stA M z f n) (ix2 0 c) : Ideal .f32)
      = if c.val < n then ((z (ix2 0 c) : Ideal .f32) + (f c (ix2 0 0) : Ideal .f32) : EReal) else ((z (ix2 0 c) : Ideal .f32) : EReal)
  | 0, _ => by
    rw [stA, View.canon_cons_unit_lit _ _ _ (by decide)]; simp
  | n + 1, hn => by
    have hn' : n < 16 := by omega
    rw [stA, dif_pos hn']
    by_cases hc : c.val = n
    · have e : (⟨n, hn'⟩ : Fin 16) = c := Fin.ext hc.symm
      refine (congrArg _ (emb_ix n hn' c hc).symm).trans ((View.canon_cons_emb _ _ _ _).trans ?_)
      refine (addf_cast _ _ _).trans ?_
      rw [if_pos (by omega), View.readCov_eq_canon', e]
      refine congrArg (fun w : EReal => w + (f c (ix2 0 0) : Ideal .f32)) ?_
      refine (congrArg (View.canon (stA M z f n)) (emb_ix n hn' c hc)).trans ?_
      refine (stA_at M z f c n (by omega)).trans (if_neg (by omega))
    · refine (View.canon_cons_of_not_mem _ _ ?_).trans ?_
      · exact not_mem_ix n hn' c hc
      refine (stA_at M z f c n (by omega)).trans ?_
      have : (c.val < n + 1) = (c.val < n) := by apply propext; omega
      simp only [this]

theorem stB_at (M : Memref sig .tc .vmem S1x16 .f32) (hM : M.IsWhole) (z : FVec Ideal S1x16 .f32) (f : Fin 16 → FVec Ideal S1x1 .f32) (c : Fin 16) :
    ∀ n : ℕ, n ≤ 16 → c.val < n → (View.canon (stB M hM z f n) (ix2 0 c) : Ideal .f32)
      = ((z (ix2 0 c) : Ideal .f32) + (f c (ix2 0 0) : Ideal .f32) : EReal)
  | 0, _, h => absurd h (by omega)
  | n + 1, hn, h => by
    have hn' : n < 16 := by omega
    rw [stB, dif_pos hn']
    by_cases hc : c.val = n
    · have e : (⟨n, hn'⟩ : Fin 16) = c := Fin.ext hc.symm
      refine (congrArg _ (emb_ix n hn' c hc).symm).trans ((View.canon_cons_emb _ _ _ _).trans ?_)
      refine (addf_cast _ _ _).trans ?_
      rw [View.readAt_eq_ld, hM.read_unread, e]
      refine congrArg (fun w : EReal => w + (f c (ix2 0 0) : Ideal .f32)) ?_
      exact congrArg z (emb_ix n hn' c hc)
    · refine (View.canon_cons_of_not_mem _ _ ?_).trans ?_
      · exact not_mem_ix n hn' c hc
      exact (stB_at M hM z f c n (by omega) (by omega))

theorem emb_col (n : ℕ) (h : n < 4) (t : Fin 128) (d : Fin 64) (c : Fin 256) (hc : c.val = 64 * n + d.val) :
    (Rect.unit (s := S128x256) ![0, 64 * n] S128x64.size (inbP ⟨n, h⟩)).emb (ix2 t d) = ix2 t c := by
  funext a; apply Fin.ext; refine (Rect.idx_unit_val _ _ _ _ a).trans ?_; fin_cases a
  · simp [ix2]
  · simp [ix2, hc]

theorem not_mem_col (n : ℕ) (h : n < 4) (t : Fin 128) (c : Fin 256) (hc : c.val / 64 ≠ n) :
    (ix2 t c : S128x256.Idx) ∉ (Rect.unit (s := S128x256) ![0, 64 * n] S128x64.size (inbP ⟨n, h⟩)).set := by
  intro hm
  have := Rect.mem_set_unit.mp hm 1
  have h1 : (ix2 t c : S128x256.Idx) 1 = c := rfl
  have h2 : (![0, 64 * n] : Fin 2 → Nat) 1 = 64 * n := rfl
  have h3 : S128x64.size 1 = 64 := rfl
  rw [h1, h2, h3] at this
  omega

theorem cols_at (f : Fin 4 → FVec F S128x64 .f32) (L : List (View.Piece (Elt F) S128x256 .f32)) [∀ e, Nonempty (Elt F e)] (t : Fin 128) (c : Fin 256) (g : Fin 4) (d : Fin 64)
    (hc : c.val = 64 * g.val + d.val) :
    ∀ n : ℕ, n ≤ 4 → g.val < n → View.canon (cols f L n) (ix2 t c) = f g (ix2 t d)
  | 0, _, h => absurd h (by omega)
  | n + 1, hn, h => by
    have hn' : n < 4 := by omega
    rw [cols, dif_pos hn']
    by_cases hg : g.val = n
    · have e : (⟨n, hn'⟩ : Fin 4) = g := Fin.ext hg.symm
      refine (congrArg _ (emb_col n hn' t d c (by omega)).symm).trans ((View.canon_cons_emb _ _ _ _).trans ?_)
      rw [e]
    · refine (View.canon_cons_of_not_mem _ _ ?_).trans ?_
      · exact not_mem_col n hn' t c (by omega)
      exact (cols_at f L t c g d hc n (by omega) (by omega))

end Cert.KernelIdeal.Swa
-- ==== Proof.OutA.lean ====
/- What a point of case A leaves in each of its outputs. -/
module
public import proofs.«01_k».proof.Proof.Gen.KernelIdeal.Frame
public import proofs.«01_k».proof.Proof.BodyA
public import proofs.«01_k».proof.Proof.OutLib

@[expose] public section
set_option maxRecDepth 16384
noncomputable section
namespace Cert.KernelIdeal.Swa
open Idealize.ShloMosaic Idealize.ShloMosaic.TcCoe Cert.KernelIdeal Cert.KernelIdeal.Gen
attribute [local irreducible] ori andi select exp subf addf mulf divf concatenate extractStridedSlice broadcastTo broadcast shapeCast truncf multiReduction maximumf iota cmpi subi dynamicRotate extractAt
variable {F : FTy → Type} [FloatOps F] [Named F]
variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S1x1024 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x16 .f32) (harg19 : arg19.IsWhole) (arg20 : Memref sig .tc .vmem S128x256 .f32) (harg20 : arg20.IsWhole) (arg21 : Memref sig .tc .vmem S128x256 .f32) (harg21 : arg21.IsWhole) (hc0 : cond0_0 i) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32)

theorem list12A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1 = [⟨(Rect.unit (s := S512x1024) ![0, 0] S512x1024.size inb_S512x1024_S512x1024_0_0), truncf .bf16 (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32⟩] := by sl_kernel_rfl
/-- The gradient of the queries. -/
theorem out12A : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = truncf .bf16 (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list12A]
  exact View.canon_cons_unit_lit _ _ _ (by decide)

theorem list13A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1 = [⟨(Rect.unit (s := S512x256) ![0, 0] S512x256.size inb_S512x256_S512x256_0_0), truncf .bf16 (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32⟩] := by sl_kernel_rfl
/-- The gradient of the keys. -/
theorem out13A : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = truncf .bf16 (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list13A]
  exact View.canon_cons_unit_lit _ _ _ (by decide)

theorem list14A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1 = [⟨(Rect.unit (s := S512x256) ![0, 0] S512x256.size inb_S512x256_S512x256_0_0), truncf .bf16 (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32⟩] := by sl_kernel_rfl
/-- The gradient of the values. -/
theorem out14A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = truncf .bf16 (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)) bitsLt_bf16_f32 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list14A]
  exact View.canon_cons_unit_lit _ _ _ (by decide)

theorem list15A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1 = [⟨(Rect.unit (s := S1x1024) ![0, 0] S1x1024.size inb_S1x1024_S1x1024_0_0), addf (shapeCast S1x1024 (arg16.view.readCov (Val := Elt F) [⟨(Rect.unit (s := S1x1024) ![0, 0] S1x1024.size inb_S1x1024_S1x1024_0_0), (kernelRun0_A.sl.v2880 (F := F))⟩] (Rect.unit (s := S1x1024) ![0, 0] S1x1024.size inb_S1x1024_S1x1024_0_0).toLoadRect) shapeCasts_S1x1024_S1x1024) (sumQ (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))⟩, ⟨(Rect.unit (s := S1x1024) ![0, 0] S1x1024.size inb_S1x1024_S1x1024_0_0), (kernelRun0_A.sl.v2880 (F := F))⟩] := by sl_kernel_rfl
/-- The share of the sum over the rows, added to what was there. -/
theorem out15A : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = addf (kernelRun0_A.sl.v2880 (F := F)) (sumQ (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11))) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list15A]
  refine (View.canon_cons_unit_lit _ _ _ (by decide)).trans ?_
  refine (congrArg (fun w => addf w (sumQ (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (shapeCast_self _ _)).trans ?_
  exact congrArg (fun w => addf w (sumQ (dqT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (View.readCov_unit_lit _ _ _ (by decide))

theorem list16A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1 = [⟨(Rect.unit (s := S1x256) ![0, 0] S1x256.size inb_S1x256_S1x256_0_0), addf (shapeCast S1x256 (arg17.view.readCov (Val := Elt F) [⟨(Rect.unit (s := S1x256) ![0, 0] S1x256.size inb_S1x256_S1x256_0_0), (kernelRun0_A.sl.v2882 (F := F))⟩] (Rect.unit (s := S1x256) ![0, 0] S1x256.size inb_S1x256_S1x256_0_0).toLoadRect) shapeCasts_S1x256_S1x256) (sumK (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))⟩, ⟨(Rect.unit (s := S1x256) ![0, 0] S1x256.size inb_S1x256_S1x256_0_0), (kernelRun0_A.sl.v2882 (F := F))⟩] := by sl_kernel_rfl
/-- The share of the sum over the rows, added to what was there. -/
theorem out16A : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = addf (kernelRun0_A.sl.v2882 (F := F)) (sumK (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11))) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list16A]
  refine (View.canon_cons_unit_lit _ _ _ (by decide)).trans ?_
  refine (congrArg (fun w => addf w (sumK (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (shapeCast_self _ _)).trans ?_
  exact congrArg (fun w => addf w (sumK (dkT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (View.readCov_unit_lit _ _ _ (by decide))

theorem list17A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1 = [⟨(Rect.unit (s := S1x256) ![0, 0] S1x256.size inb_S1x256_S1x256_0_0), addf (shapeCast S1x256 (arg18.view.readCov (Val := Elt F) [⟨(Rect.unit (s := S1x256) ![0, 0] S1x256.size inb_S1x256_S1x256_0_0), (kernelRun0_A.sl.v2882 (F := F))⟩] (Rect.unit (s := S1x256) ![0, 0] S1x256.size inb_S1x256_S1x256_0_0).toLoadRect) shapeCasts_S1x256_S1x256) (sumK (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))⟩, ⟨(Rect.unit (s := S1x256) ![0, 0] S1x256.size inb_S1x256_S1x256_0_0), (kernelRun0_A.sl.v2882 (F := F))⟩] := by sl_kernel_rfl
/-- The share of the sum over the rows, added to what was there. -/
theorem out17A : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = addf (kernelRun0_A.sl.v2882 (F := F)) (sumK (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11))) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list17A]
  refine (View.canon_cons_unit_lit _ _ _ (by decide)).trans ?_
  refine (congrArg (fun w => addf w (sumK (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (shapeCast_self _ _)).trans ?_
  exact congrArg (fun w => addf w (sumK (dvT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11)))) (View.readCov_unit_lit _ _ _ (by decide))

theorem list18A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1 = stA arg19 (kernelRun0_A.sl.v2886 (F := F)) (fun h => dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) h) 16 := by sl_kernel_rfl
/-- The share of the gradient of the sinks, one head at a time. -/
theorem out18A : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = View.canon (stA arg19 (kernelRun0_A.sl.v2886 (F := F)) (fun h => dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) h) 16) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), list18A]

theorem lists0A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.2.1 = cols (fun g => shapeCast S128x64 (lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) g).dk) shapeCasts_S128x64_S128x64) (kernelRun0_A.sl.HS0_1 (F := F)) 4 := by sl_kernel_rfl
/-- What is handed to the point after. -/
theorem outs0A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = View.canon (cols (fun g => shapeCast S128x64 (lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) g).dk) shapeCasts_S128x64_S128x64) (kernelRun0_A.sl.HS0_1 (F := F)) 4) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), lists0A]

theorem lists1A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.2.2.1 = cols (fun g => shapeCast S128x64 (lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) g).dv) shapeCasts_S128x64_S128x64) (kernelRun0_A.sl.HS0_1 (F := F)) 4 := by sl_kernel_rfl
/-- What is handed to the point after. -/
theorem outs1A : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = View.canon (cols (fun g => shapeCast S128x64 (lo (un0 (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) g).dv) shapeCasts_S128x64_S128x64) (kernelRun0_A.sl.HS0_1 (F := F)) 4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11), lists1A]

end Cert.KernelIdeal.Swa
-- ==== Proof.BodyB.lean ====
/- The vectors the body of case B stores are the families of the model at what the point reads. -/
module
public import proofs.«01_k».proof.Proof.Gen.KernelIdeal.Frame.RunB
public import proofs.«01_k».proof.Proof.Model
public import proofs.«01_k».proof.Proof.Inb

@[expose] public section
set_option maxRecDepth 16384
noncomputable section
namespace Cert.KernelIdeal.Swa
open Idealize.ShloMosaic Idealize.ShloMosaic.TcCoe Cert.KernelIdeal Cert.KernelIdeal.Gen
attribute [local irreducible] ori andi select exp subf addf mulf divf concatenate extractStridedSlice broadcastTo broadcast shapeCast truncf multiReduction maximumf iota cmpi subi dynamicRotate extractAt
variable {F : FTy → Type} [FloatOps F] [Named F]

/-- What the point of case B reads. -/
def inpB (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (harg20 : arg20.IsWhole) (arg21 : Memref sig .tc .vmem S128x256 .f32) (harg21 : arg21.IsWhole) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32) (xs0 : Vec F S128x256 .f32) (xs1 : Vec F S128x256 .f32) : In F where
  q := View.readAt (Elt F) arg1.view (Rect.unit (s := S512x1024) ![0, 0] S512x1024.size inb_S512x1024_S512x1024_0_0).toLoadRect (harg1.unread x0)
  k := View.readAt (Elt F) arg2.view (Rect.unit (s := S512x256) ![0, 0] S512x256.size inb_S512x256_S512x256_0_0).toLoadRect (harg2.unread x1)
  v := View.readAt (Elt F) arg3.view (Rect.unit (s := S512x256) ![0, 0] S512x256.size inb_S512x256_S512x256_0_0).toLoadRect (harg3.unread x2)
  cos := (kernelRun0_B.sl.v8 c arg4 harg4 x3)
  sin := (kernelRun0_B.sl.v10 c arg5 harg5 x4)
  bq := (kernelRun0_B.sl.v12 c arg6 harg6 x5)
  bk := (kernelRun0_B.sl.v14 c arg7 harg7 x6)
  bv := (kernelRun0_B.sl.v16 c arg8 harg8 x7)
  sk := fun h => View.readAt (Elt F) arg9.view (Rect.unit (s := S1x16) ![0, h.val] S1x1.size (inbS h)).toLoadRect (harg9.unread x8)
  kp := fun g => shapeCast S128x64 (View.readAt (Elt F) arg10.view (Rect.unit (s := S128x256) ![0, 64 * g.val] S128x64.size (inbP g)).toLoadRect (harg10.unread x9)) shapeCasts_S128x64_S128x64
  vp := fun g => shapeCast S128x64 (View.readAt (Elt F) arg11.view (Rect.unit (s := S128x256) ![0, 64 * g.val] S128x64.size (inbP g)).toLoadRect (harg11.unread x10)) shapeCasts_S128x64_S128x64
  dkc := fun g => View.readAt (Elt F) arg20.view (Rect.unit (s := S128x256) ![0, 64 * g.val] S128x64.size (inbP g)).toLoadRect (harg20.unread xs0)
  dvc := fun g => View.readAt (Elt F) arg21.view (Rect.unit (s := S128x256) ![0, 64 * g.val] S128x64.size (inbP g)).toLoadRect (harg21.unread xs1)
  dh := fun h => View.readAt (Elt F) arg12.view (Rect.unit (s := S512x1024) ![0, 64 * h.val] S512x64.size (inbH h)).toLoadRect (harg12.unread x11)
  nf := (kernelRun0_B.sl.v63 i)

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (harg20 : arg20.IsWhole) (arg21 : Memref sig .tc .vmem S128x256 .f32) (harg21 : arg21.IsWhole) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32) (xs0 : Vec F S128x256 .f32) (xs1 : Vec F S128x256 .f32)
set_option maxHeartbeats 40000000 in
/-- All of them at once, since they share the units. -/
theorem allB :
    ((kernelRun0_B.sl.v2508 c i arg1 harg1 arg2 harg2 arg4 harg4 arg5 harg5 arg6 harg6 arg7 harg7 arg9 harg9 arg10 harg10 arg12 harg12 arg21 harg21 x0 x1 x3 x4 x5 x6 x8 x9 x11 xs1),
      (kernelRun0_B.sl.v2654 c i arg1 harg1 arg2 harg2 arg3 harg3 arg4 harg4 arg5 harg5 arg6 harg6 arg7 harg7 arg8 harg8 arg9 harg9 arg10 harg10 arg11 harg11 arg12 harg12 arg20 harg20 x0 x1 x2 x3 x4 x5 x6 x7 x8 x9 x10 x11 xs0),
      (kernelRun0_B.sl.v2763 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v2765 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v2656 c i arg1 harg1 arg2 harg2 arg3 harg3 arg4 harg4 arg5 harg5 arg6 harg6 arg7 harg7 arg8 harg8 arg9 harg9 arg10 harg10 arg11 harg11 arg12 harg12 arg20 harg20 x0 x1 x2 x3 x4 x5 x6 x7 x8 x9 x10 x11 xs0),
      (kernelRun0_B.sl.v2621 c i arg1 harg1 arg2 harg2 arg4 harg4 arg5 harg5 arg6 harg6 arg7 harg7 arg9 harg9 arg10 harg10 arg12 harg12 arg21 harg21 x0 x1 x3 x4 x5 x6 x8 x9 x11 xs1),
      (kernelRun0_B.sl.v1662 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1657 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1652 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1647 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1638 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1633 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1628 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1623 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1614 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1609 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1604 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1599 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1590 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1585 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1580 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1575 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1836 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1825 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1814 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1803 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11),
      (kernelRun0_B.sl.v1548 c i arg1 harg1 arg2 harg2 arg4 harg4 arg5 harg5 arg6 harg6 arg7 harg7 arg9 harg9 arg10 harg10 arg12 harg12 x0 x1 x3 x4 x5 x6 x8 x9 x11),
      (kernelRun0_B.sl.v1538 c i arg1 harg1 arg2 harg2 arg4 harg4 arg5 harg5 arg6 harg6 arg7 harg7 arg9 harg9 arg10 harg10 arg12 harg12 x0 x1 x3 x4 x5 x6 x8 x9 x11),
      (kernelRun0_B.sl.v1528 c i arg1 harg1 arg2 harg2 arg4 harg4 arg5 harg5 arg6 harg6 arg7 harg7 arg9 harg9 arg10 harg10 arg12 harg12 x0 x1 x3 x4 x5 x6 x8 x9 x11),
      (kernelRun0_B.sl.v1518 c i arg1 harg1 arg2 harg2 arg4 harg4 arg5 harg5 arg6 harg6 arg7 harg7 arg9 harg9 arg10 harg10 arg12 harg12 x0 x1 x3 x4 x5 x6 x8 x9 x11))
    = (fun a : In F => (dvT a, dkT a, dqT a, sumQ (dqT a), sumK (dkT a), sumK (dvT a), dskT a 0, dskT a 1, dskT a 2, dskT a 3, dskT a 4, dskT a 5, dskT a 6, dskT a 7, dskT a 8, dskT a 9, dskT a 10, dskT a 11, dskT a 12, dskT a 13, dskT a 14, dskT a 15, lo (un0 a 0).dk, lo (un0 a 1).dk, lo (un0 a 2).dk, lo (un0 a 3).dk, lo (un0 a 0).dv, lo (un0 a 1).dv, lo (un0 a 2).dv, lo (un0 a 3).dv))
      (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) := by sl_kernel_rfl
theorem dvB : (kernelRun0_B.sl.v2508 c i arg1 harg1 arg2 harg2 arg4 harg4 arg5 harg5 arg6 harg6 arg7 harg7 arg9 harg9 arg10 harg10 arg12 harg12 arg21 harg21 x0 x1 x3 x4 x5 x6 x8 x9 x11 xs1) = dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) := congrArg (fun y => y.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem dkB : (kernelRun0_B.sl.v2654 c i arg1 harg1 arg2 harg2 arg3 harg3 arg4 harg4 arg5 harg5 arg6 harg6 arg7 harg7 arg8 harg8 arg9 harg9 arg10 harg10 arg11 harg11 arg12 harg12 arg20 harg20 x0 x1 x2 x3 x4 x5 x6 x7 x8 x9 x10 x11 xs0) = dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) := congrArg (fun y => y.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem dqB : (kernelRun0_B.sl.v2763 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) := congrArg (fun y => y.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem bqB : (kernelRun0_B.sl.v2765 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = sumQ (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) := congrArg (fun y => y.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem bkB : (kernelRun0_B.sl.v2656 c i arg1 harg1 arg2 harg2 arg3 harg3 arg4 harg4 arg5 harg5 arg6 harg6 arg7 harg7 arg8 harg8 arg9 harg9 arg10 harg10 arg11 harg11 arg12 harg12 arg20 harg20 x0 x1 x2 x3 x4 x5 x6 x7 x8 x9 x10 x11 xs0) = sumK (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) := congrArg (fun y => y.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem bvB : (kernelRun0_B.sl.v2621 c i arg1 harg1 arg2 harg2 arg4 harg4 arg5 harg5 arg6 harg6 arg7 harg7 arg9 harg9 arg10 harg10 arg12 harg12 arg21 harg21 x0 x1 x3 x4 x5 x6 x8 x9 x11 xs1) = sumK (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) := congrArg (fun y => y.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds0B : (kernelRun0_B.sl.v1662 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 0 := congrArg (fun y => y.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds1B : (kernelRun0_B.sl.v1657 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 1 := congrArg (fun y => y.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds2B : (kernelRun0_B.sl.v1652 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 2 := congrArg (fun y => y.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds3B : (kernelRun0_B.sl.v1647 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 3 := congrArg (fun y => y.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds4B : (kernelRun0_B.sl.v1638 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 4 := congrArg (fun y => y.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds5B : (kernelRun0_B.sl.v1633 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 5 := congrArg (fun y => y.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds6B : (kernelRun0_B.sl.v1628 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 6 := congrArg (fun y => y.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds7B : (kernelRun0_B.sl.v1623 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 7 := congrArg (fun y => y.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds8B : (kernelRun0_B.sl.v1614 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 8 := congrArg (fun y => y.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds9B : (kernelRun0_B.sl.v1609 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 9 := congrArg (fun y => y.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds10B : (kernelRun0_B.sl.v1604 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 10 := congrArg (fun y => y.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds11B : (kernelRun0_B.sl.v1599 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 11 := congrArg (fun y => y.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds12B : (kernelRun0_B.sl.v1590 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 12 := congrArg (fun y => y.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds13B : (kernelRun0_B.sl.v1585 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 13 := congrArg (fun y => y.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds14B : (kernelRun0_B.sl.v1580 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 14 := congrArg (fun y => y.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ds15B : (kernelRun0_B.sl.v1575 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 15 := congrArg (fun y => y.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ck0B : (kernelRun0_B.sl.v1836 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 0).dk := congrArg (fun y => y.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ck1B : (kernelRun0_B.sl.v1825 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 1).dk := congrArg (fun y => y.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ck2B : (kernelRun0_B.sl.v1814 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 2).dk := congrArg (fun y => y.2.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem ck3B : (kernelRun0_B.sl.v1803 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 3).dk := congrArg (fun y => y.2.2.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem cv0B : (kernelRun0_B.sl.v1548 c i arg1 harg1 arg2 harg2 arg4 harg4 arg5 harg5 arg6 harg6 arg7 harg7 arg9 harg9 arg10 harg10 arg12 harg12 x0 x1 x3 x4 x5 x6 x8 x9 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 0).dv := congrArg (fun y => y.2.2.2.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem cv1B : (kernelRun0_B.sl.v1538 c i arg1 harg1 arg2 harg2 arg4 harg4 arg5 harg5 arg6 harg6 arg7 harg7 arg9 harg9 arg10 harg10 arg12 harg12 x0 x1 x3 x4 x5 x6 x8 x9 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 1).dv := congrArg (fun y => y.2.2.2.2.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem cv2B : (kernelRun0_B.sl.v1528 c i arg1 harg1 arg2 harg2 arg4 harg4 arg5 harg5 arg6 harg6 arg7 harg7 arg9 harg9 arg10 harg10 arg12 harg12 x0 x1 x3 x4 x5 x6 x8 x9 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 2).dv := congrArg (fun y => y.2.2.2.2.2.2.2.2.2.2.2.2.2.2.2.2.2.2.2.2.2.2.2.2.2.2.2.2.1) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)
theorem cv3B : (kernelRun0_B.sl.v1518 c i arg1 harg1 arg2 harg2 arg4 harg4 arg5 harg5 arg6 harg6 arg7 harg7 arg9 harg9 arg10 harg10 arg12 harg12 x0 x1 x3 x4 x5 x6 x8 x9 x11) = lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) 3).dv := congrArg (fun y => y.2.2.2.2.2.2.2.2.2.2.2.2.2.2.2.2.2.2.2.2.2.2.2.2.2.2.2.2.2) (allB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)

end Cert.KernelIdeal.Swa
-- ==== Proof.OutB.lean ====
/- What a point of case B leaves in each of its outputs. -/
module
public import proofs.«01_k».proof.Proof.Gen.KernelIdeal.Frame
public import proofs.«01_k».proof.Proof.BodyB
public import proofs.«01_k».proof.Proof.OutLib

@[expose] public section
set_option maxRecDepth 16384
noncomputable section
namespace Cert.KernelIdeal.Swa
open Idealize.ShloMosaic Idealize.ShloMosaic.TcCoe Cert.KernelIdeal Cert.KernelIdeal.Gen
attribute [local irreducible] ori andi select exp subf addf mulf divf concatenate extractStridedSlice broadcastTo broadcast shapeCast truncf multiReduction maximumf iota cmpi subi dynamicRotate extractAt
variable {F : FTy → Type} [FloatOps F] [Named F]
variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S1x1024 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x16 .f32) (harg19 : arg19.IsWhole) (arg20 : Memref sig .tc .vmem S128x256 .f32) (harg20 : arg20.IsWhole) (arg21 : Memref sig .tc .vmem S128x256 .f32) (harg21 : arg21.IsWhole) (hc0 : ¬cond0_0 i) (x0 : Vec F S512x1024 .f32) (x1 : Vec F S512x256 .f32) (x2 : Vec F S512x256 .f32) (x3 : Vec F S512x128 .f32) (x4 : Vec F S512x128 .f32) (x5 : Vec F S1x1024 .f32) (x6 : Vec F S1x256 .f32) (x7 : Vec F S1x256 .f32) (x8 : Vec F S1x16 .f32) (x9 : Vec F S128x256 .f32) (x10 : Vec F S128x256 .f32) (x11 : Vec F S512x1024 .f32) (xo15 : Vec F S1x1024 .f32) (xo16 : Vec F S1x256 .f32) (xo17 : Vec F S1x256 .f32) (xo18 : Vec F S1x16 .f32) (xs0 : Vec F S128x256 .f32) (xs1 : Vec F S128x256 .f32)

theorem list12B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).1 = [⟨(Rect.unit (s := S512x1024) ![0, 0] S512x1024.size inb_S512x1024_S512x1024_0_0), truncf .bf16 (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32⟩] := by sl_kernel_rfl
/-- The gradient of the queries. -/
theorem out12B : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = truncf .bf16 (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list12B]
  exact View.canon_cons_unit_lit _ _ _ (by decide)

theorem list13B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.1 = [⟨(Rect.unit (s := S512x256) ![0, 0] S512x256.size inb_S512x256_S512x256_0_0), truncf .bf16 (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32⟩] := by sl_kernel_rfl
/-- The gradient of the keys. -/
theorem out13B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = truncf .bf16 (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list13B]
  exact View.canon_cons_unit_lit _ _ _ (by decide)

theorem list14B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.1 = [⟨(Rect.unit (s := S512x256) ![0, 0] S512x256.size inb_S512x256_S512x256_0_0), truncf .bf16 (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32⟩] := by sl_kernel_rfl
/-- The gradient of the values. -/
theorem out14B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = truncf .bf16 (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)) bitsLt_bf16_f32 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list14B]
  exact View.canon_cons_unit_lit _ _ _ (by decide)

theorem list15B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.1 = [⟨(Rect.unit (s := S1x1024) ![0, 0] S1x1024.size inb_S1x1024_S1x1024_0_0), addf (shapeCast S1x1024 (View.readAt (Elt F) arg16.view (Rect.unit (s := S1x1024) ![0, 0] S1x1024.size inb_S1x1024_S1x1024_0_0).toLoadRect (harg16.unread xo15)) shapeCasts_S1x1024_S1x1024) (sumQ (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))⟩] := by sl_kernel_rfl
/-- The share of the sum over the rows, added to what was there. -/
theorem out15B : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = addf xo15 (sumQ (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1))) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list15B]
  refine (View.canon_cons_unit_lit _ _ _ (by decide)).trans ?_
  rw [View.readAt_eq_ld, harg16.read_unread]
  refine (congrArg (fun w => addf w (sumQ (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (shapeCast_self _ _)).trans ?_
  exact congrArg (fun w => addf w (sumQ (dqT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (View.ld_unit_lit _ _ (by decide))

theorem list16B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.2.1 = [⟨(Rect.unit (s := S1x256) ![0, 0] S1x256.size inb_S1x256_S1x256_0_0), addf (shapeCast S1x256 (View.readAt (Elt F) arg17.view (Rect.unit (s := S1x256) ![0, 0] S1x256.size inb_S1x256_S1x256_0_0).toLoadRect (harg17.unread xo16)) shapeCasts_S1x256_S1x256) (sumK (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))⟩] := by sl_kernel_rfl
/-- The share of the sum over the rows, added to what was there. -/
theorem out16B : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = addf xo16 (sumK (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1))) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list16B]
  refine (View.canon_cons_unit_lit _ _ _ (by decide)).trans ?_
  rw [View.readAt_eq_ld, harg17.read_unread]
  refine (congrArg (fun w => addf w (sumK (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (shapeCast_self _ _)).trans ?_
  exact congrArg (fun w => addf w (sumK (dkT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (View.ld_unit_lit _ _ (by decide))

theorem list17B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.2.2.1 = [⟨(Rect.unit (s := S1x256) ![0, 0] S1x256.size inb_S1x256_S1x256_0_0), addf (shapeCast S1x256 (View.readAt (Elt F) arg18.view (Rect.unit (s := S1x256) ![0, 0] S1x256.size inb_S1x256_S1x256_0_0).toLoadRect (harg18.unread xo17)) shapeCasts_S1x256_S1x256) (sumK (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))⟩] := by sl_kernel_rfl
/-- The share of the sum over the rows, added to what was there. -/
theorem out17B : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = addf xo17 (sumK (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1))) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list17B]
  refine (View.canon_cons_unit_lit _ _ _ (by decide)).trans ?_
  rw [View.readAt_eq_ld, harg18.read_unread]
  refine (congrArg (fun w => addf w (sumK (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (shapeCast_self _ _)).trans ?_
  exact congrArg (fun w => addf w (sumK (dvT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1)))) (View.ld_unit_lit _ _ (by decide))

theorem list18B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.2.2.2.1 = stB arg19 harg19 xo18 (fun h => dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) h) 16 := by sl_kernel_rfl
/-- The share of the gradient of the sinks, one head at a time. -/
theorem out18B : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = View.canon (stB arg19 harg19 xo18 (fun h => dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) h) 16) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), list18B]

theorem lists0B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.2.2.2.2.1 = cols (fun g => shapeCast S128x64 (lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) g).dk) shapeCasts_S128x64_S128x64) [] 4 := by sl_kernel_rfl
/-- What is handed to the point after. -/
theorem outs0B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = View.canon (cols (fun g => shapeCast S128x64 (lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) g).dk) shapeCasts_S128x64_S128x64) [] 4) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), lists0B]

theorem lists1B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1).2.2.2.2.2.2.2.2.1 = cols (fun g => shapeCast S128x64 (lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) g).dv) shapeCasts_S128x64_S128x64) [] 4 := by sl_kernel_rfl
/-- What is handed to the point after. -/
theorem outs1B : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 = View.canon (cols (fun g => shapeCast S128x64 (lo (un0 (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) g).dv) shapeCasts_S128x64_S128x64) [] 4) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1), lists1B]

end Cert.KernelIdeal.Swa
-- ==== Proof.Stage.lean ====
/- What each kind of point computes, given what its blocks of the operands hold. -/
module
public import proofs.«01_k».proof.Proof.OutA
public import proofs.«01_k».proof.Proof.OutB

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat cs sn rot turn turnT two sum_split)

/-- What the blocks of block `b` of the operands hold. -/
structure Blk (i : grid0.Coords) (x0 : FVec Ideal S512x1024 .f32) (x1 x2 : FVec Ideal S512x256 .f32) (x3 x4 : FVec Ideal S512x128 .f32) (x5 : FVec Ideal S1x1024 .f32)
    (x6 x7 : FVec Ideal S1x256 .f32) (x8 : FVec Ideal S1x16 .f32) (x9 x10 : FVec Ideal S128x256 .f32) (x11 : FVec Ideal S512x1024 .f32) (D : Dat) (b : ℕ) : Prop where
  lt : b < 8
  q : ∀ (i : Fin 512) (c : Fin 1024), x0 (ix2 i c) = ((D.X (512 * b + i) (1024 + c) : ℝ) : EReal)
  k : ∀ (i : Fin 512) (c : Fin 256), x1 (ix2 i c) = ((D.X (512 * b + i) (2048 + c) : ℝ) : EReal)
  v : ∀ (i : Fin 512) (c : Fin 256), x2 (ix2 i c) = ((D.X (512 * b + i) (2304 + c) : ℝ) : EReal)
  cos : ∀ (i : Fin 512) (l : Fin 128), x3 (ix2 i l) = ((cs (512 * b + i) (l % 64) : ℝ) : EReal)
  sin : ∀ (i : Fin 512) (l : Fin 128), x4 (ix2 i l) = ((sn (512 * b + i) (l % 64) : ℝ) : EReal)
  bq : ∀ c : Fin 1024, x5 (ix2 0 c) = ((D.B c : ℝ) : EReal)
  bk : ∀ c : Fin 256, x6 (ix2 0 c) = ((D.B (1024 + c) : ℝ) : EReal)
  bv : ∀ c : Fin 256, x7 (ix2 0 c) = ((D.B (1280 + c) : ℝ) : EReal)
  sk : ∀ h : Fin 16, x8 (ix2 0 h) = ((D.Sk h : ℝ) : EReal)
  kp : ∀ (t : Fin 128) (c : Fin 256), x9 (ix2 t c) = ((two (fun r => D.K r (c / 64) (c % 64)) (4 * b) t : ℝ) : EReal)
  vp : ∀ (t : Fin 128) (c : Fin 256), x10 (ix2 t c) = ((two (fun r => D.V r (c / 64) (c % 64)) (4 * b) t : ℝ) : EReal)
  dh : ∀ (i : Fin 512) (c : Fin 1024), x11 (ix2 i c) = ((D.DO (512 * b + i) c : ℝ) : EReal)
  nf : Scalar.xori (Scalar.cmpi CmpIPredicate.eq (BitVec.ofNat 32 (i 0).val) 7#32) 1#1 = if b = 0 then 0#1 else 1#1

abbrev Outs := Vec Ideal S512x1024 .bf16 × Vec Ideal S512x256 .bf16 × Vec Ideal S512x256 .bf16 × Vec Ideal S1x1024 .f32 × Vec Ideal S1x256 .f32 × Vec Ideal S1x256 .f32
  × Vec Ideal S1x16 .f32 × Vec Ideal S128x256 .f32 × Vec Ideal S128x256 .f32

/-- What point `n` of the grid leaves. -/
structure Inv (D : Dat) (n : ℕ) (o : Outs) : Prop where
  dq : ∀ (i : Fin 512) (c : Fin 1024), (o.1 (ix2 i c) : Ideal .bf16) = ((D.dQ (512 * (7 - n) + i) c : ℝ) : EReal)
  dk : ∀ (i : Fin 512) (c : Fin 256), (o.2.1 (ix2 i c) : Ideal .bf16) = ((D.dK (512 * (7 - n) + i) c : ℝ) : EReal)
  dv : ∀ (i : Fin 512) (c : Fin 256), (o.2.2.1 (ix2 i c) : Ideal .bf16) = ((D.dV (512 * (7 - n) + i) c : ℝ) : EReal)
  bq : ∀ c : Fin 1024, (o.2.2.2.1 (ix2 0 c) : Ideal .f32) = ((∑ s ∈ Finset.range (n + 1), ∑ i : Fin 512, D.dQ (512 * (7 - s) + i) c : ℝ) : EReal)
  bk : ∀ c : Fin 256, (o.2.2.2.2.1 (ix2 0 c) : Ideal .f32) = ((∑ s ∈ Finset.range (n + 1), ∑ i : Fin 512, D.dK (512 * (7 - s) + i) c : ℝ) : EReal)
  bv : ∀ c : Fin 256, (o.2.2.2.2.2.1 (ix2 0 c) : Ideal .f32) = ((∑ s ∈ Finset.range (n + 1), ∑ i : Fin 512, D.dV (512 * (7 - s) + i) c : ℝ) : EReal)
  sk : ∀ h : Fin 16, (o.2.2.2.2.2.2.1 (ix2 0 h) : Ideal .f32) = ((∑ s ∈ Finset.range (n + 1), skB D (7 - s) h : ℝ) : EReal)
  ck : ∀ (t : Fin 128) (c : Fin 256), (o.2.2.2.2.2.2.2.1 (ix2 t c) : Ideal .f32) = ((D.dkB (4 * (7 - n)) (c / 64) t (c % 64) : ℝ) : EReal)
  cv : ∀ (t : Fin 128) (c : Fin 256), (o.2.2.2.2.2.2.2.2 (ix2 t c) : Ideal .f32) = ((D.dvB (4 * (7 - n)) (c / 64) t (c % 64) : ℝ) : EReal)

theorem whole_of {s : Shape} (M : Memref sig .tc .vmem s .f32) (hM : M.IsWhole) (X : FVec Ideal s .f32) (off : Fin s.rank → Nat) (inb) (h : ∀ a, off a = 0) :
    View.readAt (Elt Ideal) M.view (Rect.unit (s := s) off s.size inb).toLoadRect (hM.unread X) = X := by
  rw [View.readAt_eq_ld, hM.read_unread]; exact View.ld_unit_lit _ _ h

theorem cast_of {s : Shape} (X Y : FVec Ideal s .f32) (h : s.ShapeCasts s) (e : X = Y) : shapeCast s X h = Y := by
  rw [shapeCast_self]; exact e

theorem col_of (M : Memref sig .tc .vmem S128x256 .f32) (hM : M.IsWhole) (X : FVec Ideal S128x256 .f32) (g : Fin 4) (t : Fin 128) (d : Fin 64) :
    View.readAt (Elt Ideal) M.view (Rect.unit (s := S128x256) ![0, 64 * g.val] S128x64.size (inbP g)).toLoadRect (hM.unread X) (ix2 t d)
      = X (ix2 t ⟨64 * g.val + d.val, by omega⟩) := by
  rw [View.readAt_eq_ld, hM.read_unread]
  exact congrArg X (emb_col g.val g.isLt t d ⟨64 * g.val + d.val, by omega⟩ rfl)

theorem head_of (M : Memref sig .tc .vmem S512x1024 .f32) (hM : M.IsWhole) (X : FVec Ideal S512x1024 .f32) (h : Fin 16) (i : Fin 512) (d : Fin 64) :
    View.readAt (Elt Ideal) M.view (Rect.unit (s := S512x1024) ![0, 64 * h.val] S512x64.size (inbH h)).toLoadRect (hM.unread X) (ix2 i d)
      = X (ix2 i ⟨64 * h.val + d.val, by omega⟩) := by
  rw [View.readAt_eq_ld, hM.read_unread]
  refine congrArg X (funext fun a => Fin.ext ?_)
  refine (Rect.idx_unit_val _ _ _ _ a).trans ?_
  fin_cases a
  · simp [ix2]
  · simp [ix2]

theorem sink_of (M : Memref sig .tc .vmem S1x16 .f32) (hM : M.IsWhole) (X : FVec Ideal S1x16 .f32) (h : Fin 16) :
    View.readAt (Elt Ideal) M.view (Rect.unit (s := S1x16) ![0, h.val] S1x1.size (inbS h)).toLoadRect (hM.unread X) (ix2 0 0) = X (ix2 0 h) := by
  rw [View.readAt_eq_ld, hM.read_unread]
  exact congrArg X (emb_ix h.val h.isLt h rfl)

theorem zero_of (M : Memref sig .tc .vmem S128x256 .f32) (g : Fin 4) (t : Fin 128) (d : Fin 64) :
    (M.view.readCov (Val := Elt Ideal) (kernelRun0_A.sl.HS0_1 (F := Ideal)) (Rect.unit (s := S128x256) ![0, 64 * g.val] S128x64.size (inbP g)).toLoadRect (ix2 t d) : Ideal .f32) = ((0 : ℝ) : EReal) := by
  rw [View.readCov_eq_canon']
  refine (congrFun (View.canon_cons_unit_lit _ _ _ (by decide)) _).trans ?_
  exact Ideal.ofBits_zero_f32

theorem div64 (g : Fin 4) (d : Fin 64) : (64 * g.val + d.val) / 64 = g.val ∧ (64 * g.val + d.val) % 64 = d.val := by omega

theorem readsA (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (arg21 : Memref sig .tc .vmem S128x256 .f32) (x0 : Vec Ideal S512x1024 .f32) (x1 : Vec Ideal S512x256 .f32) (x2 : Vec Ideal S512x256 .f32) (x3 : Vec Ideal S512x128 .f32) (x4 : Vec Ideal S512x128 .f32) (x5 : Vec Ideal S1x1024 .f32) (x6 : Vec Ideal S1x256 .f32) (x7 : Vec Ideal S1x256 .f32) (x8 : Vec Ideal S1x16 .f32) (x9 : Vec Ideal S128x256 .f32) (x10 : Vec Ideal S128x256 .f32) (x11 : Vec Ideal S512x1024 .f32) {D : Dat} (H : Blk i x0 x1 x2 x3 x4 x5 x6 x7 x8 x9 x10 x11 D 7) :
    Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D 7 where
  lt := H.lt
  q i c := (congrFun (whole_of arg1 harg1 x0 _ _ (by decide)) _).trans (H.q i c)
  k i c := (congrFun (whole_of arg2 harg2 x1 _ _ (by decide)) _).trans (H.k i c)
  v i c := (congrFun (whole_of arg3 harg3 x2 _ _ (by decide)) _).trans (H.v i c)
  cos i c := (congrFun (cast_of _ _ _ (whole_of arg4 harg4 x3 _ _ (by decide))) _).trans (H.cos i c)
  sin i c := (congrFun (cast_of _ _ _ (whole_of arg5 harg5 x4 _ _ (by decide))) _).trans (H.sin i c)
  bq c := (congrFun (cast_of _ _ _ (whole_of arg6 harg6 x5 _ _ (by decide))) _).trans (H.bq c)
  bk c := (congrFun (cast_of _ _ _ (whole_of arg7 harg7 x6 _ _ (by decide))) _).trans (H.bk c)
  bv c := (congrFun (cast_of _ _ _ (whole_of arg8 harg8 x7 _ _ (by decide))) _).trans (H.bv c)
  sk h := (sink_of arg9 harg9 x8 h).trans (H.sk h)
  kp g t d := (congrFun (cast_of _ _ _ rfl) _).trans ((col_of arg10 harg10 x9 g t d).trans ((H.kp _ _).trans (by simp only [(div64 g d).1, (div64 g d).2])))
  vp g t d := (congrFun (cast_of _ _ _ rfl) _).trans ((col_of arg11 harg11 x10 g t d).trans ((H.vp _ _).trans (by simp only [(div64 g d).1, (div64 g d).2])))
  dkc := fun g t d => by rw [if_pos rfl]; exact zero_of arg20 g t d
  dvc := fun g t d => by rw [if_pos rfl]; exact zero_of arg21 g t d
  dh h i d := (head_of arg12 harg12 x11 h i d).trans (H.dh _ _)
  nf := H.nf

theorem readsB (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg20 : Memref sig .tc .vmem S128x256 .f32) (harg20 : arg20.IsWhole) (arg21 : Memref sig .tc .vmem S128x256 .f32) (harg21 : arg21.IsWhole) (x0 : Vec Ideal S512x1024 .f32) (x1 : Vec Ideal S512x256 .f32) (x2 : Vec Ideal S512x256 .f32) (x3 : Vec Ideal S512x128 .f32) (x4 : Vec Ideal S512x128 .f32) (x5 : Vec Ideal S1x1024 .f32) (x6 : Vec Ideal S1x256 .f32) (x7 : Vec Ideal S1x256 .f32) (x8 : Vec Ideal S1x16 .f32) (x9 : Vec Ideal S128x256 .f32) (x10 : Vec Ideal S128x256 .f32) (x11 : Vec Ideal S512x1024 .f32) (xs0 : Vec Ideal S128x256 .f32) (xs1 : Vec Ideal S128x256 .f32) {D : Dat} {b : ℕ} (H : Blk i x0 x1 x2 x3 x4 x5 x6 x7 x8 x9 x10 x11 D b) (hb : b < 7)
    (s0 : ∀ (t : Fin 128) (c : Fin 256), xs0 (ix2 t c) = ((D.dkB (4 * (b + 1)) (c / 64) t (c % 64) : ℝ) : EReal))
    (s1 : ∀ (t : Fin 128) (c : Fin 256), xs1 (ix2 t c) = ((D.dvB (4 * (b + 1)) (c / 64) t (c % 64) : ℝ) : EReal)) :
    Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b where
  lt := H.lt
  q i c := (congrFun (whole_of arg1 harg1 x0 _ _ (by decide)) _).trans (H.q i c)
  k i c := (congrFun (whole_of arg2 harg2 x1 _ _ (by decide)) _).trans (H.k i c)
  v i c := (congrFun (whole_of arg3 harg3 x2 _ _ (by decide)) _).trans (H.v i c)
  cos i c := (congrFun (cast_of _ _ _ (whole_of arg4 harg4 x3 _ _ (by decide))) _).trans (H.cos i c)
  sin i c := (congrFun (cast_of _ _ _ (whole_of arg5 harg5 x4 _ _ (by decide))) _).trans (H.sin i c)
  bq c := (congrFun (cast_of _ _ _ (whole_of arg6 harg6 x5 _ _ (by decide))) _).trans (H.bq c)
  bk c := (congrFun (cast_of _ _ _ (whole_of arg7 harg7 x6 _ _ (by decide))) _).trans (H.bk c)
  bv c := (congrFun (cast_of _ _ _ (whole_of arg8 harg8 x7 _ _ (by decide))) _).trans (H.bv c)
  sk h := (sink_of arg9 harg9 x8 h).trans (H.sk h)
  kp g t d := (congrFun (cast_of _ _ _ rfl) _).trans ((col_of arg10 harg10 x9 g t d).trans ((H.kp _ _).trans (by simp only [(div64 g d).1, (div64 g d).2])))
  vp g t d := (congrFun (cast_of _ _ _ rfl) _).trans ((col_of arg11 harg11 x10 g t d).trans ((H.vp _ _).trans (by simp only [(div64 g d).1, (div64 g d).2])))
  dkc := fun g t d => by rw [if_neg (by omega)]; refine (col_of arg20 harg20 xs0 g t d).trans ((s0 _ _).trans ?_); simp only [(div64 g d).1, (div64 g d).2]
  dvc := fun g t d => by rw [if_neg (by omega)]; refine (col_of arg21 harg21 xs1 g t d).trans ((s1 _ _).trans ?_); simp only [(div64 g d).1, (div64 g d).2]
  dh h i d := (head_of arg12 harg12 x11 h i d).trans (H.dh _ _)
  nf := H.nf

theorem trunc_of {s : Shape} (x : FVec Ideal s .f32) (h) (i : s.Idx) : (truncf .bf16 x h i : Ideal .bf16) = (x i : Ideal .f32) := rfl

theorem zadd {s : Shape} (x y : FVec Ideal s .f32) (i : s.Idx) {r : ℝ} (hx : (x i : Ideal .f32) = (0 : EReal)) (hy : (y i : Ideal .f32) = ((r : ℝ) : EReal)) :
    (addf x y i : Ideal .f32) = ((r : ℝ) : EReal) := by
  refine (congrArg₂ (fun a b : EReal => a + b) hx hy).trans ?_
  exact zero_add _

theorem radd {s : Shape} (x y : FVec Ideal s .f32) (i : s.Idx) (q : ℝ) {r : ℝ} (hx : (x i : Ideal .f32) = ((q : ℝ) : EReal)) (hy : (y i : Ideal .f32) = ((r : ℝ) : EReal)) :
    (addf x y i : Ideal .f32) = ((q + r : ℝ) : EReal) := by
  refine (congrArg₂ (fun a b : EReal => a + b) hx hy).trans ?_
  exact (EReal.coe_add _ _).symm

theorem zadd' (x y : EReal) (r : ℝ) (hx : x = 0) (hy : y = ((r : ℝ) : EReal)) : x + y = ((r : ℝ) : EReal) := by
  rw [hx, hy, zero_add]

theorem radd' (x y : EReal) (q r : ℝ) (hx : x = ((q : ℝ) : EReal)) (hy : y = ((r : ℝ) : EReal)) : x + y = ((q + r : ℝ) : EReal) := by
  rw [hx, hy, EReal.coe_add]

end Cert.KernelIdeal.Swa
-- ==== Proof.AtA.lean ====
/- The entries of the outputs of a point of case A. -/
module
public import proofs.«01_k».proof.Proof.Stage

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat cs sn rot turn turnT two sum_split)

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S1x1024 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x16 .f32) (harg19 : arg19.IsWhole) (arg20 : Memref sig .tc .vmem S128x256 .f32) (harg20 : arg20.IsWhole) (arg21 : Memref sig .tc .vmem S128x256 .f32) (harg21 : arg21.IsWhole) (hc0 : cond0_0 i) (x0 : Vec Ideal S512x1024 .f32) (x1 : Vec Ideal S512x256 .f32) (x2 : Vec Ideal S512x256 .f32) (x3 : Vec Ideal S512x128 .f32) (x4 : Vec Ideal S512x128 .f32) (x5 : Vec Ideal S1x1024 .f32) (x6 : Vec Ideal S1x256 .f32) (x7 : Vec Ideal S1x256 .f32) (x8 : Vec Ideal S1x16 .f32) (x9 : Vec Ideal S128x256 .f32) (x10 : Vec Ideal S128x256 .f32) (x11 : Vec Ideal S512x1024 .f32)
theorem at12A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (a : Fin 512) (e : Fin 1024) :
    (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 a e) : Ideal .bf16) = ((D.dQ (512 * b + a) e : ℝ) : EReal) := by
  rw [out12A]; exact (trunc_of _ _ _).trans (dqT_at R a e)
theorem at13A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (a : Fin 512) (e : Fin 256) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 a e) : Ideal .bf16) = ((D.dK (512 * b + a) e : ℝ) : EReal) := by
  rw [out13A]; exact (trunc_of _ _ _).trans (dkT_at R a e)
theorem at14A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (a : Fin 512) (e : Fin 256) :
    (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 a e) : Ideal .bf16) = ((D.dV (512 * b + a) e : ℝ) : EReal) := by
  rw [out14A]; exact (trunc_of _ _ _).trans (dvT_at R a e)
theorem at15A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (e : Fin 1024) :
    (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 0 e) : Ideal .f32) = ((∑ a : Fin 512, D.dQ (512 * b + a) e : ℝ) : EReal) := by
  rw [out15A]; exact zadd _ _ _ Ideal.ofBits_zero_f32 (sumQ_at R e)
theorem at16A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (e : Fin 256) :
    (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 0 e) : Ideal .f32) = ((∑ a : Fin 512, D.dK (512 * b + a) e : ℝ) : EReal) := by
  rw [out16A]; exact zadd _ _ _ Ideal.ofBits_zero_f32 (sumK_at R e)
theorem at17A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (e : Fin 256) :
    (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 0 e) : Ideal .f32) = ((∑ a : Fin 512, D.dV (512 * b + a) e : ℝ) : EReal) := by
  rw [out17A]; exact zadd _ _ _ Ideal.ofBits_zero_f32 (sumV_at R e)
theorem at18A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (h : Fin 16) :
    (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 0 h) : Ideal .f32) = ((skB D b h : ℝ) : EReal) := by
  rw [out18A]
  refine (stA_at arg19 _ (fun h => dskT (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) h) h 16 le_rfl).trans ((if_pos h.isLt).trans ?_)
  exact zadd' _ _ _ Ideal.ofBits_zero_f32 (dskT_at R h)
theorem ats0A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (t : Fin 128) (e : Fin 256) :
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 t e) : Ideal .f32) = ((D.dkB (4 * b) (e / 64) t (e % 64) : ℝ) : EReal) := by
  have hc := e.isLt
  rw [outs0A]
  refine (cols_at _ _ t e ⟨e / 64, by omega⟩ ⟨e % 64, by omega⟩ (by show e.val = 64 * (e.val / 64) + e.val % 64; omega) 4 le_rfl (by show e.val / 64 < 4; omega)).trans ?_
  exact (congrFun (cast_of _ _ _ rfl) _).trans (lo_dk R _ _ _)
theorem ats1A {D : Dat} {b : ℕ} (R : Reads (inpA c i arg1 harg1 arg2 harg2 arg3 harg3 arg4 harg4 arg5 harg5 arg6 harg6 arg7 harg7 arg8 harg8 arg9 harg9 arg10 harg10 arg11 harg11 arg12 harg12 arg20 arg21 x0 x1 x2 x3 x4 x5 x6 x7 x8 x9 x10 x11) D b) (t : Fin 128) (e : Fin 256) :
    (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 t e) : Ideal .f32) = ((D.dvB (4 * b) (e / 64) t (e % 64) : ℝ) : EReal) := by
  have hc := e.isLt
  rw [outs1A]
  refine (cols_at _ _ t e ⟨e / 64, by omega⟩ ⟨e % 64, by omega⟩ (by show e.val = 64 * (e.val / 64) + e.val % 64; omega) 4 le_rfl (by show e.val / 64 < 4; omega)).trans ?_
  exact (congrFun (cast_of _ _ _ rfl) _).trans (lo_dv R _ _ _)
end Cert.KernelIdeal.Swa
-- ==== Proof.AtB.lean ====
/- The entries of the outputs of a point of case B. -/
module
public import proofs.«01_k».proof.Proof.Stage

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat cs sn rot turn turnT two sum_split)

variable (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x16 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S1x1024 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x16 .f32) (harg19 : arg19.IsWhole) (arg20 : Memref sig .tc .vmem S128x256 .f32) (harg20 : arg20.IsWhole) (arg21 : Memref sig .tc .vmem S128x256 .f32) (harg21 : arg21.IsWhole) (hc0 : ¬cond0_0 i) (x0 : Vec Ideal S512x1024 .f32) (x1 : Vec Ideal S512x256 .f32) (x2 : Vec Ideal S512x256 .f32) (x3 : Vec Ideal S512x128 .f32) (x4 : Vec Ideal S512x128 .f32) (x5 : Vec Ideal S1x1024 .f32) (x6 : Vec Ideal S1x256 .f32) (x7 : Vec Ideal S1x256 .f32) (x8 : Vec Ideal S1x16 .f32) (x9 : Vec Ideal S128x256 .f32) (x10 : Vec Ideal S128x256 .f32) (x11 : Vec Ideal S512x1024 .f32) (xo15 : Vec Ideal S1x1024 .f32) (xo16 : Vec Ideal S1x256 .f32) (xo17 : Vec Ideal S1x256 .f32) (xo18 : Vec Ideal S1x16 .f32) (xs0 : Vec Ideal S128x256 .f32) (xs1 : Vec Ideal S128x256 .f32)
theorem at12B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (a : Fin 512) (e : Fin 1024) :
    (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 a e) : Ideal .bf16) = ((D.dQ (512 * b + a) e : ℝ) : EReal) := by
  rw [out12B]; exact (trunc_of _ _ _).trans (dqT_at R a e)
theorem at13B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (a : Fin 512) (e : Fin 256) :
    (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 a e) : Ideal .bf16) = ((D.dK (512 * b + a) e : ℝ) : EReal) := by
  rw [out13B]; exact (trunc_of _ _ _).trans (dkT_at R a e)
theorem at14B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (a : Fin 512) (e : Fin 256) :
    (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 a e) : Ideal .bf16) = ((D.dV (512 * b + a) e : ℝ) : EReal) := by
  rw [out14B]; exact (trunc_of _ _ _).trans (dvT_at R a e)
theorem at15B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (e : Fin 1024) (p : ℝ) (h : xo15 (ix2 0 e) = ((p : ℝ) : EReal)) :
    (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 0 e) : Ideal .f32) = ((p + ∑ a : Fin 512, D.dQ (512 * b + a) e : ℝ) : EReal) := by
  rw [out15B]; exact radd _ _ _ _ h (sumQ_at R e)
theorem at16B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (e : Fin 256) (p : ℝ) (h : xo16 (ix2 0 e) = ((p : ℝ) : EReal)) :
    (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 0 e) : Ideal .f32) = ((p + ∑ a : Fin 512, D.dK (512 * b + a) e : ℝ) : EReal) := by
  rw [out16B]; exact radd _ _ _ _ h (sumK_at R e)
theorem at17B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (e : Fin 256) (p : ℝ) (h : xo17 (ix2 0 e) = ((p : ℝ) : EReal)) :
    (out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 0 e) : Ideal .f32) = ((p + ∑ a : Fin 512, D.dV (512 * b + a) e : ℝ) : EReal) := by
  rw [out17B]; exact radd _ _ _ _ h (sumV_at R e)
theorem at18B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (h : Fin 16) (p : ℝ) (e : xo18 (ix2 0 h) = ((p : ℝ) : EReal)) :
    (out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 0 h) : Ideal .f32) = ((p + skB D b h : ℝ) : EReal) := by
  rw [out18B]
  refine (stB_at arg19 harg19 xo18 (fun h => dskT (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) h) h 16 le_rfl h.isLt).trans ?_
  exact radd' _ _ _ _ e (dskT_at R h)
theorem ats0B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (t : Fin 128) (e : Fin 256) :
    (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 t e) : Ideal .f32) = ((D.dkB (4 * b) (e / 64) t (e % 64) : ℝ) : EReal) := by
  have hc := e.isLt
  rw [outs0B]
  refine (cols_at _ _ t e ⟨e / 64, by omega⟩ ⟨e % 64, by omega⟩ (by show e.val = 64 * (e.val / 64) + e.val % 64; omega) 4 le_rfl (by show e.val / 64 < 4; omega)).trans ?_
  exact (congrFun (cast_of _ _ _ rfl) _).trans (lo_dk R _ _ _)
theorem ats1B {D : Dat} {b : ℕ} (R : Reads (inpB c i arg1 harg1 arg2 harg2 arg3 harg3 arg4 harg4 arg5 harg5 arg6 harg6 arg7 harg7 arg8 harg8 arg9 harg9 arg10 harg10 arg11 harg11 arg12 harg12 arg20 harg20 arg21 harg21 x0 x1 x2 x3 x4 x5 x6 x7 x8 x9 x10 x11 xs0 xs1) D b) (t : Fin 128) (e : Fin 256) :
    (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo15 xo16 xo17 xo18 xs0 xs1 (ix2 t e) : Ideal .f32) = ((D.dvB (4 * b) (e / 64) t (e % 64) : ℝ) : EReal) := by
  have hc := e.isLt
  rw [outs1B]
  refine (cols_at _ _ t e ⟨e / 64, by omega⟩ ⟨e % 64, by omega⟩ (by show e.val = 64 * (e.val / 64) + e.val % 64; omega) 4 le_rfl (by show e.val / 64 < 4; omega)).trans ?_
  exact (congrFun (cast_of _ _ _ rfl) _).trans (lo_dv R _ _ _)
end Cert.KernelIdeal.Swa
-- ==== Proof.Grid.lean ====
/- What each point of the grid leaves, by induction along the grid. -/
module
public import proofs.«01_k».proof.Proof.AtA
public import proofs.«01_k».proof.Proof.AtB
public import proofs.«01_k».proof.Proof.Gen.KernelIdeal.Value

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat cs sn rot turn turnT two sum_split)
variable (m : (ℓ : Loc nD τ sig) → Buf (Elt Ideal) ℓ) (c : Dev nD) (t : Fin cfg0.N)

/-- The blocks that point `t` holds of the operands. -/
abbrev BlkAt (D : Dat) (b : ℕ) : Prop :=
  Blk (grid0.coords t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) D b

theorem mkA {D : Dat} {o0 : Vec Ideal S512x1024 .bf16} {o1 o2 : Vec Ideal S512x256 .bf16} {o3 : Vec Ideal S1x1024 .f32} {o4 o5 : Vec Ideal S1x256 .f32} {o6 : Vec Ideal S1x16 .f32} {o7 o8 : Vec Ideal S128x256 .f32}
    (h0 : ∀ (a : Fin 512) (e : Fin 1024), (o0 (ix2 a e) : Ideal .bf16) = ((D.dQ (512 * 7 + a) e : ℝ) : EReal))
    (h1 : ∀ (a : Fin 512) (e : Fin 256), (o1 (ix2 a e) : Ideal .bf16) = ((D.dK (512 * 7 + a) e : ℝ) : EReal))
    (h2 : ∀ (a : Fin 512) (e : Fin 256), (o2 (ix2 a e) : Ideal .bf16) = ((D.dV (512 * 7 + a) e : ℝ) : EReal))
    (h3 : ∀ e : Fin 1024, (o3 (ix2 0 e) : Ideal .f32) = ((∑ a : Fin 512, D.dQ (512 * 7 + a) e : ℝ) : EReal))
    (h4 : ∀ e : Fin 256, (o4 (ix2 0 e) : Ideal .f32) = ((∑ a : Fin 512, D.dK (512 * 7 + a) e : ℝ) : EReal))
    (h5 : ∀ e : Fin 256, (o5 (ix2 0 e) : Ideal .f32) = ((∑ a : Fin 512, D.dV (512 * 7 + a) e : ℝ) : EReal))
    (h6 : ∀ e : Fin 16, (o6 (ix2 0 e) : Ideal .f32) = ((skB D 7 e : ℝ) : EReal))
    (h7 : ∀ (t : Fin 128) (e : Fin 256), (o7 (ix2 t e) : Ideal .f32) = ((D.dkB (4 * 7) (e / 64) t (e % 64) : ℝ) : EReal))
    (h8 : ∀ (t : Fin 128) (e : Fin 256), (o8 (ix2 t e) : Ideal .f32) = ((D.dvB (4 * 7) (e / 64) t (e % 64) : ℝ) : EReal)) :
    Inv D 0 (o0, o1, o2, o3, o4, o5, o6, o7, o8) where
  dq := h0
  dk := h1
  dv := h2
  bq e := by rw [Finset.sum_range_one]; exact h3 e
  bk e := by rw [Finset.sum_range_one]; exact h4 e
  bv e := by rw [Finset.sum_range_one]; exact h5 e
  sk e := by rw [Finset.sum_range_one]; exact h6 e
  ck := h7
  cv := h8

theorem mkB {D : Dat} {n : ℕ} {p : Outs} (P : Inv D n p) {o0 : Vec Ideal S512x1024 .bf16} {o1 o2 : Vec Ideal S512x256 .bf16} {o3 : Vec Ideal S1x1024 .f32} {o4 o5 : Vec Ideal S1x256 .f32} {o6 : Vec Ideal S1x16 .f32} {o7 o8 : Vec Ideal S128x256 .f32}
    (h0 : ∀ (a : Fin 512) (e : Fin 1024), (o0 (ix2 a e) : Ideal .bf16) = ((D.dQ (512 * (7 - (n + 1)) + a) e : ℝ) : EReal))
    (h1 : ∀ (a : Fin 512) (e : Fin 256), (o1 (ix2 a e) : Ideal .bf16) = ((D.dK (512 * (7 - (n + 1)) + a) e : ℝ) : EReal))
    (h2 : ∀ (a : Fin 512) (e : Fin 256), (o2 (ix2 a e) : Ideal .bf16) = ((D.dV (512 * (7 - (n + 1)) + a) e : ℝ) : EReal))
    (h3 : ∀ (e : Fin 1024) (q : ℝ), (p.2.2.2.1 (ix2 0 e) : Ideal .f32) = ((q : ℝ) : EReal) → (o3 (ix2 0 e) : Ideal .f32) = ((q + ∑ a : Fin 512, D.dQ (512 * (7 - (n + 1)) + a) e : ℝ) : EReal))
    (h4 : ∀ (e : Fin 256) (q : ℝ), (p.2.2.2.2.1 (ix2 0 e) : Ideal .f32) = ((q : ℝ) : EReal) → (o4 (ix2 0 e) : Ideal .f32) = ((q + ∑ a : Fin 512, D.dK (512 * (7 - (n + 1)) + a) e : ℝ) : EReal))
    (h5 : ∀ (e : Fin 256) (q : ℝ), (p.2.2.2.2.2.1 (ix2 0 e) : Ideal .f32) = ((q : ℝ) : EReal) → (o5 (ix2 0 e) : Ideal .f32) = ((q + ∑ a : Fin 512, D.dV (512 * (7 - (n + 1)) + a) e : ℝ) : EReal))
    (h6 : ∀ (e : Fin 16) (q : ℝ), (p.2.2.2.2.2.2.1 (ix2 0 e) : Ideal .f32) = ((q : ℝ) : EReal) → (o6 (ix2 0 e) : Ideal .f32) = ((q + skB D (7 - (n + 1)) e : ℝ) : EReal))
    (h7 : ∀ (t : Fin 128) (e : Fin 256), (o7 (ix2 t e) : Ideal .f32) = ((D.dkB (4 * (7 - (n + 1))) (e / 64) t (e % 64) : ℝ) : EReal))
    (h8 : ∀ (t : Fin 128) (e : Fin 256), (o8 (ix2 t e) : Ideal .f32) = ((D.dvB (4 * (7 - (n + 1))) (e / 64) t (e % 64) : ℝ) : EReal)) :
    Inv D (n + 1) (o0, o1, o2, o3, o4, o5, o6, o7, o8) where
  dq := h0
  dk := h1
  dv := h2
  bq e := by rw [Finset.sum_range_succ _ (n + 1)]; exact h3 e _ (P.bq e)
  bk e := by rw [Finset.sum_range_succ _ (n + 1)]; exact h4 e _ (P.bk e)
  bv e := by rw [Finset.sum_range_succ _ (n + 1)]; exact h5 e _ (P.bv e)
  sk e := by rw [Finset.sum_range_succ _ (n + 1)]; exact h6 e _ (P.sk e)
  ck := h7
  cv := h8

theorem reads_at_A {D : Dat} (H : BlkAt m c t D 7) :
    Reads (inpA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 scM0_1 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)) D 7 := readsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 scM0_1 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) H

theorem pointA (h0 : t.val % 8 = 0) {D : Dat} (H : BlkAt m c t D 7) : Inv D 0 (outsAt0 m c t.val t.isLt) := by
  have R := reads_at_A m c t H
  rw [outsAt0_A m c t h0]
  refine mkA ?_ ?_ ?_ ?_ ?_ ?_ ?_ ?_ ?_
  · exact at12A _ _ _ _ _ _ _ _ _ _ _ _ _ _ _ _ _ _ _ _ _ _ _ _ _ _ _ _ _ _ _ _ _ _ _ _ _ _ _ _ _ _ _ _ _ _ _ _ _ _ _ _ _ _ _ _ _ R
  · exact at13A _ _ _ _ _ _ _ _ _ _ _ _ _ _ _ _ _ _ _ _ _ _ _ _ _ _ _ _ _ _ _ _ _ _ _ _ _ _ _ _ _ _ _ _ _ _ _ _ _ _ _ _ _ _ _ _ _ R
  · exact at14A _ _ _ _ _ _ _ _ _ _ _ _ _ _ _ _ _ _ _ _ _ _ _ _ _ _ _ _ _ _ _ _ _ _ _ _ _ _ _ _ _ _ _ _ _ _ _ _ _ _ _ _ _ _ _ _ _ R
  · exact at15A _ _ _ _ _ _ _ _ _ _ _ _ _ _ _ _ _ _ _ _ _ _ _ _ _ _ _ _ _ _ _ _ _ _ _ _ _ _ _ _ _ _ _ _ _ _ _ _ _ _ _ _ _ _ _ _ _ R
  · exact at16A _ _ _ _ _ _ _ _ _ _ _ _ _ _ _ _ _ _ _ _ _ _ _ _ _ _ _ _ _ _ _ _ _ _ _ _ _ _ _ _ _ _ _ _ _ _ _ _ _ _ _ _ _ _ _ _ _ R
  · exact at17A _ _ _ _ _ _ _ _ _ _ _ _ _ _ _ _ _ _ _ _ _ _ _ _ _ _ _ _ _ _ _ _ _ _ _ _ _ _ _ _ _ _ _ _ _ _ _ _ _ _ _ _ _ _ _ _ _ R
  · exact at18A _ _ _ _ _ _ _ _ _ _ _ _ _ _ _ _ _ _ _ _ _ _ _ _ _ _ _ _ _ _ _ _ _ _ _ _ _ _ _ _ _ _ _ _ _ _ _ _ _ _ _ _ _ _ _ _ _ R
  · exact ats0A _ _ _ _ _ _ _ _ _ _ _ _ _ _ _ _ _ _ _ _ _ _ _ _ _ _ _ _ _ _ _ _ _ _ _ _ _ _ _ _ _ _ _ _ _ _ _ _ _ _ _ _ _ _ _ _ _ R
  · exact ats1A _ _ _ _ _ _ _ _ _ _ _ _ _ _ _ _ _ _ _ _ _ _ _ _ _ _ _ _ _ _ _ _ _ _ _ _ _ _ _ _ _ _ _ _ _ _ _ _ _ _ _ _ _ _ _ _ _ R

theorem reads_at_B {D : Dat} {b : ℕ} (hb : b < 7) (H : BlkAt m c t D b)
    (s0 : ∀ (a : Fin 128) (e : Fin 256), ((outsAt0 m c (t.val - 1) (Nat.lt_of_le_of_lt (Nat.sub_le _ _) t.isLt)).2.2.2.2.2.2.2.1 (ix2 a e) : Ideal .f32) = ((D.dkB (4 * (b + 1)) (e / 64) a (e % 64) : ℝ) : EReal))
    (s1 : ∀ (a : Fin 128) (e : Fin 256), ((outsAt0 m c (t.val - 1) (Nat.lt_of_le_of_lt (Nat.sub_le _ _) t.isLt)).2.2.2.2.2.2.2.2 (ix2 a e) : Ideal .f32) = ((D.dvB (4 * (b + 1)) (e / 64) a (e % 64) : ℝ) : EReal)) :
    Reads (inpB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) D b := readsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 H hb s0 s1

theorem pointB (h0 : ¬t.val % 8 = 0) {D : Dat} {n : ℕ} (hn : n + 1 < 8) (H : BlkAt m c t D (7 - (n + 1)))
    (P : Inv D n (outsAt0 m c (t.val - 1) (Nat.lt_of_le_of_lt (Nat.sub_le _ _) t.isLt))) : Inv D (n + 1) (outsAt0 m c t.val t.isLt) := by
  have en : 7 - (n + 1) + 1 = 7 - n := by omega
  have R := reads_at_B m c t (by omega) H (by rw [en]; exact P.ck) (by rw [en]; exact P.cv)
  rw [outsAt0_B m c t h0]
  refine mkB P ?_ ?_ ?_ ?_ ?_ ?_ ?_ ?_ ?_
  · exact at12B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at13B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at14B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at15B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at16B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at17B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact at18B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact ats0B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R
  · exact ats1B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R

/-- What every point leaves, when every point's blocks hold what block `7 - n` of the data says. -/
theorem inv_all {D : Dat} (H : ∀ t : Fin cfg0.N, BlkAt m c t D (7 - t.val)) :
    ∀ (n : ℕ) (hn : n < cfg0.N), Inv D n (outsAt0 m c n hn)
  | 0, hn => pointA m c ⟨0, hn⟩ rfl (H ⟨0, hn⟩)
  | n + 1, hn => by
    have h8 : n + 1 < 8 := hn
    exact pointB m c ⟨n + 1, hn⟩ (by show ¬(n + 1) % 8 = 0; omega) h8 (H ⟨n + 1, hn⟩) (inv_all H n (by omega))

end Cert.KernelIdeal.Swa
-- ==== Proof.Final.lean ====
/- The kernel's seven arrays after the run. -/
module
public import proofs.«01_k».proof.Proof.Grid

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat cs sn rot turn turnT two sum_split)

theorem sum_rev (f : ℕ → ℝ) : ∑ s ∈ Finset.range 8, f (7 - s) = ∑ b : Fin 8, f b := by
  rw [← Finset.sum_range f, ← Finset.sum_range_reflect f 8]

theorem sum_rows (f : ℕ → ℝ) : ∑ s ∈ Finset.range 8, ∑ i : Fin 512, f (512 * (7 - s) + i) = ∑ r : Fin 4096, f r := by
  rw [sum_rev (fun b => ∑ i : Fin 512, f (512 * b + i))]
  exact (sum_split 8 512 4096 rfl f).symm

theorem sum_sk (D : Dat) (h : ℕ) : ∑ s ∈ Finset.range 8, skB D (7 - s) h = D.dSk h := by
  rw [sum_rev (fun b => skB D b h)]
  unfold Dat.dSk
  rw [sum_split 8 4 32 rfl (fun n => ∑ q : Fin 128, (D.row n h q).W * (D.row n h q).E)]
  refine Finset.sum_congr rfl fun b _ => ?_
  rw [Fin.sum_univ_four, ← Finset.sum_add_distrib, ← Finset.sum_add_distrib, ← Finset.sum_add_distrib]
  unfold skB
  refine Finset.sum_congr rfl fun q _ => ?_
  simp only [Fin.val_zero, Fin.val_one, Fin.val_two, add_zero, show ((3 : Fin 4) : ℕ) = 3 from rfl]
  ring

theorem Inv.dq_at {D : Dat} {n : ℕ} {o : Outs} (I : Inv D n o) (y : S512x1024.Idx) :
    (o.1 y : Ideal .bf16) = ((D.dQ ((7 - n) * 512 + (y 0).val) (y 1).val : ℝ) : EReal) := by
  obtain ⟨a, b, rfl⟩ : ∃ (a : Fin 512) (b : Fin 1024), y = ix2 a b := ⟨y 0, y 1, eq_ix2 y⟩
  rw [mul_comm (7 - n) 512]; exact I.dq a b

theorem Inv.dk_at {D : Dat} {n : ℕ} {o : Outs} (I : Inv D n o) (y : S512x256.Idx) :
    (o.2.1 y : Ideal .bf16) = ((D.dK ((7 - n) * 512 + (y 0).val) (y 1).val : ℝ) : EReal) := by
  obtain ⟨a, b, rfl⟩ : ∃ (a : Fin 512) (b : Fin 256), y = ix2 a b := ⟨y 0, y 1, eq_ix2 y⟩
  rw [mul_comm (7 - n) 512]; exact I.dk a b

theorem Inv.dv_at {D : Dat} {n : ℕ} {o : Outs} (I : Inv D n o) (y : S512x256.Idx) :
    (o.2.2.1 y : Ideal .bf16) = ((D.dV ((7 - n) * 512 + (y 0).val) (y 1).val : ℝ) : EReal) := by
  obtain ⟨a, b, rfl⟩ : ∃ (a : Fin 512) (b : Fin 256), y = ix2 a b := ⟨y 0, y 1, eq_ix2 y⟩
  rw [mul_comm (7 - n) 512]; exact I.dv a b

theorem Inv.bq_at {D : Dat} {o : Outs} (I : Inv D 7 o) (y : S1x1024.Idx) :
    (o.2.2.2.1 y : Ideal .f32) = ((D.dBq (y 1).val : ℝ) : EReal) := by
  obtain ⟨a, b, rfl⟩ : ∃ (a : Fin 1) (b : Fin 1024), y = ix2 a b := ⟨y 0, y 1, eq_ix2 y⟩
  obtain rfl : a = 0 := Subsingleton.elim _ _
  refine (I.bq b).trans (congrArg (fun x : ℝ => (x : EReal)) ?_)
  exact sum_rows fun r => D.dQ r b

theorem Inv.bk_at {D : Dat} {o : Outs} (I : Inv D 7 o) (y : S1x256.Idx) :
    (o.2.2.2.2.1 y : Ideal .f32) = ((D.dBk (y 1).val : ℝ) : EReal) := by
  obtain ⟨a, b, rfl⟩ : ∃ (a : Fin 1) (b : Fin 256), y = ix2 a b := ⟨y 0, y 1, eq_ix2 y⟩
  obtain rfl : a = 0 := Subsingleton.elim _ _
  refine (I.bk b).trans (congrArg (fun x : ℝ => (x : EReal)) ?_)
  exact sum_rows fun r => D.dK r b

theorem Inv.bv_at {D : Dat} {o : Outs} (I : Inv D 7 o) (y : S1x256.Idx) :
    (o.2.2.2.2.2.1 y : Ideal .f32) = ((D.dBv (y 1).val : ℝ) : EReal) := by
  obtain ⟨a, b, rfl⟩ : ∃ (a : Fin 1) (b : Fin 256), y = ix2 a b := ⟨y 0, y 1, eq_ix2 y⟩
  obtain rfl : a = 0 := Subsingleton.elim _ _
  refine (I.bv b).trans (congrArg (fun x : ℝ => (x : EReal)) ?_)
  exact sum_rows fun r => D.dV r b

theorem Inv.sk_at {D : Dat} {o : Outs} (I : Inv D 7 o) (y : S1x16.Idx) :
    (o.2.2.2.2.2.2.1 y : Ideal .f32) = ((D.dSk (y 1).val : ℝ) : EReal) := by
  obtain ⟨a, b, rfl⟩ : ∃ (a : Fin 1) (b : Fin 16), y = ix2 a b := ⟨y 0, y 1, eq_ix2 y⟩
  obtain rfl : a = 0 := Subsingleton.elim _ _
  refine (I.sk b).trans (congrArg (fun x : ℝ => (x : EReal)) ?_)
  exact sum_sk D b

variable (m : (ℓ : Loc nD τ sig) → Buf (Elt Ideal) ℓ) (c : Dev nD) {D : Dat} (H : ∀ t : Fin cfg0.N, BlkAt m c t D (7 - t.val))

theorem index12 : ∀ t : Fin cfg0.N, win0_12.index t = ![7 - t.val, 0] := (by decide +kernel : ∀ t : Fin grid0.N, win0_12.index t = ![7 - t.val, 0])
theorem index13 : ∀ t : Fin cfg0.N, win0_13.index t = ![7 - t.val, 0] := (by decide +kernel : ∀ t : Fin grid0.N, win0_13.index t = ![7 - t.val, 0])
theorem index14 : ∀ t : Fin cfg0.N, win0_14.index t = ![7 - t.val, 0] := (by decide +kernel : ∀ t : Fin grid0.N, win0_14.index t = ![7 - t.val, 0])

include H in
theorem final12 : (dats m 0 c).arrAt 12 cfg0.N = (fun i : S4096x1024.Idx => ((D.dQ (i 0) (i 1) : ℝ) : EReal)) := by
  refine (dats m 0 c).arrAt_eq_of_covers 12 _ (by decide +kernel) fun t hf y => ?_
  blk_simp [index12]
  rw [after0_12]
  exact (inv_all m c H t.val t.isLt).dq_at y

include H in
theorem final13 : (dats m 0 c).arrAt 13 cfg0.N = (fun i : S4096x256.Idx => ((D.dK (i 0) (i 1) : ℝ) : EReal)) := by
  refine (dats m 0 c).arrAt_eq_of_covers 13 _ (by decide +kernel) fun t hf y => ?_
  blk_simp [index13]
  rw [after0_13]
  exact (inv_all m c H t.val t.isLt).dk_at y

include H in
theorem final14 : (dats m 0 c).arrAt 14 cfg0.N = (fun i : S4096x256.Idx => ((D.dV (i 0) (i 1) : ℝ) : EReal)) := by
  refine (dats m 0 c).arrAt_eq_of_covers 14 _ (by decide +kernel) fun t hf y => ?_
  blk_simp [index14]
  rw [after0_14]
  exact (inv_all m c H t.val t.isLt).dv_at y

include H in
theorem final15 : (dats m 0 c).arrAt 15 cfg0.N = (fun i : S1x1024.Idx => ((D.dBq (i 1) : ℝ) : EReal)) := by
  refine (dats m 0 c).arrAt_eq_of_after_last 15 t0_7 (by decide +kernel) _ fun j => ?_
  blk_simp
  rw [after0_15]
  exact (inv_all m c H t0_7.val t0_7.isLt).bq_at j

include H in
theorem final16 : (dats m 0 c).arrAt 16 cfg0.N = (fun i : S1x256.Idx => ((D.dBk (i 1) : ℝ) : EReal)) := by
  refine (dats m 0 c).arrAt_eq_of_after_last 16 t0_7 (by decide +kernel) _ fun j => ?_
  blk_simp
  rw [after0_16]
  exact (inv_all m c H t0_7.val t0_7.isLt).bk_at j

include H in
theorem final17 : (dats m 0 c).arrAt 17 cfg0.N = (fun i : S1x256.Idx => ((D.dBv (i 1) : ℝ) : EReal)) := by
  refine (dats m 0 c).arrAt_eq_of_after_last 17 t0_7 (by decide +kernel) _ fun j => ?_
  blk_simp
  rw [after0_17]
  exact (inv_all m c H t0_7.val t0_7.isLt).bv_at j

include H in
theorem final18 : (dats m 0 c).arrAt 18 cfg0.N = (fun i : S1x16.Idx => ((D.dSk (i 1) : ℝ) : EReal)) := by
  refine (dats m 0 c).arrAt_eq_of_after_last 18 t0_7 (by decide +kernel) _ fun j => ?_
  blk_simp
  rw [after0_18]
  exact (inv_all m c H t0_7.val t0_7.isLt).sk_at j

end Cert.KernelIdeal.Swa
-- ==== Proof.HostA.lean ====
/- What the host lines before the region leave: lane numbers, angle tables, the bias pieces and the saved rows. -/
module
public import proofs.«01_k».proof.Proof.Spec
public import proofs.«01_k».proof.Proof.Gen.KernelIdeal.Frame
public import Idealize.ShloMosaic.Lib.Pointwise
public import Idealize.ShloMosaic.Lib.StableHlo.RunRead

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat ang cs sn rot turn turnT two sum_split)

variable (m : (ℓ : Loc nD τ sig) → Buf (Elt Ideal) ℓ) (c : Dev nD)

/-- The remainder the host lines compute, at one word. -/
def rem1 (x n : BitVec 32) : BitVec 32 :=
  let d := Scalar.select (IntOp.cmpi .eq n 0#32) 1#32 n
  let r := IntOp.remsi .host x d
  Scalar.select (IntOp.andi (IntOp.cmpi .ne (IntOp.cmpi .slt r 0#32) (IntOp.cmpi .slt d 0#32)) (IntOp.cmpi .ne r 0#32)) (IntOp.addi r d) r

theorem v4_eq : (V m c main_v4 : IVec S128 32) = fun i => rem1 (BitVec.ofNat 32 (i 0).val) 64#32 := by
  unfold V
  simp only [List.flatten_cons, List.flatten_nil, List.append_nil, List.cons_append, List.nil_append]
  after_reads_simp
  rfl

theorem v5_eq : (V m c main_v5 : IVec S128 32) = fun i => rem1 ((V m c main_v4 : IVec S128 32) i) 8#32 := by
  unfold V
  simp only [List.flatten_cons, List.flatten_nil, List.append_nil, List.cons_append, List.nil_append]
  after_reads_simp
  rfl

theorem v16_eq : (V m c main_v16 : FVec Ideal S128 .f32) =
    select (cmpi .slt (V m c main_v4 : IVec S128 32) (broadcastInDim S128 ![] bcast_S_S128 (constantI S_ 32 16#32)))
      (Host.powf (broadcastInDim S128 ![] bcast_S_S128 (constant S_ .f32 0x48F42400#32))
        (Host.divf (Host.negf (sitofp .f32 (V m c main_v5 : IVec S128 32))) (broadcastInDim S128 ![] bcast_S_S128 (constant S_ .f32 0x41000000#32))))
      (broadcastInDim S128 ![] bcast_S_S128 (constant (F := Ideal) S_ .f32 0x00000000#32)) := by
  unfold V
  simp only [List.flatten_cons, List.flatten_nil, List.append_nil, List.cons_append, List.nil_append]
  after_reads_simp
  rfl

theorem v20_eq : (V m c main_v20 : FVec Ideal S4096x128 .f32) =
    mulf (broadcastInDim S4096x128 ![0, 1] bcast_S4096x1_S4096x128_0_1 (broadcastInDim S4096x1 ![0] bcast_S4096_S4096x1_0 (sitofp (F := Ideal) .f32 (iotaInDim S4096 32 0))))
      (broadcastInDim S4096x128 ![0, 1] bcast_S1x128_S4096x128_0_1 (broadcastInDim S1x128 ![1] bcast_S128_S1x128_1 (V m c main_v16 : FVec Ideal S128 .f32))) := by
  unfold V
  simp only [List.flatten_cons, List.flatten_nil, List.append_nil, List.cons_append, List.nil_append]
  after_reads_simp

theorem v21_eq : (V m c main_v21 : FVec Ideal S4096x128 .f32) = (Host.cos (V m c main_v20 : FVec Ideal S4096x128 .f32) : FVec Ideal S4096x128 .f32) := by
  unfold V
  simp only [List.flatten_cons, List.flatten_nil, List.append_nil, List.cons_append, List.nil_append]
  after_reads_simp

theorem v22_eq : (V m c main_v22 : FVec Ideal S4096x128 .f32) = (Host.sin (V m c main_v20 : FVec Ideal S4096x128 .f32) : FVec Ideal S4096x128 .f32) := by
  unfold V
  simp only [List.flatten_cons, List.flatten_nil, List.append_nil, List.cons_append, List.nil_append]
  after_reads_simp

theorem v0_eq : (V m c main_v0 : FVec Ideal S1x1024 .f32) = extractStridedSlice S1x1024 ![0, 0] (m ((c : Thread nD τ).loc main_arg1) : FVec Ideal S1x1536 .f32) slices_S1x1536_S1x1024_0_0 := by
  unfold V
  simp only [List.flatten_cons, List.flatten_nil, List.append_nil, List.cons_append, List.nil_append]
  after_reads_simp

theorem v1_eq : (V m c main_v1 : FVec Ideal S1x256 .f32) = extractStridedSlice S1x256 ![0, 1024] (m ((c : Thread nD τ).loc main_arg1) : FVec Ideal S1x1536 .f32) slices_S1x1536_S1x256_0_1024 := by
  unfold V
  simp only [List.flatten_cons, List.flatten_nil, List.append_nil, List.cons_append, List.nil_append]
  after_reads_simp

theorem v2_eq : (V m c main_v2 : FVec Ideal S1x256 .f32) = extractStridedSlice S1x256 ![0, 1280] (m ((c : Thread nD τ).loc main_arg1) : FVec Ideal S1x1536 .f32) slices_S1x1536_S1x256_0_1280 := by
  unfold V
  simp only [List.flatten_cons, List.flatten_nil, List.append_nil, List.cons_append, List.nil_append]
  after_reads_simp

theorem v28_eq : (V m c main_v28 : FVec Ideal S4096x256 .f32) =
    (addf (extractStridedSlice S4096x256 ![0, 2048] (m ((c : Thread nD τ).loc main_arg0) : FVec Ideal S4096x2560 .f32) slices_S4096x2560_S4096x256_0_2048)
      (broadcastInDim S4096x256 ![0, 1] bcast_S1x256_S4096x256_0_1 (V m c main_v1 : FVec Ideal S1x256 .f32)) : FVec Ideal S4096x256 .f32) := by
  unfold V
  simp only [List.flatten_cons, List.flatten_nil, List.append_nil, List.cons_append, List.nil_append]
  after_reads_simp

theorem v66_eq : (V m c main_v66 : FVec Ideal S4096x256 .f32) =
    (addf (extractStridedSlice S4096x256 ![0, 2304] (m ((c : Thread nD τ).loc main_arg0) : FVec Ideal S4096x2560 .f32) slices_S4096x2560_S4096x256_0_2304)
      (broadcastInDim S4096x256 ![0, 1] bcast_S1x256_S4096x256_0_1 (V m c main_v2 : FVec Ideal S1x256 .f32)) : FVec Ideal S4096x256 .f32) := by
  unfold V
  simp only [List.flatten_cons, List.flatten_nil, List.append_nil, List.cons_append, List.nil_append]
  after_reads_simp

end Cert.KernelIdeal.Swa
-- ==== Proof.HostB.lean ====
/- The saved rows the host lines leave: turned keys and values of the row blocks before. -/
module
public import proofs.«01_k».proof.Proof.HostA
public import proofs.«01_k».proof.Proof.Gen.KernelIdeal.Frame
public import Idealize.ShloMosaic.Lib.Pointwise
public import Idealize.ShloMosaic.Lib.StableHlo.RunRead

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat ang cs sn rot turn turnT two sum_split)

variable (m : (ℓ : Loc nD τ sig) → Buf (Elt Ideal) ℓ) (c : Dev nD)

theorem cat_congr {α : Type} {t s₁ s₂ : Shape} {d : Fin t.rank} {a a' : s₁.Idx → α} {b b' : s₂.Idx → α} (h : Shape.Concatenates [s₁, s₂] t d)
    (ea : a = a') (eb : b = b') : concatenate t d [⟨s₁, a⟩, ⟨s₂, b⟩] h = concatenate t d [⟨s₁, a'⟩, ⟨s₂, b'⟩] h := by subst ea eb; rfl

theorem v42_eq : (V m c main_v42 : FVec Ideal S4096x8 .f32) =
    (mulf (broadcastInDim S4096x8 ![0, 1] bcast_S4096x1_S4096x8_0_1 (broadcastInDim S4096x1 ![0] bcast_S4096_S4096x1_0 (sitofp (F := Ideal) .f32 (iotaInDim S4096 32 0))))
      (broadcastInDim S4096x8 ![0, 1] bcast_S1x8_S4096x8_0_1 (broadcastInDim S1x8 ![1] bcast_S8_S1x8_1
        (Host.powf (broadcastInDim S8 ![] bcast_S_S8 (constant S_ .f32 0x48F42400#32))
          (Host.divf (Host.negf (sitofp (F := Ideal) .f32 (iotaInDim S8 32 0))) (broadcastInDim S8 ![] bcast_S_S8 (constant (F := Ideal) S_ .f32 0x41000000#32)))))) : FVec Ideal S4096x8 .f32) := by
  unfold V
  simp only [List.flatten_cons, List.flatten_nil, List.append_nil, List.cons_append, List.nil_append]
  after_reads_simp

theorem v44_eq : (V m c main_v44 : FVec Ideal S1x4096x1x8 .f32) =
    (broadcastInDim S1x4096x1x8 ![1, 3] bcast_S4096x8_S1x4096x1x8_1_3 (Host.cos (V m c main_v42 : FVec Ideal S4096x8 .f32)) : FVec Ideal S1x4096x1x8 .f32) := by
  unfold V
  simp only [List.flatten_cons, List.flatten_nil, List.append_nil, List.cons_append, List.nil_append]
  after_reads_simp

theorem v46_eq : (V m c main_v46 : FVec Ideal S1x4096x1x8 .f32) =
    (broadcastInDim S1x4096x1x8 ![1, 3] bcast_S4096x8_S1x4096x1x8_1_3 (Host.sin (V m c main_v42 : FVec Ideal S4096x8 .f32)) : FVec Ideal S1x4096x1x8 .f32) := by
  unfold V
  simp only [List.flatten_cons, List.flatten_nil, List.append_nil, List.cons_append, List.nil_append]
  after_reads_simp

theorem v29_eq : (V m c main_v29 : FVec Ideal S1x4096x4x64 .f32) =
    (shapeCast S1x4096x4x64 (V m c main_v28 : FVec Ideal S4096x256 .f32) shapeCasts_S4096x256_S1x4096x4x64 : FVec Ideal S1x4096x4x64 .f32) := by
  unfold V
  simp only [List.flatten_cons, List.flatten_nil, List.append_nil, List.cons_append, List.nil_append]
  after_reads_simp
  rfl

theorem v48_eq : (V m c main_v48 : FVec Ideal S1x4096x4x8 .f32) =
    (extractStridedSlice S1x4096x4x8 ![0, 0, 0, 0] (extractStridedSlice S1x4096x4x16 ![0, 0, 0, 0] (V m c main_v29 : FVec Ideal S1x4096x4x64 .f32) slices_S1x4096x4x64_S1x4096x4x16_0_0_0_0) slices_S1x4096x4x16_S1x4096x4x8_0_0_0_0 : FVec Ideal S1x4096x4x8 .f32) := by
  unfold V
  simp only [List.flatten_cons, List.flatten_nil, List.append_nil, List.cons_append, List.nil_append]
  after_reads_simp

theorem v49_eq : (V m c main_v49 : FVec Ideal S1x4096x4x8 .f32) =
    (extractStridedSlice S1x4096x4x8 ![0, 0, 0, 8] (extractStridedSlice S1x4096x4x16 ![0, 0, 0, 0] (V m c main_v29 : FVec Ideal S1x4096x4x64 .f32) slices_S1x4096x4x64_S1x4096x4x16_0_0_0_0) slices_S1x4096x4x16_S1x4096x4x8_0_0_0_8 : FVec Ideal S1x4096x4x8 .f32) := by
  unfold V
  simp only [List.flatten_cons, List.flatten_nil, List.append_nil, List.cons_append, List.nil_append]
  after_reads_simp

theorem v54_eq : (V m c main_v54 : FVec Ideal S1x4096x4x8 .f32) =
    (subf (mulf (V m c main_v48 : FVec Ideal S1x4096x4x8 .f32) (broadcastInDim S1x4096x4x8 ![0, 1, 2, 3] bcast_S1x4096x1x8_S1x4096x4x8_0_1_2_3 (V m c main_v44 : FVec Ideal S1x4096x1x8 .f32))) (mulf (V m c main_v49 : FVec Ideal S1x4096x4x8 .f32) (broadcastInDim S1x4096x4x8 ![0, 1, 2, 3] bcast_S1x4096x1x8_S1x4096x4x8_0_1_2_3 (V m c main_v46 : FVec Ideal S1x4096x1x8 .f32))) : FVec Ideal S1x4096x4x8 .f32) := by
  unfold V
  simp only [List.flatten_cons, List.flatten_nil, List.append_nil, List.cons_append, List.nil_append]
  after_reads_simp

theorem v59_eq : (V m c main_v59 : FVec Ideal S1x4096x4x8 .f32) =
    (addf (mulf (V m c main_v49 : FVec Ideal S1x4096x4x8 .f32) (broadcastInDim S1x4096x4x8 ![0, 1, 2, 3] bcast_S1x4096x1x8_S1x4096x4x8_0_1_2_3 (V m c main_v44 : FVec Ideal S1x4096x1x8 .f32))) (mulf (V m c main_v48 : FVec Ideal S1x4096x4x8 .f32) (broadcastInDim S1x4096x4x8 ![0, 1, 2, 3] bcast_S1x4096x1x8_S1x4096x4x8_0_1_2_3 (V m c main_v46 : FVec Ideal S1x4096x1x8 .f32))) : FVec Ideal S1x4096x4x8 .f32) := by
  unfold V
  simp only [List.flatten_cons, List.flatten_nil, List.append_nil, List.cons_append, List.nil_append]
  after_reads_simp

theorem v60_eq : (V m c main_v60 : FVec Ideal S1x4096x4x16 .f32) =
    (concatenate S1x4096x4x16 3 [⟨S1x4096x4x8, (V m c main_v54 : FVec Ideal S1x4096x4x8 .f32)⟩, ⟨S1x4096x4x8, (V m c main_v59 : FVec Ideal S1x4096x4x8 .f32)⟩] concatenates_S1x4096x4x8_S1x4096x4x8_S1x4096x4x16_d3 : FVec Ideal S1x4096x4x16 .f32) := by
  unfold V
  simp only [List.flatten_cons, List.flatten_nil, List.append_nil, List.cons_append, List.nil_append]
  after_reads_simp
  refine cat_congr _ ?_ ?_ <;> after_reads_simp

theorem v61_eq : (V m c main_v61 : FVec Ideal S1x4096x4x48 .f32) =
    (extractStridedSlice S1x4096x4x48 ![0, 0, 0, 16] (V m c main_v29 : FVec Ideal S1x4096x4x64 .f32) slices_S1x4096x4x64_S1x4096x4x48_0_0_0_16 : FVec Ideal S1x4096x4x48 .f32) := by
  unfold V
  simp only [List.flatten_cons, List.flatten_nil, List.append_nil, List.cons_append, List.nil_append]
  after_reads_simp

theorem v62_eq : (V m c main_v62 : FVec Ideal S1x4096x4x64 .f32) =
    (concatenate S1x4096x4x64 3 [⟨S1x4096x4x16, (V m c main_v60 : FVec Ideal S1x4096x4x16 .f32)⟩, ⟨S1x4096x4x48, (V m c main_v61 : FVec Ideal S1x4096x4x48 .f32)⟩] concatenates_S1x4096x4x16_S1x4096x4x48_S1x4096x4x64_d3 : FVec Ideal S1x4096x4x64 .f32) := by
  unfold V
  simp only [List.flatten_cons, List.flatten_nil, List.append_nil, List.cons_append, List.nil_append]
  after_reads_simp
  refine cat_congr _ ?_ ?_ <;> after_reads_simp

theorem v63_eq : (V m c main_v63 : FVec Ideal S4096x256 .f32) =
    (shapeCast S4096x256 (V m c main_v62 : FVec Ideal S1x4096x4x64 .f32) shapeCasts_S1x4096x4x64_S4096x256 : FVec Ideal S4096x256 .f32) := by
  unfold V
  simp only [List.flatten_cons, List.flatten_nil, List.append_nil, List.cons_append, List.nil_append]
  after_reads_simp
  rfl

theorem v71_eq : (V m c main_v71 : FVec Ideal S1024x256 .f32) =
    (concatenate S1024x256 0 [⟨S128x256, broadcastInDim S128x256 ![] bcast_S_S128x256 (constant (F := Ideal) S_ .f32 0x00000000#32)⟩, ⟨S896x256, shapeCast S896x256 (extractStridedSlice S7x128x256 ![0, 384, 0] (shapeCast S8x512x256 (V m c main_v63 : FVec Ideal S4096x256 .f32) shapeCasts_S4096x256_S8x512x256) slices_S8x512x256_S7x128x256_0_384_0) shapeCasts_S7x128x256_S896x256⟩] concatenates_S128x256_S896x256_S1024x256_d0 : FVec Ideal S1024x256 .f32) := by
  unfold V
  simp only [List.flatten_cons, List.flatten_nil, List.append_nil, List.cons_append, List.nil_append]
  after_reads_simp
  refine cat_congr _ ?_ ?_
  · after_reads_simp
  · after_reads_simp; rfl

theorem v76_eq : (V m c main_v76 : FVec Ideal S1024x256 .f32) =
    (concatenate S1024x256 0 [⟨S128x256, broadcastInDim S128x256 ![] bcast_S_S128x256 (constant (F := Ideal) S_ .f32 0x00000000#32)⟩, ⟨S896x256, shapeCast S896x256 (extractStridedSlice S7x128x256 ![0, 384, 0] (shapeCast S8x512x256 (V m c main_v66 : FVec Ideal S4096x256 .f32) shapeCasts_S4096x256_S8x512x256) slices_S8x512x256_S7x128x256_0_384_0) shapeCasts_S7x128x256_S896x256⟩] concatenates_S128x256_S896x256_S1024x256_d0 : FVec Ideal S1024x256 .f32) := by
  unfold V
  simp only [List.flatten_cons, List.flatten_nil, List.append_nil, List.cons_append, List.nil_append]
  after_reads_simp
  refine cat_congr _ ?_ ?_
  · after_reads_simp
  · after_reads_simp; rfl

end Cert.KernelIdeal.Swa
-- ==== Proof.HostC.lean ====
/- The host lines read at an index, over arguments that are real numbers. -/
module
public import proofs.«01_k».proof.Proof.HostB
public import proofs.«01_k».proof.Proof.Gen.KernelIdeal.Frame
public import Idealize.ShloMosaic.Lib.Pointwise
public import Idealize.ShloMosaic.Lib.StableHlo.RunRead

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat ang cs sn rot turn turnT two sum_split)

variable (m : (ℓ : Loc nD τ sig) → Buf (Elt Ideal) ℓ) (c : Dev nD)

theorem c_eight : Ideal.ofBits .f32 0x41000000#32 = ((8 : ℝ) : EReal) := by
  show Ideal.ofBits .f32 _ = _; simp [Ideal.ofBits, Ideal.ieee, -EReal.coe_mul]; norm_num
theorem c_theta : Ideal.ofBits .f32 0x48F42400#32 = ((500000 : ℝ) : EReal) := by
  show Ideal.ofBits .f32 _ = _; simp [Ideal.ofBits, Ideal.ieee, -EReal.coe_mul]; norm_num

theorem word_nat (n : ℕ) (h : n < 4096) : (FloatOps.sitofp (F := Ideal) FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem rem64 : ∀ l : Fin 128, rem1 (BitVec.ofNat 32 l.val) 64#32 = BitVec.ofNat 32 (l.val % 64) := by decide +kernel
theorem rem8 : ∀ l : Fin 64, rem1 (BitVec.ofNat 32 l.val) 8#32 = BitVec.ofNat 32 (l.val % 8) := by decide +kernel
theorem slt16 : ∀ l : Fin 64, (IntOp.cmpi .slt (BitVec.ofNat 32 l.val) 16#32 = 1) ↔ (l.val < 16) := by decide +kernel

theorem v4_at (l : Fin 128) : (V m c main_v4 : IVec S128 32) (ix1 l) = BitVec.ofNat 32 (l.val % 64) := by
  rw [v4_eq]; exact rem64 l
theorem v5_at (l : Fin 128) : (V m c main_v5 : IVec S128 32) (ix1 l) = BitVec.ofNat 32 (l.val % 8) := by
  rw [v5_eq]; show rem1 ((V m c main_v4 : IVec S128 32) (ix1 l)) 8#32 = _
  rw [v4_at, show l.val % 8 = l.val % 64 % 8 by omega]; exact rem8 ⟨l.val % 64, by omega⟩

theorem v16_at (l : Fin 128) : ((V m c main_v16 : FVec Ideal S128 .f32) (ix1 l) : Ideal .f32)
    = ((if l.val % 64 < 16 then (500000 : ℝ) ^ (-((l.val % 8 : ℕ) : ℝ) / 8) else 0 : ℝ) : EReal) := by
  have h8 : l.val % 8 < 8 := Nat.mod_lt _ (by norm_num)
  rw [v16_eq]
  pointwise []
  rw [v4_at, v5_at, word_nat _ (by omega), c_eight, c_theta, Ideal.div_coe (by norm_num), ← EReal.coe_neg, ← EReal.coe_mul, Ideal.pow_coe_coe]
  unfold Scalar.select
  have e := slt16 ⟨l.val % 64, by omega⟩
  by_cases h : l.val % 64 < 16
  · rw [if_pos (e.2 h), if_pos h]
    congr 1
    show Real.rpow _ _ = Real.rpow _ _
    congr 1; ring
  · rw [if_neg (fun k => h (e.1 k)), if_neg h]; rfl

theorem v20_at (r : Fin 4096) (l : Fin 128) : ((V m c main_v20 : FVec Ideal S4096x128 .f32) (ix2 r l) : Ideal .f32)
    = ((r * (if l.val % 64 < 16 then (500000 : ℝ) ^ (-((l.val % 8 : ℕ) : ℝ) / 8) else 0) : ℝ) : EReal) := by
  rw [v20_eq]
  pointwise []
  rw [v16_at, word_nat _ r.isLt, ← EReal.coe_mul]

theorem v21_at (r : Fin 4096) (l : Fin 128) : ((V m c main_v21 : FVec Ideal S4096x128 .f32) (ix2 r l) : Ideal .f32)
    = ((cs r (l.val % 64) : ℝ) : EReal) := by
  rw [v21_eq]
  pointwise []
  rw [v20_at]
  show ((Real.cos _ : ℝ) : EReal) = _
  unfold cs ang
  rw [show l.val % 64 % 8 = l.val % 8 by omega]
  by_cases h : l.val % 64 < 16
  · rw [if_pos h, if_pos h]
  · rw [if_neg h, if_neg h, mul_zero, Real.cos_zero]
theorem v22_at (r : Fin 4096) (l : Fin 128) : ((V m c main_v22 : FVec Ideal S4096x128 .f32) (ix2 r l) : Ideal .f32)
    = ((sn r (l.val % 64) : ℝ) : EReal) := by
  rw [v22_eq]
  pointwise []
  rw [v20_at]
  show ((Real.sin _ : ℝ) : EReal) = _
  unfold sn ang
  rw [show l.val % 64 % 8 = l.val % 8 by omega]
  by_cases h : l.val % 64 < 16
  · rw [if_pos h, if_pos h]
  · rw [if_neg h, if_neg h, mul_zero, Real.sin_zero]

theorem v42_at (r : Fin 4096) (l : Fin 8) : ((V m c main_v42 : FVec Ideal S4096x8 .f32) (ix2 r l) : Ideal .f32) = ((ang r l : ℝ) : EReal) := by
  have hl := l.isLt
  rw [v42_eq]
  pointwise []
  rw [word_nat _ r.isLt, word_nat _ (by omega), c_eight, c_theta, Ideal.div_coe (by norm_num), ← EReal.coe_neg, ← EReal.coe_mul, Ideal.pow_coe_coe, ← EReal.coe_mul]
  congr 1
  show _ * Real.rpow _ _ = _ * Real.rpow _ _
  congr 2; ring
theorem v44_at (r : Fin 4096) (l : Fin 8) : ((V m c main_v44 : FVec Ideal S1x4096x1x8 .f32) (ix4 0 r 0 l) : Ideal .f32) = ((Real.cos (ang r l) : ℝ) : EReal) := by
  rw [v44_eq]
  pointwise []
  rw [v42_at]; rfl
theorem v46_at (r : Fin 4096) (l : Fin 8) : ((V m c main_v46 : FVec Ideal S1x4096x1x8 .f32) (ix4 0 r 0 l) : Ideal .f32) = ((Real.sin (ang r l) : ℝ) : EReal) := by
  rw [v46_eq]
  pointwise []
  rw [v42_at]; rfl

variable {m c} {D : Dat}

/-- Two of the arguments are the real numbers of `D`. -/
structure Real2 (m : (ℓ : Loc nD τ sig) → Buf (Elt Ideal) ℓ) (c : Dev nD) (D : Dat) : Prop where
  X : ∀ (r : Fin 4096) (k : Fin 2560), ((m ((c : Thread nD τ).loc main_arg0) : FVec Ideal S4096x2560 .f32) (ix2 r k) : Ideal .f32) = ((D.X r k : ℝ) : EReal)
  B : ∀ k : Fin 1536, ((m ((c : Thread nD τ).loc main_arg1) : FVec Ideal S1x1536 .f32) (ix2 0 k) : Ideal .f32) = ((D.B k : ℝ) : EReal)

theorem Real2.x_at (A : Real2 m c D) (r : Fin 4096) (k : Fin 2560) {k' : ℕ} (e : k.val = k') :
    ((m ((c : Thread nD τ).loc main_arg0) : FVec Ideal S4096x2560 .f32) (ix2 r k) : Ideal .f32) = ((D.X r k' : ℝ) : EReal) := by subst e; exact A.X r k
theorem Real2.b_at (A : Real2 m c D) (k : Fin 1536) {k' : ℕ} (e : k.val = k') :
    ((m ((c : Thread nD τ).loc main_arg1) : FVec Ideal S1x1536 .f32) (ix2 0 k) : Ideal .f32) = ((D.B k' : ℝ) : EReal) := by subst e; exact A.B k

theorem v0_at (A : Real2 m c D) (k : Fin 1024) : ((V m c main_v0 : FVec Ideal S1x1024 .f32) (ix2 0 k) : Ideal .f32) = ((D.B k : ℝ) : EReal) := by
  rw [v0_eq]
  pointwise []
  rw [A.b_at _ rfl]
theorem v1_at (A : Real2 m c D) (k : Fin 256) : ((V m c main_v1 : FVec Ideal S1x256 .f32) (ix2 0 k) : Ideal .f32) = ((D.B (1024 + k) : ℝ) : EReal) := by
  rw [v1_eq]
  pointwise []
  rw [A.b_at _ rfl]
theorem v2_at (A : Real2 m c D) (k : Fin 256) : ((V m c main_v2 : FVec Ideal S1x256 .f32) (ix2 0 k) : Ideal .f32) = ((D.B (1280 + k) : ℝ) : EReal) := by
  rw [v2_eq]
  pointwise []
  rw [A.b_at _ rfl]
theorem v28_at (A : Real2 m c D) (r : Fin 4096) (k : Fin 256) : ((V m c main_v28 : FVec Ideal S4096x256 .f32) (ix2 r k) : Ideal .f32) = ((D.X r (2048 + k) + D.B (1024 + k) : ℝ) : EReal) := by
  rw [v28_eq]
  pointwise []
  rw [A.x_at _ _ rfl, v1_at A, EReal.coe_add]
theorem v66_at (A : Real2 m c D) (r : Fin 4096) (k : Fin 256) : ((V m c main_v66 : FVec Ideal S4096x256 .f32) (ix2 r k) : Ideal .f32) = ((D.X r (2304 + k) + D.B (1280 + k) : ℝ) : EReal) := by
  rw [v66_eq]
  pointwise []
  rw [A.x_at _ _ rfl, v2_at A, EReal.coe_add]

theorem v29_at (A : Real2 m c D) (r : Fin 4096) (g : Fin 4) (d : Fin 64) : ((V m c main_v29 : FVec Ideal S1x4096x4x64 .f32) (ix4 0 r g d) : Ideal .f32)
    = ((D.X r (2048 + (64 * g + d)) + D.B (1024 + (64 * g + d)) : ℝ) : EReal) := by
  rw [v29_eq]
  have hg := g.isLt; have hd := d.isLt
  refine (shapeCast_apply _ _ (ix4 0 r g d) (ix2 r ⟨64 * g.val + d.val, by omega⟩) ?_).trans (v28_at A _ _)
  rw [Shape.rowMajor_val_two, Shape.rowMajor_val_four]
  show r.val * 256 + (64 * g.val + d.val) = ((0 * 4096 + r.val) * 4 + g.val) * 64 + d.val
  omega

theorem turn_flat (r : ℕ) (x : ℕ → ℝ) (d : ℕ) (h : ¬ d < 16) : turn r x d = x d := by
  simp only [turn, cs, sn, rot, if_neg h, if_neg (show ¬ d < 8 by omega)]; ring

theorem v48_at (A : Real2 m c D) (r : Fin 4096) (g : Fin 4) (l : Fin 8) : ((V m c main_v48 : FVec Ideal S1x4096x4x8 .f32) (ix4 0 r g l) : Ideal .f32)
    = ((D.X r (2048 + (64 * g + (l))) + D.B (1024 + (64 * g + (l))) : ℝ) : EReal) := by
  have hl := l.isLt
  rw [v48_eq]
  have h0 := v29_at A
  revert h0
  generalize (V m c main_v29 : FVec Ideal S1x4096x4x64 .f32) = x0
  intro h0
  pointwise []
  rw [h0]

theorem v49_at (A : Real2 m c D) (r : Fin 4096) (g : Fin 4) (l : Fin 8) : ((V m c main_v49 : FVec Ideal S1x4096x4x8 .f32) (ix4 0 r g l) : Ideal .f32)
    = ((D.X r (2048 + (64 * g + (8 + l))) + D.B (1024 + (64 * g + (8 + l))) : ℝ) : EReal) := by
  have hl := l.isLt
  rw [v49_eq]
  have h0 := v29_at A
  revert h0
  generalize (V m c main_v29 : FVec Ideal S1x4096x4x64 .f32) = x0
  intro h0
  pointwise []
  rw [h0]

theorem v54_at (A : Real2 m c D) (r : Fin 4096) (g : Fin 4) (l : Fin 8) : ((V m c main_v54 : FVec Ideal S1x4096x4x8 .f32) (ix4 0 r g l) : Ideal .f32)
    = ((D.K r g (l) : ℝ) : EReal) := by
  have hl := l.isLt
  rw [v54_eq]
  have h48 := v48_at A
  revert h48
  generalize (V m c main_v48 : FVec Ideal S1x4096x4x8 .f32) = x48
  intro h48
  have h49 := v49_at A
  revert h49
  generalize (V m c main_v49 : FVec Ideal S1x4096x4x8 .f32) = x49
  intro h49
  have h44 := v44_at m c
  revert h44
  generalize (V m c main_v44 : FVec Ideal S1x4096x1x8 .f32) = x44
  intro h44
  have h46 := v46_at m c
  revert h46
  generalize (V m c main_v46 : FVec Ideal S1x4096x1x8 .f32) = x46
  intro h46
  pointwise []
  rw [h48, h49, h44, h46, ← EReal.coe_mul, ← EReal.coe_mul, ← EReal.coe_sub]
  congr 1
  simp only [Dat.K, turn, cs, sn, rot, if_pos (show l.val < 8 by omega), if_pos (show l.val < 16 by omega), Nat.mod_eq_of_lt hl, Nat.add_comm 8 l.val]
  ring

theorem v59_at (A : Real2 m c D) (r : Fin 4096) (g : Fin 4) (l : Fin 8) : ((V m c main_v59 : FVec Ideal S1x4096x4x8 .f32) (ix4 0 r g l) : Ideal .f32)
    = ((D.K r g (8 + l) : ℝ) : EReal) := by
  have hl := l.isLt
  rw [v59_eq]
  have h48 := v48_at A
  revert h48
  generalize (V m c main_v48 : FVec Ideal S1x4096x4x8 .f32) = x48
  intro h48
  have h49 := v49_at A
  revert h49
  generalize (V m c main_v49 : FVec Ideal S1x4096x4x8 .f32) = x49
  intro h49
  have h44 := v44_at m c
  revert h44
  generalize (V m c main_v44 : FVec Ideal S1x4096x1x8 .f32) = x44
  intro h44
  have h46 := v46_at m c
  revert h46
  generalize (V m c main_v46 : FVec Ideal S1x4096x1x8 .f32) = x46
  intro h46
  pointwise []
  rw [h48, h49, h44, h46, ← EReal.coe_mul, ← EReal.coe_mul, ← EReal.coe_add]
  congr 1
  simp only [Dat.K, turn, cs, sn, rot, if_neg (show ¬ 8 + l.val < 8 by omega), if_pos (show 8 + l.val < 16 by omega), Nat.add_mod_left, Nat.mod_eq_of_lt hl, Nat.add_sub_cancel_left]

theorem v60_at (A : Real2 m c D) (r : Fin 4096) (g : Fin 4) (l : Fin 16) : ((V m c main_v60 : FVec Ideal S1x4096x4x16 .f32) (ix4 0 r g l) : Ideal .f32)
    = ((D.K r g l : ℝ) : EReal) := by
  have hl := l.isLt
  rw [v60_eq]
  have h54 := v54_at A
  revert h54
  generalize (V m c main_v54 : FVec Ideal S1x4096x4x8 .f32) = x54
  intro h54
  have h59 := v59_at A
  revert h59
  generalize (V m c main_v59 : FVec Ideal S1x4096x4x8 .f32) = x59
  intro h59
  pointwise []
  by_cases h1 : l.val < 8
  · rw [dif_pos h1, h54]
  · rw [dif_neg h1, h59]; show ((D.K r g (8 + (l.val - 8)) : ℝ) : EReal) = _; rw [show 8 + (l.val - 8) = l.val by omega]

theorem v61_at (A : Real2 m c D) (r : Fin 4096) (g : Fin 4) (l : Fin 48) : ((V m c main_v61 : FVec Ideal S1x4096x4x48 .f32) (ix4 0 r g l) : Ideal .f32)
    = ((D.K r g (16 + l) : ℝ) : EReal) := by
  have hl := l.isLt
  rw [v61_eq]
  have h29 := v29_at A
  revert h29
  generalize (V m c main_v29 : FVec Ideal S1x4096x4x64 .f32) = x29
  intro h29
  pointwise []
  rw [h29]
  unfold Dat.K
  rw [turn_flat _ _ _ (by omega)]

theorem v62_at (A : Real2 m c D) (r : Fin 4096) (g : Fin 4) (d : Fin 64) : ((V m c main_v62 : FVec Ideal S1x4096x4x64 .f32) (ix4 0 r g d) : Ideal .f32)
    = ((D.K r g d : ℝ) : EReal) := by
  have hd := d.isLt
  rw [v62_eq]
  have h60 := v60_at A
  revert h60
  generalize (V m c main_v60 : FVec Ideal S1x4096x4x16 .f32) = x60
  intro h60
  have h61 := v61_at A
  revert h61
  generalize (V m c main_v61 : FVec Ideal S1x4096x4x48 .f32) = x61
  intro h61
  pointwise []
  by_cases h1 : d.val < 16
  · rw [dif_pos h1, h60]
  · rw [dif_neg h1, h61]; show ((D.K r g (16 + (d.val - 16)) : ℝ) : EReal) = _; rw [show 16 + (d.val - 16) = d.val by omega]

theorem v63_at (A : Real2 m c D) (r : Fin 4096) (k : Fin 256) : ((V m c main_v63 : FVec Ideal S4096x256 .f32) (ix2 r k) : Ideal .f32)
    = ((D.K r (k / 64) (k % 64) : ℝ) : EReal) := by
  have hk := k.isLt
  rw [v63_eq]
  refine (shapeCast_apply _ _ (ix2 r k) (ix4 0 r ⟨k.val / 64, by omega⟩ ⟨k.val % 64, by omega⟩) ?_).trans (v62_at A _ _ _)
  rw [Shape.rowMajor_val_two, Shape.rowMajor_val_four]
  show ((0 * 4096 + r.val) * 4 + k.val / 64) * 64 + k.val % 64 = r.val * 256 + k.val
  omega

/-- The last rows of each block, read off the flat array. -/
theorem rows_at (x : FVec Ideal S4096x256 .f32) (q : Fin 896) (k : Fin 256) :
    ((shapeCast S896x256 (extractStridedSlice S7x128x256 ![0, 384, 0] (shapeCast S8x512x256 x shapeCasts_S4096x256_S8x512x256) slices_S8x512x256_S7x128x256_0_384_0) shapeCasts_S7x128x256_S896x256 : FVec Ideal S896x256 .f32) (ix2 q k) : Ideal .f32)
    = x (ix2 ⟨512 * (q.val / 128) + (384 + q.val % 128), by omega⟩ k) := by
  have hq := q.isLt
  refine (shapeCast_apply _ _ (ix2 q k) (ix3 ⟨q.val / 128, by omega⟩ ⟨q.val % 128, by omega⟩ k) ?_).trans ?_
  · rw [Shape.rowMajor_val_two, Shape.rowMajor_val_three]
    show (q.val / 128 * 128 + q.val % 128) * 256 + k.val = q.val * 256 + k.val
    omega
  · refine (congrArg (shapeCast S8x512x256 x shapeCasts_S4096x256_S8x512x256) (?_ : _ = ix3 ⟨q.val / 128, by omega⟩ ⟨384 + q.val % 128, by omega⟩ k)).trans ?_
    · funext a
      match a with
      | 0 => exact Fin.ext (by show 0 + q.val / 128 = q.val / 128; omega)
      | 1 => rfl
      | 2 => exact Fin.ext (by show 0 + k.val = k.val; omega)
    · refine shapeCast_apply _ _ _ _ ?_
      rw [Shape.rowMajor_val_two, Shape.rowMajor_val_three]
      show (512 * (q.val / 128) + (384 + q.val % 128)) * 256 + k.val = (q.val / 128 * 512 + (384 + q.val % 128)) * 256 + k.val
      omega

theorem v71_at (A : Real2 m c D) (n : Fin 1024) (k : Fin 256) : ((V m c main_v71 : FVec Ideal S1024x256 .f32) (ix2 n k) : Ideal .f32)
    = ((if n.val < 128 then 0 else D.K (512 * (n.val / 128 - 1) + (384 + n.val % 128)) (k / 64) (k % 64) : ℝ) : EReal) := by
  have hk := k.isLt; have hn := n.isLt
  rw [v71_eq]
  have h0 := v63_at A
  revert h0
  generalize (V m c main_v63 : FVec Ideal S4096x256 .f32) = x0
  intro h0
  generalize hy : (shapeCast S896x256 (extractStridedSlice S7x128x256 ![0, 384, 0] (shapeCast S8x512x256 x0 shapeCasts_S4096x256_S8x512x256) slices_S8x512x256_S7x128x256_0_384_0) shapeCasts_S7x128x256_S896x256 : FVec Ideal S896x256 .f32) = y
  have h1 : ∀ q : Fin 896, (y (ix2 q k) : Ideal .f32) = x0 (ix2 ⟨512 * (q.val / 128) + (384 + q.val % 128), by omega⟩ k) := fun q => by rw [← hy]; exact rows_at x0 q k
  pointwise []
  by_cases h : n.val < 128
  · rw [dif_pos h, if_pos h]; rfl
  · rw [dif_neg h, if_neg h, h1, h0]
    show ((D.K (512 * ((n.val - 128) / 128) + (384 + (n.val - 128) % 128)) (k / 64) (k % 64) : ℝ) : EReal) = _
    rw [show (n.val - 128) / 128 = n.val / 128 - 1 by omega, show (n.val - 128) % 128 = n.val % 128 by omega]

theorem v76_at (A : Real2 m c D) (n : Fin 1024) (k : Fin 256) : ((V m c main_v76 : FVec Ideal S1024x256 .f32) (ix2 n k) : Ideal .f32)
    = ((if n.val < 128 then 0 else D.V (512 * (n.val / 128 - 1) + (384 + n.val % 128)) (k / 64) (k % 64) : ℝ) : EReal) := by
  have hk := k.isLt; have hn := n.isLt
  rw [v76_eq]
  have h0 := v66_at A
  revert h0
  generalize (V m c main_v66 : FVec Ideal S4096x256 .f32) = x0
  intro h0
  generalize hy : (shapeCast S896x256 (extractStridedSlice S7x128x256 ![0, 384, 0] (shapeCast S8x512x256 x0 shapeCasts_S4096x256_S8x512x256) slices_S8x512x256_S7x128x256_0_384_0) shapeCasts_S7x128x256_S896x256 : FVec Ideal S896x256 .f32) = y
  have h1 : ∀ q : Fin 896, (y (ix2 q k) : Ideal .f32) = x0 (ix2 ⟨512 * (q.val / 128) + (384 + q.val % 128), by omega⟩ k) := fun q => by rw [← hy]; exact rows_at x0 q k
  pointwise []
  by_cases h : n.val < 128
  · rw [dif_pos h, if_pos h]; rfl
  · rw [dif_neg h, if_neg h, h1, h0]
    show ((D.X (512 * ((n.val - 128) / 128) + (384 + (n.val - 128) % 128)) (2304 + k) + D.B (1280 + k) : ℝ) : EReal) = _
    rw [show (n.val - 128) / 128 = n.val / 128 - 1 by omega, show (n.val - 128) % 128 = n.val % 128 by omega]
    unfold Dat.V
    rw [show 64 * (k.val / 64) + k.val % 64 = k.val by omega]

end Cert.KernelIdeal.Swa
-- ==== Proof.Blks.lean ====
/- The blocks a grid point holds, read off the arrays, and what they hold over arguments that are real numbers. -/
module
public import proofs.«01_k».proof.Proof.Grid
public import proofs.«01_k».proof.Proof.HostC

@[expose] public section
set_option maxRecDepth 16384
noncomputable section
namespace Cert.KernelIdeal.Swa
open Idealize.ShloMosaic Idealize.ShloMosaic.TcCoe Cert.KernelIdeal Cert.KernelIdeal.Gen
open _root_.Swa (Row sum_coe coe_sum Dat ang cs sn rot turn turnT two sum_split)
variable (m : (ℓ : Loc nD τ sig) → Buf (Elt Ideal) ℓ) (c : Dev nD) (t : Fin cfg0.N)

theorem t_lt : t.val < 8 := t.isLt

theorem ix_0 : ∀ t : Fin cfg0.N, win0_0.index t = ![7 - t.val, 1] := (by decide +kernel : ∀ t : Fin grid0.N, win0_0.index t = ![7 - t.val, 1])
theorem ix_1 : ∀ t : Fin cfg0.N, win0_1.index t = ![7 - t.val, 8] := (by decide +kernel : ∀ t : Fin grid0.N, win0_1.index t = ![7 - t.val, 8])
theorem ix_2 : ∀ t : Fin cfg0.N, win0_2.index t = ![7 - t.val, 9] := (by decide +kernel : ∀ t : Fin grid0.N, win0_2.index t = ![7 - t.val, 9])
theorem ix_3 : ∀ t : Fin cfg0.N, win0_3.index t = ![7 - t.val, 0] := (by decide +kernel : ∀ t : Fin grid0.N, win0_3.index t = ![7 - t.val, 0])
theorem ix_4 : ∀ t : Fin cfg0.N, win0_4.index t = ![7 - t.val, 0] := (by decide +kernel : ∀ t : Fin grid0.N, win0_4.index t = ![7 - t.val, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_9 : ∀ t : Fin cfg0.N, win0_9.index t = ![7 - t.val, 0] := (by decide +kernel : ∀ t : Fin grid0.N, win0_9.index t = ![7 - t.val, 0])
theorem ix_10 : ∀ t : Fin cfg0.N, win0_10.index t = ![7 - t.val, 0] := (by decide +kernel : ∀ t : Fin grid0.N, win0_10.index t = ![7 - t.val, 0])
theorem ix_11 : ∀ t : Fin cfg0.N, win0_11.index t = ![7 - t.val, 0] := (by decide +kernel : ∀ t : Fin grid0.N, win0_11.index t = ![7 - t.val, 0])

theorem blk0 (i : Fin 512) (k : Fin 1024) : ((X0_0 m c t : FVec Ideal S512x1024 .f32) (ix2 i k) : Ideal .f32)
    = (m ((c : Thread nD τ).loc main_arg0) : FVec Ideal S4096x2560 .f32) (ix2 ⟨512 * (7 - t.val) + i.val, by have := i.isLt; omega⟩ ⟨1024 + k.val, by omega⟩) := by
  unfold X0_0
  unfold Pipeline.Window.fill
  rw [dif_pos (moved0_0 t _)]
  unfold iblk
  rw [View.read_apply]
  show V m c main_arg0 _ = _
  rw [V_main_arg0]
  congr 1
  funext a
  apply Fin.ext
  match a with
  | 0 => show win0_0.index t 0 * 512 + 1 * i.val = _; rw [ix_0]; show (7 - t.val) * 512 + 1 * i.val = 512 * (7 - t.val) + i.val; omega
  | 1 => show win0_0.index t 1 * 1024 + 1 * k.val = _; rw [ix_0]; show 1 * 1024 + 1 * k.val = 1024 + k.val; omega

theorem blk1 (i : Fin 512) (k : Fin 256) : ((iblk m c 1 t : FVec Ideal S512x256 .f32) (ix2 i k) : Ideal .f32)
    = (m ((c : Thread nD τ).loc main_arg0) : FVec Ideal S4096x2560 .f32) (ix2 ⟨512 * (7 - t.val) + i.val, by have := i.isLt; omega⟩ ⟨2048 + k.val, by omega⟩) := by
  unfold iblk
  rw [View.read_apply]
  show V m c main_arg0 _ = _
  rw [V_main_arg0]
  congr 1
  funext a
  apply Fin.ext
  match a with
  | 0 => show win0_1.index t 0 * 512 + 1 * i.val = _; rw [ix_1]; show (7 - t.val) * 512 + 1 * i.val = 512 * (7 - t.val) + i.val; omega
  | 1 => show win0_1.index t 1 * 256 + 1 * k.val = _; rw [ix_1]; show 8 * 256 + 1 * k.val = 2048 + k.val; omega

theorem blk2 (i : Fin 512) (k : Fin 256) : ((iblk m c 2 t : FVec Ideal S512x256 .f32) (ix2 i k) : Ideal .f32)
    = (m ((c : Thread nD τ).loc main_arg0) : FVec Ideal S4096x2560 .f32) (ix2 ⟨512 * (7 - t.val) + i.val, by have := i.isLt; omega⟩ ⟨2304 + k.val, by omega⟩) := by
  unfold iblk
  rw [View.read_apply]
  show V m c main_arg0 _ = _
  rw [V_main_arg0]
  congr 1
  funext a
  apply Fin.ext
  match a with
  | 0 => show win0_2.index t 0 * 512 + 1 * i.val = _; rw [ix_2]; show (7 - t.val) * 512 + 1 * i.val = 512 * (7 - t.val) + i.val; omega
  | 1 => show win0_2.index t 1 * 256 + 1 * k.val = _; rw [ix_2]; show 9 * 256 + 1 * k.val = 2304 + k.val; omega

theorem blk3 (i : Fin 512) (k : Fin 128) : ((iblk m c 3 t : FVec Ideal S512x128 .f32) (ix2 i k) : Ideal .f32)
    = (V m c main_v21 : FVec Ideal S4096x128 .f32) (ix2 ⟨512 * (7 - t.val) + i.val, by have := i.isLt; omega⟩ k) := by
  unfold iblk
  rw [View.read_apply]
  show V m c main_v21 _ = _
  congr 1
  funext a
  apply Fin.ext
  match a with
  | 0 => show win0_3.index t 0 * 512 + 1 * i.val = _; rw [ix_3]; show (7 - t.val) * 512 + 1 * i.val = 512 * (7 - t.val) + i.val; omega
  | 1 => show win0_3.index t 1 * 128 + 1 * k.val = _; rw [ix_3]; show 0 * 128 + 1 * k.val = k.val; omega

theorem blk4 (i : Fin 512) (k : Fin 128) : ((iblk m c 4 t : FVec Ideal S512x128 .f32) (ix2 i k) : Ideal .f32)
    = (V m c main_v22 : FVec Ideal S4096x128 .f32) (ix2 ⟨512 * (7 - t.val) + i.val, by have := i.isLt; omega⟩ k) := by
  unfold iblk
  rw [View.read_apply]
  show V m c main_v22 _ = _
  congr 1
  funext a
  apply Fin.ext
  match a with
  | 0 => show win0_4.index t 0 * 512 + 1 * i.val = _; rw [ix_4]; show (7 - t.val) * 512 + 1 * i.val = 512 * (7 - t.val) + i.val; omega
  | 1 => show win0_4.index t 1 * 128 + 1 * k.val = _; rw [ix_4]; show 0 * 128 + 1 * k.val = k.val; omega

theorem blk5 (k : Fin 1024) : ((iblk m c 5 t : FVec Ideal S1x1024 .f32) (ix2 0 k) : Ideal .f32)
    = (V m c main_v0 : FVec Ideal S1x1024 .f32) (ix2 0 k) := by
  unfold iblk
  rw [View.read_apply]
  show V m c main_v0 _ = _
  congr 1
  funext a
  apply Fin.ext
  match a with
  | 0 => show win0_5.index t 0 * 1 + 1 * 0 = _; rw [ix_5]; show 0 * 1 + 1 * 0 = 0; omega
  | 1 => show win0_5.index t 1 * 1024 + 1 * k.val = _; rw [ix_5]; show 0 * 1024 + 1 * k.val = k.val; omega

theorem blk6 (k : Fin 256) : ((iblk m c 6 t : FVec Ideal S1x256 .f32) (ix2 0 k) : Ideal .f32)
    = (V m c main_v1 : FVec Ideal S1x256 .f32) (ix2 0 k) := by
  unfold iblk
  rw [View.read_apply]
  show V m c main_v1 _ = _
  congr 1
  funext a
  apply Fin.ext
  match a with
  | 0 => show win0_6.index t 0 * 1 + 1 * 0 = _; rw [ix_6]; show 0 * 1 + 1 * 0 = 0; omega
  | 1 => show win0_6.index t 1 * 256 + 1 * k.val = _; rw [ix_6]; show 0 * 256 + 1 * k.val = k.val; omega

theorem blk7 (k : Fin 256) : ((iblk m c 7 t : FVec Ideal S1x256 .f32) (ix2 0 k) : Ideal .f32)
    = (V m c main_v2 : FVec Ideal S1x256 .f32) (ix2 0 k) := by
  unfold iblk
  rw [View.read_apply]
  show V m c main_v2 _ = _
  congr 1
  funext a
  apply Fin.ext
  match a with
  | 0 => show win0_7.index t 0 * 1 + 1 * 0 = _; rw [ix_7]; show 0 * 1 + 1 * 0 = 0; omega
  | 1 => show win0_7.index t 1 * 256 + 1 * k.val = _; rw [ix_7]; show 0 * 256 + 1 * k.val = k.val; omega

theorem blk8 (k : Fin 16) : ((iblk m c 8 t : FVec Ideal S1x16 .f32) (ix2 0 k) : Ideal .f32)
    = (m ((c : Thread nD τ).loc main_arg2) : FVec Ideal S1x16 .f32) (ix2 0 k) := by
  unfold iblk
  rw [View.read_apply]
  show V m c main_arg2 _ = _
  rw [V_main_arg2]
  congr 1
  funext a
  apply Fin.ext
  match a with
  | 0 => show win0_8.index t 0 * 1 + 1 * 0 = _; rw [ix_8]; show 0 * 1 + 1 * 0 = 0; omega
  | 1 => show win0_8.index t 1 * 16 + 1 * k.val = _; rw [ix_8]; show 0 * 16 + 1 * k.val = k.val; omega

theorem blk9 (i : Fin 128) (k : Fin 256) : ((iblk m c 9 t : FVec Ideal S128x256 .f32) (ix2 i k) : Ideal .f32)
    = (V m c main_v71 : FVec Ideal S1024x256 .f32) (ix2 ⟨128 * (7 - t.val) + i.val, by have := i.isLt; omega⟩ k) := by
  unfold iblk
  rw [View.read_apply]
  show V m c main_v71 _ = _
  congr 1
  funext a
  apply Fin.ext
  match a with
  | 0 => show win0_9.index t 0 * 128 + 1 * i.val = _; rw [ix_9]; show (7 - t.val) * 128 + 1 * i.val = 128 * (7 - t.val) + i.val; omega
  | 1 => show win0_9.index t 1 * 256 + 1 * k.val = _; rw [ix_9]; show 0 * 256 + 1 * k.val = k.val; omega

theorem blk10 (i : Fin 128) (k : Fin 256) : ((iblk m c 10 t : FVec Ideal S128x256 .f32) (ix2 i k) : Ideal .f32)
    = (V m c main_v76 : FVec Ideal S1024x256 .f32) (ix2 ⟨128 * (7 - t.val) + i.val, by have := i.isLt; omega⟩ k) := by
  unfold iblk
  rw [View.read_apply]
  show V m c main_v76 _ = _
  congr 1
  funext a
  apply Fin.ext
  match a with
  | 0 => show win0_10.index t 0 * 128 + 1 * i.val = _; rw [ix_10]; show (7 - t.val) * 128 + 1 * i.val = 128 * (7 - t.val) + i.val; omega
  | 1 => show win0_10.index t 1 * 256 + 1 * k.val = _; rw [ix_10]; show 0 * 256 + 1 * k.val = k.val; omega

theorem blk11 (i : Fin 512) (k : Fin 1024) : ((iblk m c 11 t : FVec Ideal S512x1024 .f32) (ix2 i k) : Ideal .f32)
    = (m ((c : Thread nD τ).loc main_arg3) : FVec Ideal S4096x1024 .f32) (ix2 ⟨512 * (7 - t.val) + i.val, by have := i.isLt; omega⟩ k) := by
  unfold iblk
  rw [View.read_apply]
  show V m c main_arg3 _ = _
  rw [V_main_arg3]
  congr 1
  funext a
  apply Fin.ext
  match a with
  | 0 => show win0_11.index t 0 * 512 + 1 * i.val = _; rw [ix_11]; show (7 - t.val) * 512 + 1 * i.val = 512 * (7 - t.val) + i.val; omega
  | 1 => show win0_11.index t 1 * 1024 + 1 * k.val = _; rw [ix_11]; show 0 * 1024 + 1 * k.val = k.val; omega

theorem nf_at : ∀ t : Fin cfg0.N, Scalar.xori (Scalar.cmpi CmpIPredicate.eq (BitVec.ofNat 32 (grid0.coords t 0).val) 7#32) 1#1 = if 7 - t.val = 0 then 0#1 else 1#1 :=
  (by decide +kernel : ∀ t : Fin grid0.N, Scalar.xori (Scalar.cmpi CmpIPredicate.eq (BitVec.ofNat 32 (grid0.coords t 0).val) 7#32) 1#1 = if 7 - t.val = 0 then 0#1 else 1#1)

/-- All four arguments are the real numbers of `D`. -/
structure Real4 (m : (ℓ : Loc nD τ sig) → Buf (Elt Ideal) ℓ) (c : Dev nD) (D : Dat) : Prop extends Real2 m c D where
  Sk : ∀ h : Fin 16, ((m ((c : Thread nD τ).loc main_arg2) : FVec Ideal S1x16 .f32) (ix2 0 h) : Ideal .f32) = ((D.Sk h : ℝ) : EReal)
  DO : ∀ (r : Fin 4096) (k : Fin 1024), ((m ((c : Thread nD τ).loc main_arg3) : FVec Ideal S4096x1024 .f32) (ix2 r k) : Ideal .f32) = ((D.DO r k : ℝ) : EReal)

theorem two_prev (f : ℕ → ℝ) (b i : ℕ) (h : i < 128) :
    (if 128 * b + i < 128 then 0 else f (512 * ((128 * b + i) / 128 - 1) + (384 + (128 * b + i) % 128))) = two f (4 * b) i := by
  unfold two
  rw [if_pos h]
  by_cases h1 : b = 0
  · rw [if_pos (by omega), if_pos (by omega)]
  · rw [if_neg (by omega), if_neg (by omega)]
    congr 1
    omega

theorem blk_at {m : (ℓ : Loc nD τ sig) → Buf (Elt Ideal) ℓ} {c : Dev nD} {D : Dat} (A : Real4 m c D) (t : Fin cfg0.N) : BlkAt m c t D (7 - t.val) where
  lt := by omega
  q i k := by rw [blk0]; exact A.X _ _
  k i k := by rw [blk1]; exact A.X _ _
  v i k := by rw [blk2]; exact A.X _ _
  cos i k := by rw [blk3]; exact v21_at m c _ _
  sin i k := by rw [blk4]; exact v22_at m c _ _
  bq k := by rw [blk5]; exact v0_at A.toReal2 _
  bk k := by rw [blk6]; exact v1_at A.toReal2 _
  bv k := by rw [blk7]; exact v2_at A.toReal2 _
  sk k := by rw [blk8]; exact A.Sk _
  kp i k := by
    rw [blk9, v71_at A.toReal2]
    congr 1
    exact two_prev (fun r => D.K r (k / 64) (k % 64)) (7 - t.val) i.val i.isLt
  vp i k := by
    rw [blk10, v76_at A.toReal2]
    congr 1
    exact two_prev (fun r => D.V r (k / 64) (k % 64)) (7 - t.val) i.val i.isLt
  dh i k := by rw [blk11]; exact A.DO _ _
  nf := nf_at t

end Cert.KernelIdeal.Swa
-- ==== Proof.RefA.lean ====
/- The reference's forward values, one stage at a time: angles, turned queries and keys, the two blocks. -/
module
public import proofs.«01_k».proof.Proof.Spec
public import proofs.«01_k».proof.Proof.Gen.ReferenceIdeal.Read
public import Idealize.ShloMosaic.Lib.Pointwise

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

/-- The four arguments are the real numbers of `D`. -/
structure Given (x0 : FVec Ideal S4096x2560 .f32) (x1 : FVec Ideal S1x1536 .f32) (x2 : FVec Ideal S1x16 .f32)
    (x3 : FVec Ideal S4096x1024 .f32) (D : Dat) : Prop where
  X : ∀ (r : Fin 4096) (c : Fin 2560), (x0 (ix2 r c) : Ideal .f32) = ((D.X r c : ℝ) : EReal)
  B : ∀ c : Fin 1536, (x1 (ix2 0 c) : Ideal .f32) = ((D.B c : ℝ) : EReal)
  Sk : ∀ h : Fin 16, (x2 (ix2 0 h) : Ideal .f32) = ((D.Sk h : ℝ) : EReal)
  DO : ∀ (r : Fin 4096) (c : Fin 1024), (x3 (ix2 r c) : Ideal .f32) = ((D.DO r c : ℝ) : EReal)

variable {x0 : FVec Ideal S4096x2560 .f32} {x1 : FVec Ideal S1x1536 .f32} {x2 : FVec Ideal S1x16 .f32}
  {x3 : FVec Ideal S4096x1024 .f32} {D : Dat} (A : Given x0 x1 x2 x3 D)

theorem eight : Ideal.ofBits .f32 0x41000000#32 = ((8 : ℝ) : EReal) := by
  show Ideal.ofBits .f32 _ = _; simp [Ideal.ofBits, Ideal.ieee, -EReal.coe_mul]; norm_num
theorem theta : Ideal.ofBits .f32 0x48F42400#32 = ((500000 : ℝ) : EReal) := by
  show Ideal.ofBits .f32 _ = _; simp [Ideal.ofBits, Ideal.ieee, -EReal.coe_mul]; norm_num
theorem eighth : Ideal.ofBits .f32 0x3E000000#32 = ((1 / 8 : ℝ) : EReal) := by
  show Ideal.ofBits .f32 _ = _; simp [Ideal.ofBits, Ideal.ieee, -EReal.coe_mul]; norm_num

theorem word_of (n : ℕ) (h : n < 4096) : (FloatOps.sitofp (F := Ideal) FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem x_at {n k : ℕ} {x : FVec Ideal (⟨2, ![n, k]⟩ : Shape) .f32} {f : ℕ → ℕ → ℝ} (h : ∀ (r : Fin n) (c : Fin k), (x (ix2 r c) : Ideal .f32) = ((f r c : ℝ) : EReal))
    (r : Fin n) (c : Fin k) {c' : ℕ} (e : c.val = c') : (x (ix2 r c) : Ideal .f32) = ((f r c' : ℝ) : EReal) := by subst e; exact h r c

theorem v16_at (l : Fin 8) : (val_main_v16 (F := Ideal) (ix1 l) : Ideal .f32) = (((500000 : ℝ) ^ (-(l : ℝ) / 8) : ℝ) : EReal) := by
  have hl := l.isLt
  pointwise [val_main_v16, val_main_v15, val_main_v14, val_main_v13, val_main_v12, val_main_v11, val_main_cst, val_main_cst_0]
  rw [word_of _ (by omega), eight, theta, Ideal.div_coe (by norm_num), ← EReal.coe_neg, ← EReal.coe_mul, Ideal.pow_coe_coe]
  congr 1
  show Real.rpow _ _ = Real.rpow _ _
  congr 1; ring
theorem v48_at (l : Fin 8) : (val_main_v48 (F := Ideal) (ix1 l) : Ideal .f32) = (((500000 : ℝ) ^ (-(l : ℝ) / 8) : ℝ) : EReal) := by
  have hl := l.isLt
  pointwise [val_main_v48, val_main_v47, val_main_v46, val_main_v45, val_main_v44, val_main_v43, val_main_cst_1, val_main_cst_2]
  rw [word_of _ (by omega), eight, theta, Ideal.div_coe (by norm_num), ← EReal.coe_neg, ← EReal.coe_mul, Ideal.pow_coe_coe]
  congr 1
  show Real.rpow _ _ = Real.rpow _ _
  congr 1; ring
theorem v22_at (r : Fin 4096) (l : Fin 8) : (val_main_v22 (F := Ideal) (ix2 r l) : Ideal .f32) = ((ang r l : ℝ) : EReal) := by
  pointwise [val_main_v22, val_main_v21, val_main_v20, val_main_v19, val_main_v18, val_main_v17, val_main_v10, v16_at]
  rw [word_of _ r.isLt, ← EReal.coe_mul]; rfl
theorem v54_at (r : Fin 4096) (l : Fin 8) : (val_main_v54 (F := Ideal) (ix2 r l) : Ideal .f32) = ((ang r l : ℝ) : EReal) := by
  pointwise [val_main_v54, val_main_v53, val_main_v52, val_main_v51, val_main_v50, val_main_v49, val_main_v42, v48_at]
  rw [word_of _ r.isLt, ← EReal.coe_mul]; rfl
theorem v24_at (r : Fin 4096) (l : Fin 8) : (val_main_v24 (F := Ideal) (ix3 r 0 l) : Ideal .f32) = ((Real.cos (ang r l) : ℝ) : EReal) := by
  pointwise [val_main_v24, val_main_v23, v22_at]
  rfl
theorem v26_at (r : Fin 4096) (l : Fin 8) : (val_main_v26 (F := Ideal) (ix3 r 0 l) : Ideal .f32) = ((Real.sin (ang r l) : ℝ) : EReal) := by
  pointwise [val_main_v26, val_main_v25, v22_at]
  rfl
theorem v56_at (r : Fin 4096) (l : Fin 8) : (val_main_v56 (F := Ideal) (ix3 r 0 l) : Ideal .f32) = ((Real.cos (ang r l) : ℝ) : EReal) := by
  pointwise [val_main_v56, val_main_v55, v54_at]
  rfl
theorem v58_at (r : Fin 4096) (l : Fin 8) : (val_main_v58 (F := Ideal) (ix3 r 0 l) : Ideal .f32) = ((Real.sin (ang r l) : ℝ) : EReal) := by
  pointwise [val_main_v58, val_main_v57, v54_at]
  rfl

theorem two_of (f : ℕ → ℝ) (n t : ℕ) : (if h : t < 128 then if h : n < 1 then (0 : EReal) else ((f (128 * (n - 1) + t) : ℝ) : EReal)
    else ((f (128 * n + (t - 128)) : ℝ) : EReal)) = ((two f n t : ℝ) : EReal) := by
  unfold two
  by_cases h1 : t < 128
  · rw [dif_pos h1, if_pos h1]
    by_cases h2 : n < 1
    · rw [dif_pos h2, if_pos (show n = 0 by omega), EReal.coe_zero]
    · rw [dif_neg h2, if_neg (show ¬ n = 0 by omega)]
  · rw [dif_neg h1, if_neg h1]

include A
theorem B_at (c : Fin 1536) {c' : ℕ} (e : c.val = c') : (x1 (ix2 0 c) : Ideal .f32) = ((D.B c' : ℝ) : EReal) := by subst e; exact A.B c

theorem v9_at (r : Fin 4096) (h : Fin 16) (d : Fin 64) : (val_main_v9 (F := Ideal) x0 x1 (ix3 r h d) : Ideal .f32) = ((D.X r (1024 + (64 * h + d)) + D.B (64 * h + d) : ℝ) : EReal) := by
  have hh := h.isLt; have hd := d.isLt
  pointwise [val_main_v9, val_main_v6, val_main_v5, val_main_v4, val_main_v3, val_main_v0, val_main_v1, val_main_v2]
  rw [dif_pos (by omega), x_at A.X (c' := 1024 + (64 * h + d)) _ _ (by show _ + (_ + _) = _; omega), B_at A (c' := 64 * h + d) _ (by show _ + _ = _; omega), EReal.coe_add]
theorem v41_at (r : Fin 4096) (h : Fin 4) (d : Fin 64) : (val_main_v41 (F := Ideal) x0 x1 (ix3 r h d) : Ideal .f32) = ((D.X r (2048 + (64 * h + d)) + D.B (1024 + (64 * h + d)) : ℝ) : EReal) := by
  have hh := h.isLt; have hd := d.isLt
  pointwise [val_main_v41, val_main_v7, val_main_v5, val_main_v4, val_main_v3, val_main_v0, val_main_v1, val_main_v2]
  rw [dif_pos (by omega), x_at A.X (c' := 2048 + (64 * h + d)) _ _ (by show _ + (_ + _) = _; omega), B_at A (c' := 1024 + (64 * h + d)) _ (by show _ + (_ + _) = _; omega), EReal.coe_add]
theorem v8_at (r : Fin 4096) (c : Fin 256) : (val_main_v8 (F := Ideal) x0 x1 (ix2 r c) : Ideal .f32) = ((D.X r (2304 + c) + D.B (1280 + c) : ℝ) : EReal) := by
  have hc := c.isLt
  pointwise [val_main_v8, val_main_v5, val_main_v4, val_main_v3, val_main_v0, val_main_v1, val_main_v2]
  rw [dif_neg (by omega), dif_neg (by omega), x_at A.X (c' := 2304 + c) _ _ (by show _ + (_ - _ - _) = _; omega), B_at A (c' := 1280 + c) _ rfl, EReal.coe_add]

theorem v33_at (r : Fin 4096) (h : Fin 16) (l : Fin 8) : (val_main_v33 (F := Ideal) x0 x1 (ix3 r h l) : Ideal .f32)
    = ((turn r (fun e => D.X r (1024 + (64 * h + e)) + D.B (64 * h + e)) l : ℝ) : EReal) := by
  have hl := l.isLt
  pointwise [val_main_v33, val_main_v32, val_main_v31, val_main_v30, val_main_v29, val_main_v28, val_main_v27, v24_at, v26_at, v9_at A]
  rw [← EReal.coe_mul, ← EReal.coe_mul, ← EReal.coe_sub]
  congr 1
  simp only [turn, cs, sn, rot, if_pos (show l.val < 8 by omega), if_pos (show l.val < 16 by omega), Nat.mod_eq_of_lt hl, Nat.add_comm 8 l.val]
  ring
theorem v38_at (r : Fin 4096) (h : Fin 16) (l : Fin 8) : (val_main_v38 (F := Ideal) x0 x1 (ix3 r h l) : Ideal .f32)
    = ((turn r (fun e => D.X r (1024 + (64 * h + e)) + D.B (64 * h + e)) (8 + l) : ℝ) : EReal) := by
  have hl := l.isLt
  pointwise [val_main_v38, val_main_v37, val_main_v36, val_main_v35, val_main_v34, val_main_v28, val_main_v27, v24_at, v26_at, v9_at A]
  rw [← EReal.coe_mul, ← EReal.coe_mul, ← EReal.coe_add]
  congr 1
  simp only [turn, cs, sn, rot, if_neg (show ¬ 8 + l.val < 8 by omega), if_pos (show 8 + l.val < 16 by omega), Nat.add_mod_left, Nat.mod_eq_of_lt hl, Nat.add_sub_cancel_left]
theorem v65_at (r : Fin 4096) (h : Fin 4) (l : Fin 8) : (val_main_v65 (F := Ideal) x0 x1 (ix3 r h l) : Ideal .f32)
    = ((D.K r h l : ℝ) : EReal) := by
  have hl := l.isLt
  pointwise [val_main_v65, val_main_v64, val_main_v63, val_main_v62, val_main_v61, val_main_v60, val_main_v59, v56_at, v58_at, v41_at A]
  rw [← EReal.coe_mul, ← EReal.coe_mul, ← EReal.coe_sub]
  congr 1
  simp only [Dat.K, turn, cs, sn, rot, if_pos (show l.val < 8 by omega), if_pos (show l.val < 16 by omega), Nat.mod_eq_of_lt hl, Nat.add_comm 8 l.val]
  ring
theorem v70_at (r : Fin 4096) (h : Fin 4) (l : Fin 8) : (val_main_v70 (F := Ideal) x0 x1 (ix3 r h l) : Ideal .f32)
    = ((D.K r h (8 + l) : ℝ) : EReal) := by
  have hl := l.isLt
  pointwise [val_main_v70, val_main_v69, val_main_v68, val_main_v67, val_main_v66, val_main_v60, val_main_v59, v56_at, v58_at, v41_at A]
  rw [← EReal.coe_mul, ← EReal.coe_mul, ← EReal.coe_add]
  congr 1
  simp only [Dat.K, turn, cs, sn, rot, if_neg (show ¬ 8 + l.val < 8 by omega), if_pos (show 8 + l.val < 16 by omega), Nat.add_mod_left, Nat.mod_eq_of_lt hl, Nat.add_sub_cancel_left]

theorem turn_tail (r : ℕ) (x : ℕ → ℝ) (d : ℕ) (h : ¬ d < 16) : turn r x d = x d := by
  simp only [turn, cs, sn, rot, if_neg h, if_neg (show ¬ d < 8 by omega)]; ring

theorem v40_at (r : Fin 4096) (h : Fin 16) (d : Fin 64) : (val_main_v40 (F := Ideal) x0 x1 (ix3 r h d) : Ideal .f32)
    = ((turn r (fun e => D.X r (1024 + (64 * h + e)) + D.B (64 * h + e)) d : ℝ) : EReal) := by
  have hd := d.isLt
  pointwise [val_main_v40, val_main_v39, v33_at A, v38_at A, v9_at A]
  by_cases h1 : d.val < 8
  · rw [dif_pos h1]
  · rw [dif_neg h1]
    by_cases h2 : d.val - 8 < 8
    · rw [dif_pos h2, show 8 + (d.val - 8) = d.val by omega]
    · rw [dif_neg h2, turn_tail A _ _ _ (by omega), show 16 + (d.val - 8 - 8) = d.val by omega]

theorem v72_at (r : Fin 4096) (h : Fin 4) (d : Fin 64) : (val_main_v72 (F := Ideal) x0 x1 (ix3 r h d) : Ideal .f32)
    = ((D.K r h d : ℝ) : EReal) := by
  have hd := d.isLt
  pointwise [val_main_v72, val_main_v71, v65_at A, v70_at A, v41_at A]
  by_cases h1 : d.val < 8
  · rw [dif_pos h1]
  · rw [dif_neg h1]
    by_cases h2 : d.val - 8 < 8
    · rw [dif_pos h2, show 8 + (d.val - 8) = d.val by omega]
    · rw [dif_neg h2, Dat.K, turn_tail A _ _ _ (by omega), show 16 + (d.val - 8 - 8) = d.val by omega]

theorem v75_at (n : Fin 32) (q : Fin 128) (g a : Fin 4) (d : Fin 64) : (val_main_v75 (F := Ideal) x0 x1 (ix5 n q g a d) : Ideal .f32)
    = ((D.Q (128 * n + q) (4 * g + a) d : ℝ) : EReal) := by
  pointwise [val_main_v75, val_main_v74, val_main_v73, val_main_cst_3, v40_at A, eighth]
  rw [← EReal.coe_mul, Nat.mul_comm n.val 128, Nat.mul_comm g.val 4]; rfl

theorem v76_at (n : Fin 32) (q : Fin 128) (c : Fin 256) : (val_main_v76 (F := Ideal) x0 x1 (ix3 n q c) : Ideal .f32)
    = ((D.K (128 * n + q) (c / 64) (c % 64) : ℝ) : EReal) := by
  pointwise [val_main_v76, v72_at A]
  rw [Nat.mul_comm n.val 128]
theorem v84_at (n : Fin 32) (q : Fin 128) (c : Fin 256) : (val_main_v84 (F := Ideal) x0 x1 (ix3 n q c) : Ideal .f32)
    = ((D.V (128 * n + q) (c / 64) (c % 64) : ℝ) : EReal) := by
  pointwise [val_main_v84, v8_at A]
  rw [Nat.mul_comm n.val 128]
  unfold Dat.V
  rw [Nat.div_add_mod c.val 64]

theorem v83_at (n : Fin 32) (t : Fin 256) (g : Fin 4) (d : Fin 64) : (val_main_v83 (F := Ideal) x0 x1 (ix4 n t g d) : Ideal .f32)
    = ((two (fun r => D.K r g d) n t : ℝ) : EReal) := by
  pointwise [val_main_v83, val_main_v82, val_main_v80, val_main_v79, val_main_v78, val_main_cst_4, v76_at A]
  rw [show (g.val * 64 + d.val) / 64 = g.val by have := d.isLt; omega, show (g.val * 64 + d.val) % 64 = d.val by have := d.isLt; omega]
  exact two_of (fun r => D.K r g d) n t
theorem v91_at (n : Fin 32) (t : Fin 256) (g : Fin 4) (d : Fin 64) : (val_main_v91 (F := Ideal) x0 x1 (ix4 n t g d) : Ideal .f32)
    = ((two (fun r => D.V r g d) n t : ℝ) : EReal) := by
  pointwise [val_main_v91, val_main_v90, val_main_v88, val_main_v87, val_main_v86, val_main_cst_6, v84_at A]
  rw [show (g.val * 64 + d.val) / 64 = g.val by have := d.isLt; omega, show (g.val * 64 + d.val) % 64 = d.val by have := d.isLt; omega]
  exact two_of (fun r => D.V r g d) n t

end Cert.ReferenceIdeal.Swa
-- ==== Proof.RefBits.lean ====
/- The words that mask the scores. -/
module
public import Idealize.ShloMosaic.Lib.Pointwise

@[expose] public section
set_option maxRecDepth 16384
namespace Cert.ReferenceIdeal.Swa
open Idealize.ShloMosaic

theorem bit_band : ∀ (q : Fin 128) (t : Fin 256), IntOp.andi
      (IntOp.cmpi CmpIPredicate.sge (IntOp.subi (IntOp.addi (BitVec.ofNat 32 q) 128#32) (BitVec.ofNat 32 t)) 0#32)
      (IntOp.cmpi CmpIPredicate.slt (IntOp.subi (IntOp.addi (BitVec.ofNat 32 q) 128#32) (BitVec.ofNat 32 t)) 128#32) =
    if (decide (t.val ≤ q.val + 128) && decide (q.val < t.val)) = true then 1#1 else 0#1 := by decide +kernel
theorem bit_first : ∀ (n : Fin 32) (t : Fin 256), IntOp.ori (IntOp.cmpi CmpIPredicate.sgt (BitVec.ofNat 32 n) 0#32)
      (IntOp.cmpi CmpIPredicate.sge (BitVec.ofNat 32 t) 128#32) = if (decide (0 < n.val) || decide (128 ≤ t.val)) = true then 1#1 else 0#1 := by decide +kernel
theorem bit_and : ∀ a b : Bool, IntOp.andi (if a = true then 1#1 else 0#1) (if b = true then 1#1 else 0#1) = if (a && b) = true then 1#1 else 0#1 := by decide
end Cert.ReferenceIdeal.Swa
-- ==== Proof.RefB.lean ====
/- The reference's scores, mask and softmax. -/
module
public import proofs.«01_k».proof.Proof.RefA
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

theorem row_k (n q g t d : ℕ) (a : Fin 4) : (D.row n (4 * g + a) q).k t d = two (fun r => D.K r g d) n t := by
  have := a.isLt
  show two (fun r => D.K r ((4 * g + a) / 4) d) n t = _
  rw [show (4 * g + a.val) / 4 = g by omega]
theorem row_v (n q g t d : ℕ) (a : Fin 4) : (D.row n (4 * g + a) q).v t d = two (fun r => D.V r g d) n t := by
  have := a.isLt
  show two (fun r => D.V r ((4 * g + a) / 4) d) n t = _
  rw [show (4 * g + a.val) / 4 = g by omega]

include A in
theorem v93_at (n : Fin 32) (g a : Fin 4) (q : Fin 128) (t : Fin 256) : (val_main_v93 (F := Ideal) x0 x1 (ix5 n g a q t) : Ideal .f32)
    = (((D.row n (4 * g + a) q).S t : ℝ) : EReal) := by
  pointwise [val_main_v93, val_main_v92, v83_at A, v75_at A]
  refine sum_coe _ _ _ fun d _ => ?_
  rw [← EReal.coe_mul, mul_comm, row_k]; rfl

theorem neg_inf : Ideal.ofBits .f32 0xFF800000#32 = ⊥ := by simp [Ideal.ofBits, Ideal.ieee]

theorem v107_at (q : Fin 128) (t : Fin 256) : val_main_v107 (F := Ideal) (ix2 q t) = if (decide (t.val ≤ q.val + 128) && decide (q.val < t.val)) then 1#1 else 0#1 := by
  pointwise [val_main_v107, val_main_v106, val_main_v105, val_main_v104, val_main_v103, val_main_v102, val_main_v101, val_main_v100, val_main_v99, val_main_v98, val_main_v97, val_main_v96, val_main_v95, val_main_v94, val_main_c, val_main_c_8, val_main_c_9]
  exact bit_band q t

theorem v119_at (n : Fin 32) (t : Fin 256) : val_main_v119 (F := Ideal) (ix3 n 0 t) = if (decide (0 < n.val) || decide (128 ≤ t.val)) then 1#1 else 0#1 := by
  pointwise [val_main_v119, val_main_v118, val_main_v117, val_main_v116, val_main_v115, val_main_v114, val_main_v113, val_main_v112, val_main_v111, val_main_v110, val_main_v109, val_main_c_10, val_main_c_11]
  exact bit_first n t

theorem v124_1_at (n : Fin 32) (g a : Fin 4) (q : Fin 128) (t : Fin 256) : val_main_v124_1 (F := Ideal) (ix5 n g a q t) = if Dat.band n q t then 1#1 else 0#1 := by
  pointwise [val_main_v124_1, val_main_v123, val_main_v122, val_main_v121, val_main_v120, val_main_v108, v107_at, v119_at]
  exact bit_and _ _

theorem sel_if {α : Type} (b : Bool) (x y : α) : Scalar.select (if b = true then 1#1 else 0#1) x y = if b = true then x else y := by
  cases b <;> rfl

include A
theorem v124_0_at (n : Fin 32) (g a : Fin 4) (q : Fin 128) (t : Fin 256) : (val_main_v124_0 (F := Ideal) x0 x1 (ix5 n g a q t) : Ideal .f32)
    = (D.row n (4 * g + a) q).SE t := by
  pointwise [val_main_v124_0, val_main_call0_v2, val_main_call0_v0, val_main_cst_12, v124_1_at, v93_at A]
  refine (sel_if _ _ _).trans ?_
  show (if _ then _ else Ideal.ofBits .f32 0xFF800000#32) = _
  rw [neg_inf]; rfl

theorem v126_at (g a : Fin 4) : (val_main_v126 (F := Ideal) x2 (ix5 0 g a 0 0) : Ideal .f32) = ((D.Sk (4 * g + a) : ℝ) : EReal) := by
  pointwise [val_main_v126, val_main_v125]
  exact x_at (f := fun _ c => D.Sk c) (fun r c => by obtain rfl : r = 0 := Subsingleton.elim _ _; exact A.Sk c) 0 _ (by show _ + _ = _; omega)

end Cert.ReferenceIdeal.Swa
-- ==== Proof.RefC.lean ====
/- The reference's scores, mask and softmax. -/
module
public import proofs.«01_k».proof.Proof.RefB
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

include A
theorem v127_at (n : Fin 32) (g a : Fin 4) (q : Fin 128) : (val_main_v127 (F := Ideal) x0 x1 (ix4 n g a q) : Ideal .f32)
    = Finset.univ.fold max ⊥ fun t : Fin 256 => (D.row n (4 * g + a) q).SE t := by
  pointwise [val_main_v127, val_main_cst_13]
  simp only [v124_0_at A, neg_inf]

theorem v133_at (n : Fin 32) (g a : Fin 4) (q : Fin 128) : (val_main_v133 (F := Ideal) x0 x1 (ix5 n g a q 0) : Ideal .f32)
    = Finset.univ.fold max ⊥ fun t : Fin 256 => (D.row n (4 * g + a) q).SE t := by
  refine Eq.trans ?_ (v127_at A n g a q)
  pointwise [val_main_v133]

theorem v134_at (n : Fin 32) (g a : Fin 4) (q : Fin 128) : (val_main_v134 (F := Ideal) x2 (ix5 n g a q 0) : Ideal .f32)
    = ((D.Sk (4 * g + a) : ℝ) : EReal) := by
  refine Eq.trans ?_ (v126_at A g a)
  pointwise [val_main_v134]

theorem v135_at (n : Fin 32) (g a : Fin 4) (q : Fin 128) : (val_main_v135 (F := Ideal) x0 x1 x2 (ix5 n g a q 0) : Ideal .f32)
    = (((D.row n (4 * g + a) q).M : ℝ) : EReal) := by
  unfold val_main_v135
  rw [maximumf_apply, Ideal.maximumf_def, v133_at A, v134_at A, Row.coe_M]
  unfold Row.ME
  show max _ (((D.row n (4 * g + a) q).sk : ℝ) : EReal) = _
  congr 1

end Cert.ReferenceIdeal.Swa
-- ==== Proof.RefD.lean ====
/- The reference's scores, mask and softmax. -/
module
public import proofs.«01_k».proof.Proof.RefC
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

include A
theorem v156_at (n : Fin 32) (g a : Fin 4) (q : Fin 128) (t : Fin 256) : (val_main_v156 (F := Ideal) x0 x1 x2 (ix5 n g a q t) : Ideal .f32)
    = (((D.row n (4 * g + a) q).P t : ℝ) : EReal) := by
  pointwise [val_main_v156, val_main_v155, val_main_v154, v135_at A, v124_0_at A]
  unfold Row.SE Row.P
  split
  · rw [← EReal.coe_sub]; exact Ideal.exp_coe _
  · rw [EReal.bot_sub]; exact Ideal.exp_bot

theorem v161_at (n : Fin 32) (g a : Fin 4) (q : Fin 128) : (val_main_v161 (F := Ideal) x0 x1 x2 (ix5 n g a q 0) : Ideal .f32)
    = (((D.row n (4 * g + a) q).E : ℝ) : EReal) := by
  pointwise [val_main_v161, val_main_v160, val_main_v159, v135_at A, v126_at A]
  rw [← EReal.coe_sub]; exact Ideal.exp_coe _

theorem v162_at (n : Fin 32) (g a : Fin 4) (q : Fin 128) : (val_main_v162 (F := Ideal) x0 x1 x2 (ix5 n g a q 0) : Ideal .f32)
    = (((D.row n (4 * g + a) q).D : ℝ) : EReal) := by
  pointwise [val_main_v162, val_main_v158, val_main_v157, val_main_cst_21, v161_at A]
  rw [sum_coe _ (fun t : Fin 256 => (D.row n (4 * g + a) q).P t) _ fun t _ => v156_at A n g a q t, ← EReal.coe_add]; rfl

theorem v164_at (n : Fin 32) (g a : Fin 4) (q : Fin 128) (t : Fin 256) : (val_main_v164 (F := Ideal) x0 x1 x2 (ix5 n g a q t) : Ideal .f32)
    = (((D.row n (4 * g + a) q).P t * (1 / (D.row n (4 * g + a) q).D) : ℝ) : EReal) := by
  pointwise [val_main_v164, val_main_v163, v156_at A, v162_at A]
  rw [Ideal.div_coe (Row.D_ne _), ← EReal.coe_mul]

theorem v167_at (n : Fin 32) (g a : Fin 4) (q : Fin 128) : (val_main_v167 (F := Ideal) x0 x1 x2 (ix5 n g a q 0) : Ideal .f32)
    = ((1 / ((D.row n (4 * g + a) q).D * (D.row n (4 * g + a) q).D) : ℝ) : EReal) := by
  pointwise [val_main_v167, val_main_v166, val_main_v165, val_main_cst_22, v162_at A]
  rw [← EReal.coe_mul, Ideal.div_coe (mul_ne_zero (Row.D_ne _) (Row.D_ne _)), one_mul]

theorem v172_at (n : Fin 32) (g a : Fin 4) (q : Fin 128) (d : Fin 64) : (val_main_v172 (F := Ideal) x3 (ix5 n g d a q) : Ideal .f32)
    = (((D.row n (4 * g + a) q).o d : ℝ) : EReal) := by
  pointwise [val_main_v172, val_main_v171]
  refine (A.DO _ _).trans ?_
  show ((D.DO (n.val * 128 + q.val) (g.val * 256 + a.val * 64 + d.val) : ℝ) : EReal) = ((D.DO (128 * n.val + q.val) (64 * (4 * g.val + a.val) + d.val) : ℝ) : EReal)
  rw [Nat.mul_comm n.val 128, show g.val * 256 + a.val * 64 + d.val = 64 * (4 * g.val + a.val) + d.val by omega]

theorem v173_at (n : Fin 32) (g a : Fin 4) (q : Fin 128) (t : Fin 256) : (val_main_v173 (F := Ideal) x0 x1 x3 (ix5 n g a q t) : Ideal .f32)
    = (((D.row n (4 * g + a) q).G t : ℝ) : EReal) := by
  pointwise [val_main_v173, v172_at A, v91_at A]
  refine sum_coe _ _ _ fun d _ => ?_
  rw [← EReal.coe_mul, row_v]

end Cert.ReferenceIdeal.Swa
-- ==== Proof.RefE.lean ====
/- The reference's gradient of the scores. -/
module
public import proofs.«01_k».proof.Proof.RefD
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

include A
variable (n : Fin 32) (g a : Fin 4) (q : Fin 128)

theorem v178_at (t : Fin 256) : (val_main_v178 (F := Ideal) x0 x1 x2 x3 (ix5 n g a q t) : Ideal .f32)
    = (((D.row n (4 * g + a) q).G t * (D.row n (4 * g + a) q).P t / ((D.row n (4 * g + a) q).D * (D.row n (4 * g + a) q).D) : ℝ) : EReal) := by
  pointwise [val_main_v178, val_main_v177, val_main_v176, v173_at A, v167_at A, v156_at A]
  rw [← EReal.coe_mul, ← EReal.coe_mul]
  congr 1; ring

theorem v181_at : (val_main_v181 (F := Ideal) x0 x1 x2 x3 (ix5 n g a q 0) : Ideal .f32) = (((D.row n (4 * g + a) q).W : ℝ) : EReal) := by
  pointwise [val_main_v181, val_main_v180, val_main_v179, val_main_cst_23]
  rw [sum_coe _ _ _ fun t _ => v178_at A n g a q t, ← EReal.coe_neg]
  congr 1
  unfold Row.W
  rw [Finset.sum_div]

theorem v184_at : (val_main_v184 (F := Ideal) x0 x1 x2 x3 (ix5 n g a q 0) : Ideal .f32) = (((D.row n (4 * g + a) q).W * (D.row n (4 * g + a) q).E : ℝ) : EReal) := by
  pointwise [val_main_v184, v181_at A, v161_at A]
  rw [← EReal.coe_mul]

theorem v191_at (t : Fin 256) : (val_main_v191 (F := Ideal) x0 x1 x2 x3 (ix5 n g a q t) : Ideal .f32) = (((D.row n (4 * g + a) q).dS t : ℝ) : EReal) := by
  pointwise [val_main_v191, val_main_v190, val_main_v189, val_main_v188, val_main_v183, val_main_v182, val_main_cst_25, v181_at A, v173_at A, v162_at A, v156_at A]
  rw [Fin.sum_univ_one, v181_at A, Ideal.div_coe (Row.D_ne _), ← EReal.coe_mul, ← EReal.coe_add, ← EReal.coe_mul]
  congr 1; unfold Row.dS; ring

theorem v195_at : (val_main_v195 (F := Ideal) x0 x1 x2 x3 (ix5 n g a q 0) : Ideal .f32) = 0 := by
  pointwise [val_main_v195, val_main_v194, val_main_v193, val_main_v192, val_main_v187, val_main_cst_26, v184_at A]
  rw [sum_coe _ (fun t : Fin 256 => -(D.row n (4 * g + a) q).dS t) _ fun t _ => by rw [v191_at A, EReal.coe_neg], ← EReal.coe_neg, ← EReal.coe_add, ← EReal.coe_zero]
  congr 1
  rw [Finset.sum_neg_distrib]
  linarith [(D.row n (4 * g + a) q).max_path]

end Cert.ReferenceIdeal.Swa
-- ==== Proof.RefF.lean ====
/- Nothing flows back through the maximum; the gradients of the turned queries, keys and values. -/
module
public import proofs.«01_k».proof.Proof.RefE
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

theorem fold_max_mem {ι : Type*} [DecidableEq ι] (s : Finset ι) (f : ι → EReal) (h : s.Nonempty) : ∃ i ∈ s, f i = s.fold max ⊥ f := by
  induction s using Finset.induction_on with
  | empty => exact absurd h (by simp)
  | insert a s ha ih =>
    rw [Finset.fold_insert ha]
    rcases max_choice (f a) (s.fold max ⊥ f) with e | e
    · exact ⟨a, Finset.mem_insert_self _ _, e.symm⟩
    · by_cases hs : s.Nonempty
      · obtain ⟨i, hi, h⟩ := ih hs
        exact ⟨i, Finset.mem_insert_of_mem hi, h.trans e.symm⟩
      · rw [Finset.not_nonempty_iff_eq_empty] at hs
        subst hs
        refine ⟨a, Finset.mem_insert_self _ _, ?_⟩
        rw [Finset.fold_empty, max_bot_right]

theorem bit_real (b : BitVec 1) : (FloatOps.uitofp (F := Ideal) FTy.f32 b : Ideal .f32) = (((b.toNat : ℝ) : ℝ) : EReal) := rfl

include A
variable (n : Fin 32) (g a : Fin 4) (q : Fin 128)

theorem v131_at (t : Fin 256) : (val_main_v131 (F := Ideal) x0 x1 (ix5 n g a q t) : Ideal .f32)
    = (((if (D.row n (4 * g + a) q).SE t = (Finset.univ.fold max ⊥ fun t : Fin 256 => (D.row n (4 * g + a) q).SE t) then 1 else 0 : ℝ)) : EReal) := by
  pointwise [val_main_v131, val_main_v130, val_main_v129, val_main_v128, v127_at A, v124_0_at A]
  rw [bit_real]
  split
  · rename_i h; rw [decide_eq_true h]; simp
  · rename_i h; rw [decide_eq_false h]; simp

theorem v132_at : ∃ k : ℝ, k ≠ 0 ∧ (val_main_v132 (F := Ideal) x0 x1 (ix4 n g a q) : Ideal .f32) = ((k : ℝ) : EReal) := by
  refine ⟨∑ t : Fin 256, if (D.row n (4 * g + a) q).SE t = (Finset.univ.fold max ⊥ fun t : Fin 256 => (D.row n (4 * g + a) q).SE t) then 1 else 0, ?_, ?_⟩
  · obtain ⟨t, _, h⟩ := fold_max_mem Finset.univ (fun t : Fin 256 => (D.row n (4 * g + a) q).SE t) ⟨0, Finset.mem_univ _⟩
    refine ne_of_gt (Finset.sum_pos' (fun i _ => ?_) ⟨t, Finset.mem_univ _, ?_⟩)
    · split
      · exact zero_le_one
      · exact le_rfl
    · rw [if_pos h]; exact zero_lt_one
  · pointwise [val_main_v132, val_main_cst_14]
    exact sum_coe _ _ _ fun t _ => v131_at A n g a q t

theorem v200_at : (val_main_v200 (F := Ideal) x0 x1 x2 x3 (ix5 n g a q 0) : Ideal .f32) = 0 := by
  unfold val_main_v200
  rw [mulf_apply, Ideal.mulf_def, v195_at A, zero_mul]

theorem v196_at : (val_main_v196 (F := Ideal) x0 x1 x2 x3 (ix5 n g a q 0) : Ideal .f32) = 0 := by
  unfold val_main_v196
  rw [mulf_apply, Ideal.mulf_def, v195_at A, zero_mul]

theorem v201_at : (val_main_v201 (F := Ideal) x0 x1 x2 x3 (ix4 n g a q) : Ideal .f32) = 0 := by
  pointwise [val_main_v201, val_main_cst_28]
  rw [Fin.sum_univ_one, v200_at A]

theorem v202_at : (val_main_v202 (F := Ideal) x0 x1 x2 x3 (ix4 n g a q) : Ideal .f32) = 0 := by
  obtain ⟨k, hk, e⟩ := v132_at A n g a q
  pointwise [val_main_v202]
  rw [v201_at A, e, Ideal.div_coe hk, zero_mul]

theorem v204_at (t : Fin 256) : (val_main_v204 (F := Ideal) x0 x1 x2 x3 (ix5 n g a q t) : Ideal .f32) = 0 := by
  pointwise [val_main_v204, val_main_v203]
  rw [v202_at A, zero_mul]

theorem v208_at (t : Fin 256) : (val_main_v208 (F := Ideal) x0 x1 x2 x3 (ix5 n g a q t) : Ideal .f32) = (((D.row n (4 * g + a) q).dS t : ℝ) : EReal) := by
  pointwise [val_main_v208, val_main_v205, val_main_call1_v0, val_main_call1_cst, v204_at A, v191_at A, v124_1_at]
  refine (sel_if _ _ _).trans ?_
  split
  · rfl
  · rename_i h
    rw [Row.dS_not_ok _ _ (Bool.eq_false_iff.mpr h), EReal.coe_zero]

theorem v209_at (t : Fin 256) : (val_main_v209 (F := Ideal) x0 x1 x2 x3 (ix5 n g t q a) : Ideal .f32) = (((D.row n (4 * g + a) q).dS t : ℝ) : EReal) := by
  refine Eq.trans ?_ (v208_at A n g a q t)
  pointwise [val_main_v209]

theorem v211_at (d : Fin 64) : (val_main_v211 (F := Ideal) x0 x1 x2 x3 (ix5 n q g a d) : Ideal .f32) = ((D.dq0 n (4 * g + a) q d : ℝ) : EReal) := by
  pointwise [val_main_v211, val_main_v210, v209_at A, v83_at A]
  refine sum_coe _ _ _ fun t _ => ?_
  rw [← EReal.coe_mul, row_k]

omit a q in
theorem v213_at (t : Fin 256) (d : Fin 64) : (val_main_v213 (F := Ideal) x0 x1 x2 x3 (ix4 n t g d) : Ideal .f32) = ((D.dkB n g t d : ℝ) : EReal) := by
  pointwise [val_main_v213, val_main_v212, v209_at A, v75_at A]
  unfold Dat.dkB
  rw [Finset.sum_comm]
  refine sum_coe _ _ _ fun q _ => sum_coe _ _ _ fun a _ => ?_
  rw [← EReal.coe_mul]; rfl

omit a q in
theorem v175_at (t : Fin 256) (d : Fin 64) : (val_main_v175 (F := Ideal) x0 x1 x2 x3 (ix4 n t g d) : Ideal .f32) = ((D.dvB n g t d : ℝ) : EReal) := by
  pointwise [val_main_v175, val_main_v174, v172_at A, v164_at A]
  refine sum_coe _ _ _ fun a _ => sum_coe _ _ _ fun q _ => ?_
  rw [← EReal.coe_mul]; congr 1; ring

end Cert.ReferenceIdeal.Swa
-- ==== Proof.RefG.lean ====
/- The reference's rows of gradients. -/
module
public import proofs.«01_k».proof.Proof.RefF
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

theorem fold2_of (f : ℕ → ℕ → ℝ) (r : ℕ) (x : EReal) (hx : x = (((if r / 128 < 31 then f (r / 128 + 1) (r % 128) else 0 : ℝ)) : EReal)) :
    ((f (r / 128) (128 + r % 128) : ℝ) : EReal) + x = ((Dat.fold2 f r : ℝ) : EReal) := by
  rw [hx, ← EReal.coe_add, add_comm]; rfl

theorem turnT_tail (r : ℕ) (x : ℕ → ℝ) (d : ℕ) (h : ¬ d < 16) : turnT r x d = x d := by
  simp only [turnT, cs, sn, rot, if_neg h, if_neg (show ¬ d < 8 by omega)]; ring

theorem parts (r : ℕ) (y : ℕ → ℝ) (d : ℕ) (hd : d < 64) : (((if h : 16 ≤ d ∧ d - 16 < 48 then ((y (16 + (d - 16)) : ℝ) : EReal) else 0)
    + if h : 8 ≤ d ∧ d - 8 < 8 then ((turnT r y (8 + (d - 8)) : ℝ) : EReal) else 0) + if h : d < 8 then ((turnT r y d : ℝ) : EReal) else 0)
      = ((turnT r y d : ℝ) : EReal) := by
  by_cases h1 : d < 8
  · rw [dif_neg (show ¬ (16 ≤ d ∧ d - 16 < 48) by omega), dif_neg (show ¬ (8 ≤ d ∧ d - 8 < 8) by omega), dif_pos h1, add_zero, zero_add]
  · by_cases h2 : d < 16
    · rw [dif_neg (show ¬ (16 ≤ d ∧ d - 16 < 48) by omega), dif_pos (show (8 ≤ d ∧ d - 8 < 8) by omega), dif_neg h1, zero_add, add_zero, show 8 + (d - 8) = d by omega]
    · rw [dif_pos (show (16 ≤ d ∧ d - 16 < 48) by omega), dif_neg (show ¬ (8 ≤ d ∧ d - 8 < 8) by omega), dif_neg h1, add_zero, add_zero, show 16 + (d - 16) = d by omega, turnT_tail _ _ _ h2]

include A

theorem v214_at (n : Fin 32) (t : Fin 256) (c : Fin 256) : (val_main_v214 (F := Ideal) x0 x1 x2 x3 (ix3 n t c) : Ideal .f32) = ((D.dvB n (c / 64) t (c % 64) : ℝ) : EReal) := by
  pointwise [val_main_v214, v175_at A]
theorem v222_at (n : Fin 32) (t : Fin 256) (c : Fin 256) : (val_main_v222 (F := Ideal) x0 x1 x2 x3 (ix3 n t c) : Ideal .f32) = ((D.dkB n (c / 64) t (c % 64) : ℝ) : EReal) := by
  pointwise [val_main_v222, v213_at A]

theorem v219_at (n : Fin 32) (q : Fin 128) (c : Fin 256) : (val_main_v219 (F := Ideal) x0 x1 x2 x3 (ix3 n q c) : Ideal .f32)
    = (((if n.val < 31 then D.dvB (n + 1) (c / 64) q (c % 64) else 0 : ℝ)) : EReal) := by
  pointwise [val_main_v219, val_main_v218, val_main_v215, val_main_cst_30, v214_at A]
  rw [Nat.add_comm 1 n.val]
  split
  · rfl
  · rfl
theorem v227_at (n : Fin 32) (q : Fin 128) (c : Fin 256) : (val_main_v227 (F := Ideal) x0 x1 x2 x3 (ix3 n q c) : Ideal .f32)
    = (((if n.val < 31 then D.dkB (n + 1) (c / 64) q (c % 64) else 0 : ℝ)) : EReal) := by
  pointwise [val_main_v227, val_main_v226, val_main_v223, val_main_cst_31, v222_at A]
  rw [Nat.add_comm 1 n.val]
  split
  · rfl
  · rfl

theorem v221_at (r : Fin 4096) (c : Fin 256) : (val_main_v221 (F := Ideal) x0 x1 x2 x3 (ix2 r c) : Ideal .f32) = ((D.dV r c : ℝ) : EReal) := by
  pointwise [val_main_v221, val_main_v220, val_main_v216, v214_at A, v219_at A]
  exact fold2_of (fun n t => D.dvB n (c / 64) t (c % 64)) r _ rfl
theorem v229_at (r : Fin 4096) (g : Fin 4) (d : Fin 64) : (val_main_v229 (F := Ideal) x0 x1 x2 x3 (ix3 r g d) : Ideal .f32) = ((D.dkR r g d : ℝ) : EReal) := by
  pointwise [val_main_v229, val_main_v228, val_main_v224, v222_at A, v227_at A]
  rw [show (g.val * 64 + d.val) / 64 = g.val by have := d.isLt; omega, show (g.val * 64 + d.val) % 64 = d.val by have := d.isLt; omega]
  exact fold2_of (fun n t => D.dkB n g t d) r _ rfl

theorem v244_at (r : Fin 4096) (g : Fin 4) (l : Fin 8) : (val_main_v244 (F := Ideal) x0 x1 x2 x3 (ix3 r g l) : Ideal .f32)
    = ((turnT r (fun e => D.dkR r g e) (8 + l) : ℝ) : EReal) := by
  have hl := l.isLt
  pointwise [val_main_v244, val_main_v243, val_main_v242, val_main_v241, val_main_v240, val_main_v239, val_main_v233, val_main_v234, v56_at, v58_at, v229_at A]
  rw [← EReal.coe_mul, ← EReal.coe_neg, ← EReal.coe_mul, ← EReal.coe_add]
  congr 1
  simp only [turnT, cs, sn, rot, if_neg (show ¬ 8 + l.val < 8 by omega), if_pos (show 8 + l.val < 16 by omega), if_pos (show l.val < 16 by omega), Nat.add_mod_left, Nat.mod_eq_of_lt hl, Nat.add_sub_cancel_left]
  ring
theorem v247_at (r : Fin 4096) (g : Fin 4) (l : Fin 8) : (val_main_v247 (F := Ideal) x0 x1 x2 x3 (ix3 r g l) : Ideal .f32)
    = ((turnT r (fun e => D.dkR r g e) l : ℝ) : EReal) := by
  have hl := l.isLt
  pointwise [val_main_v247, val_main_v246, val_main_v245, val_main_v238, val_main_v237, val_main_v233, val_main_v234, v56_at, v58_at, v229_at A]
  rw [← EReal.coe_mul, ← EReal.coe_mul, ← EReal.coe_add]
  congr 1
  simp only [turnT, cs, sn, rot, if_pos (show l.val < 8 by omega), if_pos (show l.val + 8 < 16 by omega), if_pos (show l.val < 16 by omega), Nat.add_comm 8 l.val, Nat.add_mod_right, Nat.mod_eq_of_lt hl]
  ring

theorem v251_at (r : Fin 4096) (g : Fin 4) (d : Fin 64) : (val_main_v251 (F := Ideal) x0 x1 x2 x3 (ix3 r g d) : Ideal .f32)
    = ((turnT r (fun e => D.dkR r g e) d : ℝ) : EReal) := by
  pointwise [val_main_v251, val_main_v250, val_main_v249, val_main_v248, val_main_v236, val_main_v235, val_main_cst_33, val_main_cst_34, val_main_cst_35, v244_at A, v247_at A, v229_at A]
  exact parts r (fun e => D.dkR r g e) d d.isLt

theorem v232_at (r : Fin 4096) (h : Fin 16) (d : Fin 64) : (val_main_v232 (F := Ideal) x0 x1 x2 x3 (ix3 r h d) : Ideal .f32)
    = ((D.dq0 (r / 128) h (r % 128) d * (1 / 8) : ℝ) : EReal) := by
  pointwise [val_main_v232, val_main_v231, val_main_v230, val_main_cst_32, v211_at A, eighth]
  rw [← EReal.coe_mul, Nat.div_add_mod]

theorem v264_at (r : Fin 4096) (g : Fin 16) (l : Fin 8) : (val_main_v264 (F := Ideal) x0 x1 x2 x3 (ix3 r g l) : Ideal .f32)
    = ((turnT r (fun e => D.dq0 (r / 128) g (r % 128) e * (1 / 8)) (8 + l) : ℝ) : EReal) := by
  have hl := l.isLt
  pointwise [val_main_v264, val_main_v263, val_main_v262, val_main_v261, val_main_v260, val_main_v259, val_main_v253, val_main_v254, v24_at, v26_at, v232_at A]
  rw [← EReal.coe_mul, ← EReal.coe_neg, ← EReal.coe_mul, ← EReal.coe_add]
  congr 1
  simp only [turnT, cs, sn, rot, if_neg (show ¬ 8 + l.val < 8 by omega), if_pos (show 8 + l.val < 16 by omega), if_pos (show l.val < 16 by omega), Nat.add_mod_left, Nat.mod_eq_of_lt hl, Nat.add_sub_cancel_left]
  ring
theorem v267_at (r : Fin 4096) (g : Fin 16) (l : Fin 8) : (val_main_v267 (F := Ideal) x0 x1 x2 x3 (ix3 r g l) : Ideal .f32)
    = ((turnT r (fun e => D.dq0 (r / 128) g (r % 128) e * (1 / 8)) l : ℝ) : EReal) := by
  have hl := l.isLt
  pointwise [val_main_v267, val_main_v266, val_main_v265, val_main_v258, val_main_v257, val_main_v253, val_main_v254, v24_at, v26_at, v232_at A]
  rw [← EReal.coe_mul, ← EReal.coe_mul, ← EReal.coe_add]
  congr 1
  simp only [turnT, cs, sn, rot, if_pos (show l.val < 8 by omega), if_pos (show l.val + 8 < 16 by omega), if_pos (show l.val < 16 by omega), Nat.add_comm 8 l.val, Nat.add_mod_right, Nat.mod_eq_of_lt hl]
  ring
theorem v271_at (r : Fin 4096) (g : Fin 16) (d : Fin 64) : (val_main_v271 (F := Ideal) x0 x1 x2 x3 (ix3 r g d) : Ideal .f32)
    = ((turnT r (fun e => D.dq0 (r / 128) g (r % 128) e * (1 / 8)) d : ℝ) : EReal) := by
  pointwise [val_main_v271, val_main_v270, val_main_v269, val_main_v268, val_main_v256, val_main_v255, val_main_cst_36, val_main_cst_37, val_main_cst_38, v264_at A, v267_at A, v232_at A]
  exact parts r (fun e => D.dq0 (r / 128) g (r % 128) e * (1 / 8)) d d.isLt

theorem v272_at (r : Fin 4096) (c : Fin 1024) : (val_main_v272 (F := Ideal) x0 x1 x2 x3 (ix2 r c) : Ideal .f32) = ((D.dQ r c : ℝ) : EReal) := by
  pointwise [val_main_v272, v271_at A]
  rfl
theorem v252_at (r : Fin 4096) (c : Fin 256) : (val_main_v252 (F := Ideal) x0 x1 x2 x3 (ix2 r c) : Ideal .f32) = ((D.dK r c : ℝ) : EReal) := by
  pointwise [val_main_v252, v251_at A]
  rfl

end Cert.ReferenceIdeal.Swa
-- ==== Proof.RefH.lean ====
/- The reference's seven results. -/
module
public import proofs.«01_k».proof.Proof.RefG
public import proofs.«01_k».proof.Proof.RefBits

@[expose] public section
set_option maxRecDepth 16384
noncomputable section
namespace Cert.ReferenceIdeal.Swa
open Idealize.ShloMosaic Idealize.ShloMosaic.TcCoe Cert.ReferenceIdeal Cert.ReferenceIdeal.Gen Cert.ReferenceIdeal.Read
open _root_.Swa (Row sum_coe coe_sum Dat ang cs sn rot turn turnT two sum_split)

variable {x0 : FVec Ideal S4096x2560 .f32} {x1 : FVec Ideal S1x1536 .f32} {x2 : FVec Ideal S1x16 .f32}
  {x3 : FVec Ideal S4096x1024 .f32} {D : Dat} (A : Given x0 x1 x2 x3 D)

theorem sum_a03 (h : S32x4x4x128x1.ReducesTo [0, 3] S4x4x1) (v : S32x4x4x128x1.Idx → EReal) (init : EReal) (g a : Fin 4) :
    Ideal.hostReduceAdd h v init (ix3 g a 0) = init + ∑ n : Fin 32, ∑ q : Fin 128, v (ix5 n g a q 0) := by
  unfold Ideal.hostReduceAdd
  refine congrArg (init + ·) ?_
  refine (Finset.sum_filter_eq_sum_of_fiber _ (fun k : Fin 32 × Fin 128 => (ix5 k.1 g a k.2 0 : S32x4x4x128x1.Idx))
    (fun _ _ e => Prod.ext (congrFun e 0) (congrFun e 3)) (fun i => ?_) v).trans ?_
  · constructor
    · intro e
      refine ⟨(i 0, i 3), ?_⟩
      funext b; apply Fin.ext
      match b with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨k, rfl⟩
      funext b; apply Fin.ext
      match b with
      | ⟨0, _⟩ => rfl
      | ⟨1, _⟩ => rfl
      | ⟨2, _⟩ => rfl
  · simp only [Fintype.sum_prod_type]

theorem sum_a034 (h : S1x4x4x1x1.ReducesTo [0, 3, 4] S4x4) (v : S1x4x4x1x1.Idx → EReal) (init : EReal) (g a : Fin 4) :
    Ideal.hostReduceAdd h v init (ix2 g a) = init + v (ix5 0 g a 0 0) := by
  unfold Ideal.hostReduceAdd
  refine congrArg (init + ·) ?_
  refine (Finset.sum_filter_eq_sum_of_fiber _ (fun k : Fin 1 => (ix5 k g a 0 0 : S1x4x4x1x1.Idx))
    (fun _ _ e => congrFun e 0) (fun i => ?_) v).trans ?_
  · constructor
    · intro e
      refine ⟨i 0, ?_⟩
      funext b; apply Fin.ext
      match b with
      | ⟨0, _⟩ => rfl
      | ⟨1, _⟩ => exact (congrArg Fin.val (congrFun e 0)).symm
      | ⟨2, _⟩ => exact (congrArg Fin.val (congrFun e 1)).symm
      | ⟨3, _⟩ => exact (Nat.lt_one_iff.mp (i 3).isLt).symm
      | ⟨4, _⟩ => exact (Nat.lt_one_iff.mp (i 4).isLt).symm
    · rintro ⟨k, rfl⟩
      funext b; apply Fin.ext
      match b with
      | ⟨0, _⟩ => rfl
      | ⟨1, _⟩ => rfl
  · rw [Fin.sum_univ_one]

include A

theorem v185_at (g a : Fin 4) : (val_main_v185 (F := Ideal) x0 x1 x2 x3 (ix3 g a 0) : Ideal .f32) = ((D.dSk (4 * g + a) : ℝ) : EReal) := by
  refine (sum_a03 _ _ _ g a).trans ?_
  rw [show ((val_main_cst_24 (F := Ideal) : FVec Ideal S_ .f32) (Shape.Idx.first h_S_) : EReal) = 0 from Ideal.ofBits_zero_f32, zero_add]
  exact sum_coe _ _ _ fun n _ => sum_coe _ _ _ fun q _ => v184_at A n g a q

theorem v197_at (g a : Fin 4) : (val_main_v197 (F := Ideal) x0 x1 x2 x3 (ix3 g a 0) : Ideal .f32) = 0 := by
  refine (sum_a03 _ _ _ g a).trans ?_
  rw [show ((val_main_cst_27 (F := Ideal) : FVec Ideal S_ .f32) (Shape.Idx.first h_S_) : EReal) = 0 from Ideal.ofBits_zero_f32, zero_add]
  exact Finset.sum_eq_zero fun n _ => Finset.sum_eq_zero fun q _ => v196_at A n g a q

theorem v199_at (g a : Fin 4) : (val_main_v199 (F := Ideal) x0 x1 x2 x3 (ix5 0 g a 0 0) : Ideal .f32) = ((D.dSk (4 * g + a) : ℝ) : EReal) := by
  pointwise [val_main_v199, val_main_v198, val_main_v186]
  rw [v185_at A, v197_at A, add_zero]

theorem v206_at (g a : Fin 4) : (val_main_v206 (F := Ideal) x0 x1 x2 x3 (ix2 g a) : Ideal .f32) = ((D.dSk (4 * g + a) : ℝ) : EReal) := by
  refine (sum_a034 _ _ _ g a).trans ?_
  rw [show ((val_main_cst_29 (F := Ideal) : FVec Ideal S_ .f32) (Shape.Idx.first h_S_) : EReal) = 0 from Ideal.ofBits_zero_f32, zero_add]
  exact v199_at A g a

theorem res_sk : val_main_v207 (F := Ideal) x0 x1 x2 x3 = (fun i : S1x16.Idx => ((D.dSk (i 1) : ℝ) : EReal)) := by
  funext i
  obtain ⟨r, h, rfl⟩ : ∃ (r : Fin 1) (h : Fin 16), i = ix2 r h := ⟨i 0, i 1, eq_ix2 i⟩
  pointwise [val_main_v207]
  refine (v206_at A _ _).trans ?_
  congr 2
  show 4 * (h.val / 4) + h.val % 4 = h.val
  omega

theorem v273_q (r : Fin 4096) (c : Fin 1536) (h : c.val < 1024) : (val_main_v273 (F := Ideal) x0 x1 x2 x3 (ix2 r c) : Ideal .f32) = ((D.dQ r c : ℝ) : EReal) := by
  pointwise [val_main_v273]
  rw [dif_pos h, v272_at A]
theorem v273_k (r : Fin 4096) (c : Fin 1536) (c' : ℕ) (hc : c' < 256) (h : c.val = 1024 + c') : (val_main_v273 (F := Ideal) x0 x1 x2 x3 (ix2 r c) : Ideal .f32) = ((D.dK r c' : ℝ) : EReal) := by
  pointwise [val_main_v273]
  rw [dif_neg (by omega), dif_pos (by omega), v252_at A]
  congr 2
  show c.val - 1024 = c'
  omega
theorem v273_v (r : Fin 4096) (c : Fin 1536) (c' : ℕ) (hc : c' < 256) (h : c.val = 1280 + c') : (val_main_v273 (F := Ideal) x0 x1 x2 x3 (ix2 r c) : Ideal .f32) = ((D.dV r c' : ℝ) : EReal) := by
  pointwise [val_main_v273]
  rw [dif_neg (by omega), dif_neg (by omega), v221_at A]
  congr 2
  show c.val - 1024 - 256 = c'
  omega

theorem v275_of (c : Fin 1536) (f : ℕ → ℝ) (h : ∀ r : Fin 4096, (val_main_v273 (F := Ideal) x0 x1 x2 x3 (ix2 r c) : Ideal .f32) = ((f r : ℝ) : EReal)) :
    (val_main_v275 (F := Ideal) x0 x1 x2 x3 (ix2 0 c) : Ideal .f32) = ((∑ r : Fin 4096, f r : ℝ) : EReal) := by
  pointwise [val_main_v275, val_main_v274, val_main_cst_39]
  exact sum_coe _ _ _ fun r _ => h r

theorem res_q : val_main_v279 (F := Ideal) x0 x1 x2 x3 = (fun i : S4096x1024.Idx => ((D.dQ (i 0) (i 1) : ℝ) : EReal)) := by
  funext i
  obtain ⟨r, c, rfl⟩ : ∃ (r : Fin 4096) (c : Fin 1024), i = ix2 r c := ⟨i 0, i 1, eq_ix2 i⟩
  pointwise [val_main_v279, val_main_v276]
  exact v273_q A r ⟨c.val, by omega⟩ c.isLt
theorem res_k : val_main_v280 (F := Ideal) x0 x1 x2 x3 = (fun i : S4096x256.Idx => ((D.dK (i 0) (i 1) : ℝ) : EReal)) := by
  funext i
  obtain ⟨r, c, rfl⟩ : ∃ (r : Fin 4096) (c : Fin 256), i = ix2 r c := ⟨i 0, i 1, eq_ix2 i⟩
  pointwise [val_main_v280, val_main_v277]
  exact v273_k A r _ c.val c.isLt rfl
theorem res_v : val_main_v281 (F := Ideal) x0 x1 x2 x3 = (fun i : S4096x256.Idx => ((D.dV (i 0) (i 1) : ℝ) : EReal)) := by
  funext i
  obtain ⟨r, c, rfl⟩ : ∃ (r : Fin 4096) (c : Fin 256), i = ix2 r c := ⟨i 0, i 1, eq_ix2 i⟩
  pointwise [val_main_v281, val_main_v278]
  exact v273_v A r _ c.val c.isLt rfl
theorem res_bq : val_main_v282 (F := Ideal) x0 x1 x2 x3 = (fun i : S1x1024.Idx => ((D.dBq (i 1) : ℝ) : EReal)) := by
  funext i
  obtain ⟨r, c, rfl⟩ : ∃ (r : Fin 1) (c : Fin 1024), i = ix2 r c := ⟨i 0, i 1, eq_ix2 i⟩
  obtain rfl : r = 0 := Subsingleton.elim _ _
  pointwise [val_main_v282]
  exact v275_of A _ (fun r => D.dQ r c) fun r => v273_q A r ⟨c.val, by omega⟩ c.isLt
theorem res_bk : val_main_v283 (F := Ideal) x0 x1 x2 x3 = (fun i : S1x256.Idx => ((D.dBk (i 1) : ℝ) : EReal)) := by
  funext i
  obtain ⟨r, c, rfl⟩ : ∃ (r : Fin 1) (c : Fin 256), i = ix2 r c := ⟨i 0, i 1, eq_ix2 i⟩
  obtain rfl : r = 0 := Subsingleton.elim _ _
  pointwise [val_main_v283]
  exact v275_of A _ (fun r => D.dK r c) fun r => v273_k A r _ c.val c.isLt rfl
theorem res_bv : val_main_v284 (F := Ideal) x0 x1 x2 x3 = (fun i : S1x256.Idx => ((D.dBv (i 1) : ℝ) : EReal)) := by
  funext i
  obtain ⟨r, c, rfl⟩ : ∃ (r : Fin 1) (c : Fin 256), i = ix2 r c := ⟨i 0, i 1, eq_ix2 i⟩
  obtain rfl : r = 0 := Subsingleton.elim _ _
  pointwise [val_main_v284]
  exact v275_of A _ (fun r => D.dV r c) fun r => v273_v A r _ c.val c.isLt rfl

end Cert.ReferenceIdeal.Swa
-- ==== Proof.Meet.lean ====
/- Arguments that pass the precondition are real numbers; the kernel's and the reference's arrays meet. -/
module
public import proofs.«01_k».proof.Proof.Final
public import proofs.«01_k».proof.Proof.Blks
public import proofs.«01_k».proof.Proof.RefH
public import proofs.«01_k».proof.Proof.Gen.Pre_finite
public import proofs.«01_k».proof.Proof.Gen.ReferenceIdeal.Run
public import proofs.«01_k».proof.Defs

@[expose] public section
set_option maxRecDepth 16384
noncomputable section
namespace Cert.Meet
open Idealize.ShloMosaic Idealize.ShloMosaic.TcCoe Idealize.SL.Sem
open _root_.Swa (Dat)

theorem real_of {x : Ideal .f32} (h : FloatOps.cmpf .olt (FloatOps.hostAbsf x) (FloatOps.ofBits (F := Ideal) .f32 0x7F800000#32) = 1#1) :
    x = ((EReal.toReal (x : EReal) : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine (EReal.coe_toReal hlt.1.ne ?_).symm
  intro hb
  rw [hb] at hlt
  simp at hlt

/-- The real numbers the four argument arrays hold. -/
def datOf (x0 : FVec Ideal (⟨2, ![4096, 2560]⟩ : Shape) .f32) (x1 : FVec Ideal (⟨2, ![1, 1536]⟩ : Shape) .f32) (x2 : FVec Ideal (⟨2, ![1, 16]⟩ : Shape) .f32) (x3 : FVec Ideal (⟨2, ![4096, 1024]⟩ : Shape) .f32) : Dat where
  X r k := if h : r < 4096 ∧ k < 2560 then EReal.toReal (x0 (ix2 ⟨r, h.1⟩ ⟨k, h.2⟩)) else 0
  B k := if h : k < 1536 then EReal.toReal (x1 (ix2 0 ⟨k, h⟩)) else 0
  Sk k := if h : k < 16 then EReal.toReal (x2 (ix2 0 ⟨k, h⟩)) else 0
  DO r k := if h : r < 4096 ∧ k < 1024 then EReal.toReal (x3 (ix2 ⟨r, h.1⟩ ⟨k, h.2⟩)) else 0

section
variable {x0 : FVec Ideal (⟨2, ![4096, 2560]⟩ : Shape) .f32} {x1 : FVec Ideal (⟨2, ![1, 1536]⟩ : Shape) .f32} {x2 : FVec Ideal (⟨2, ![1, 16]⟩ : Shape) .f32} {x3 : FVec Ideal (⟨2, ![4096, 1024]⟩ : Shape) .f32}

theorem given_of [Cert.Pre_finite.Facts] (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    Cert.ReferenceIdeal.Swa.Given x0 x1 x2 x3 (datOf x0 x1 x2 x3) where
  X r k := (real_of (congrFun h0 (ix2 r k))).trans (by unfold datOf; dsimp only; rw [dif_pos ⟨r.isLt, k.isLt⟩])
  B k := (real_of (congrFun h1 (ix2 0 k))).trans (by unfold datOf; dsimp only; rw [dif_pos k.isLt])
  Sk k := (real_of (congrFun h2 (ix2 0 k))).trans (by unfold datOf; dsimp only; rw [dif_pos k.isLt])
  DO r k := (real_of (congrFun h3 (ix2 r k))).trans (by unfold datOf; dsimp only; rw [dif_pos ⟨r.isLt, k.isLt⟩])
end

section
open Cert.KernelIdeal Cert.KernelIdeal.Gen
abbrev a0 (m : (ℓ : Loc nD τ sig) → Buf (Elt Ideal) ℓ) (c : Dev nD) : FVec Ideal (⟨2, ![4096, 2560]⟩ : Shape) .f32 := m ((c.tc : Thread nD τ).loc main_arg0)
abbrev a1 (m : (ℓ : Loc nD τ sig) → Buf (Elt Ideal) ℓ) (c : Dev nD) : FVec Ideal (⟨2, ![1, 1536]⟩ : Shape) .f32 := m ((c.tc : Thread nD τ).loc main_arg1)
abbrev a2 (m : (ℓ : Loc nD τ sig) → Buf (Elt Ideal) ℓ) (c : Dev nD) : FVec Ideal (⟨2, ![1, 16]⟩ : Shape) .f32 := m ((c.tc : Thread nD τ).loc main_arg2)
abbrev a3 (m : (ℓ : Loc nD τ sig) → Buf (Elt Ideal) ℓ) (c : Dev nD) : FVec Ideal (⟨2, ![4096, 1024]⟩ : Shape) .f32 := m ((c.tc : Thread nD τ).loc main_arg3)

abbrev dm (m : (ℓ : Loc nD τ sig) → Buf (Elt Ideal) ℓ) (c : Dev nD) : Dat := datOf (a0 m c) (a1 m c) (a2 m c) (a3 m c)

theorem given_m [Cert.Pre_finite.Facts] {m : (ℓ : Loc nD τ sig) → Buf (Elt Ideal) ℓ} (h : Cert.Pre_KernelIdeal_finite m) (c : Dev nD) :
    Cert.ReferenceIdeal.Swa.Given (a0 m c) (a1 m c) (a2 m c) (a3 m c) (dm m c) :=
  given_of (h c).1 (h c).2.1 (h c).2.2.1 (h c).2.2.2

theorem real4 [Cert.Pre_finite.Facts] {m : (ℓ : Loc nD τ sig) → Buf (Elt Ideal) ℓ} (h : Cert.Pre_KernelIdeal_finite m) (c : Dev nD) :
    Cert.KernelIdeal.Swa.Real4 m c (dm m c) where
  X := (given_m h c).X
  B := (given_m h c).B
  Sk := (given_m h c).Sk
  DO := (given_m h c).DO

theorem kernel_ends [Cert.Pre_finite.Facts] (m : (ℓ : Loc nD τ sig) → Buf (Elt Ideal) ℓ) (g : Dev nD → PrngReg) (h : Cert.Pre_KernelIdeal_finite m) :
    θ_run defs (onTc (τ := τ) (main (F := Ideal))) ⟨m, fun _ => 0, g⟩ fun r => ∀ c : Dev nD,
      r.2.mem ((c.tc : Thread nD τ).loc main_v77_0) = (fun i : S4096x1024.Idx => (((dm m c).dQ (i 0) (i 1) : ℝ) : EReal))
      ∧ r.2.mem ((c.tc : Thread nD τ).loc main_v77_1) = (fun i : S4096x256.Idx => (((dm m c).dK (i 0) (i 1) : ℝ) : EReal))
      ∧ r.2.mem ((c.tc : Thread nD τ).loc main_v77_2) = (fun i : S4096x256.Idx => (((dm m c).dV (i 0) (i 1) : ℝ) : EReal))
      ∧ r.2.mem ((c.tc : Thread nD τ).loc main_v77_3) = (fun i : S1x1024.Idx => (((dm m c).dBq (i 1) : ℝ) : EReal))
      ∧ r.2.mem ((c.tc : Thread nD τ).loc main_v77_4) = (fun i : S1x256.Idx => (((dm m c).dBk (i 1) : ℝ) : EReal))
      ∧ r.2.mem ((c.tc : Thread nD τ).loc main_v77_5) = (fun i : S1x256.Idx => (((dm m c).dBv (i 1) : ℝ) : EReal))
      ∧ r.2.mem ((c.tc : Thread nD τ).loc main_v77_6) = (fun i : S1x16.Idx => (((dm m c).dSk (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r k c =>
    have H := fun t => Cert.KernelIdeal.Swa.blk_at (real4 h c) t
    ⟨(k c).1.trans (Cert.KernelIdeal.Swa.final12 m c H), (k c).2.1.trans (Cert.KernelIdeal.Swa.final13 m c H), (k c).2.2.1.trans (Cert.KernelIdeal.Swa.final14 m c H),
      (k c).2.2.2.1.trans (Cert.KernelIdeal.Swa.final15 m c H), (k c).2.2.2.2.1.trans (Cert.KernelIdeal.Swa.final16 m c H), (k c).2.2.2.2.2.1.trans (Cert.KernelIdeal.Swa.final17 m c H),
      (k c).2.2.2.2.2.2.1.trans (Cert.KernelIdeal.Swa.final18 m c H), (k c).2.2.2.2.2.2.2⟩) (Cert.KernelIdeal.Value.run_blocks m g)
end

section
open Cert.ReferenceIdeal Cert.ReferenceIdeal.Gen Cert.ReferenceIdeal.Read Idealize.ShloMosaic.StableHlo

theorem reference_ends (m : (ℓ : Loc nD τ sig) → Buf (Elt Ideal) ℓ) (g : Dev nD → PrngReg) (D : Dev nD → Dat)
    (A : ∀ c : Dev nD, Cert.ReferenceIdeal.Swa.Given (m ((c.tc : Thread nD τ).loc main_arg0)) (m ((c.tc : Thread nD τ).loc main_arg1)) (m ((c.tc : Thread nD τ).loc main_arg2)) (m ((c.tc : Thread nD τ).loc main_arg3)) (D c)) :
    θ_run defs (onTc (τ := τ) (main (F := Ideal))) ⟨m, fun _ => 0, g⟩ fun r => ∀ c : Dev nD,
      r.2.mem ((c.tc : Thread nD τ).loc main_v279) = (fun i : S4096x1024.Idx => (((D c).dQ (i 0) (i 1) : ℝ) : EReal))
      ∧ r.2.mem ((c.tc : Thread nD τ).loc main_v280) = (fun i : S4096x256.Idx => (((D c).dK (i 0) (i 1) : ℝ) : EReal))
      ∧ r.2.mem ((c.tc : Thread nD τ).loc main_v281) = (fun i : S4096x256.Idx => (((D c).dV (i 0) (i 1) : ℝ) : EReal))
      ∧ r.2.mem ((c.tc : Thread nD τ).loc main_v282) = (fun i : S1x1024.Idx => (((D c).dBq (i 1) : ℝ) : EReal))
      ∧ r.2.mem ((c.tc : Thread nD τ).loc main_v283) = (fun i : S1x256.Idx => (((D c).dBk (i 1) : ℝ) : EReal))
      ∧ r.2.mem ((c.tc : Thread nD τ).loc main_v284) = (fun i : S1x256.Idx => (((D c).dBv (i 1) : ℝ) : EReal))
      ∧ r.2.mem ((c.tc : Thread nD τ).loc main_v207) = (fun i : S1x16.Idx => (((D c).dSk (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r k c =>
    ⟨(k c).1.trans ((val_main_v279_eq (launchContents m c)).trans (Cert.ReferenceIdeal.Swa.res_q (A c))),
      (k c).2.1.trans ((val_main_v280_eq (launchContents m c)).trans (Cert.ReferenceIdeal.Swa.res_k (A c))),
      (k c).2.2.1.trans ((val_main_v281_eq (launchContents m c)).trans (Cert.ReferenceIdeal.Swa.res_v (A c))),
      (k c).2.2.2.1.trans ((val_main_v282_eq (launchContents m c)).trans (Cert.ReferenceIdeal.Swa.res_bq (A c))),
      (k c).2.2.2.2.1.trans ((val_main_v283_eq (launchContents m c)).trans (Cert.ReferenceIdeal.Swa.res_bk (A c))),
      (k c).2.2.2.2.2.1.trans ((val_main_v284_eq (launchContents m c)).trans (Cert.ReferenceIdeal.Swa.res_bv (A c))),
      (k c).2.2.2.2.2.2.1.trans ((val_main_v207_eq (launchContents m c)).trans (Cert.ReferenceIdeal.Swa.res_sk (A c))),
      (k c).2.2.2.2.2.2.2⟩) (Cert.ReferenceIdeal.Value.run m g)

theorem reference_frame (m : (ℓ : Loc nD τ sig) → Buf (Elt Ideal) ℓ) (g : Dev nD → PrngReg) :
    θ_run defs (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r k => ⟨fun c => (k c).2.2.2.2.2.2.2, sem_eq_zero_of_no_sems (by decide) r.2⟩) (Cert.ReferenceIdeal.Value.run m g)
end

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hag
  have K := kernel_ends m g hpre
  have R := reference_ends m' g' (fun c => dm m c) (fun c => by
    obtain ⟨e0, e1, e2, e3⟩ := hag c
    rw [e0, e1, e2, e3]
    exact given_m hpre c)
  exact ⟨_, _, _, _, _, _, _, K, R⟩

end Cert.Meet
-- ==== Proof.Prod2.lean ====
/- The product `kernel2` computes, and the reference's, at an index. -/
module
public import proofs.«01_k».proof.Proof.Gen.Kernel2Ideal.Value
public import proofs.«01_k».proof.Proof.Gen.Reference2Ideal.Read
public import proofs.«01_k».proof.Defs
public import Idealize.ShloMosaic.Lib.Pointwise
public import Idealize.ShloMosaic.Lib.Pipeline.ValueKit

@[expose] public section
set_option maxRecDepth 16384
noncomputable section
namespace Cert.Kernel2Ideal.Prod
open Idealize.ShloMosaic Idealize.ShloMosaic.TcCoe Idealize.SL.Sem Cert.Kernel2Ideal Cert.Kernel2Ideal.Gen

/-- The product of the two arrays. -/
def G (a : FVec Ideal S4096x4096 .bf16) (b : FVec Ideal S4096x1024 .bf16) : FVec Ideal S4096x1024 .bf16 :=
  fun i => ∑ k : Fin 4096, (a (ix2 k (i 0)) : EReal) * (b (ix2 k (i 1)) : EReal)

theorem pay (v0 : FVec Ideal S4096x512 .bf16) (v1 : FVec Ideal S4096x1024 .bf16) (i : S512x1024.Idx) :
    (out0_2 (F := Ideal) v0 v1 i : EReal) = ∑ k : Fin 4096, (v0 (ix2 k (i 0)) : EReal) * (v1 (ix2 k (i 1)) : EReal) := by
  unfold out0_2
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem ix_0 : ∀ t : Fin cfg0.N, win0_0.index t = ![0, t.val] := (by decide +kernel : ∀ t : Fin grid0.N, win0_0.index t = ![0, t.val])
theorem blk0 (t : Fin cfg0.N) (y : S4096x512.Idx) : ((iblk m c 0 t : FVec Ideal S4096x512 .bf16) y : EReal)
    = (m ((c : Thread nD τ).loc main_arg0) : FVec Ideal S4096x4096 .bf16) (ix2 ⟨0 * 4096 + (y 0).val, by have h0 : (y 0).val < 4096 := (y 0).isLt; have ht : t.val < 8 := t.isLt; omega⟩ ⟨t.val * 512 + (y 1).val, by have h1 : (y 1).val < 512 := (y 1).isLt; have ht : t.val < 8 := t.isLt; omega⟩) := by
  unfold iblk
  rw [View.read_apply]
  show V m c main_arg0 _ = _
  rw [V_main_arg0]
  congr 1
  funext a
  apply Fin.ext
  match a with
  | 0 => show win0_0.index t 0 * 4096 + 1 * (y 0).val = _; rw [ix_0]; show (0) * 4096 + 1 * (y 0).val = (0) * 4096 + (y 0).val; omega
  | 1 => show win0_0.index t 1 * 512 + 1 * (y 1).val = _; rw [ix_0]; show (t.val) * 512 + 1 * (y 1).val = (t.val) * 512 + (y 1).val; omega

theorem ix_1 : ∀ t : Fin cfg0.N, win0_1.index t = ![0, 0] := (by decide +kernel : ∀ t : Fin grid0.N, win0_1.index t = ![0, 0])
theorem blk1 (t : Fin cfg0.N) (y : S4096x1024.Idx) : ((iblk m c 1 t : FVec Ideal S4096x1024 .bf16) y : EReal)
    = (m ((c : Thread nD τ).loc main_arg1) : FVec Ideal S4096x1024 .bf16) (ix2 ⟨0 * 4096 + (y 0).val, by have h0 : (y 0).val < 4096 := (y 0).isLt; have ht : t.val < 8 := t.isLt; omega⟩ ⟨0 * 1024 + (y 1).val, by have h1 : (y 1).val < 1024 := (y 1).isLt; have ht : t.val < 8 := t.isLt; omega⟩) := by
  unfold iblk
  rw [View.read_apply]
  show V m c main_arg1 _ = _
  rw [V_main_arg1]
  congr 1
  funext a
  apply Fin.ext
  match a with
  | 0 => show win0_1.index t 0 * 4096 + 1 * (y 0).val = _; rw [ix_1]; show (0) * 4096 + 1 * (y 0).val = (0) * 4096 + (y 0).val; omega
  | 1 => show win0_1.index t 1 * 1024 + 1 * (y 1).val = _; rw [ix_1]; show (0) * 1024 + 1 * (y 1).val = (0) * 1024 + (y 1).val; omega

theorem ix_2 : ∀ t : Fin cfg0.N, win0_2.index t = ![t.val, 0] := (by decide +kernel : ∀ t : Fin grid0.N, win0_2.index t = ![t.val, 0])

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp [ix_2]
  rw [after0_2]
  refine (pay _ _ y).trans (Finset.sum_congr rfl fun k _ => ?_)
  rw [blk0, blk1]
  refine congrArg₂ (fun p q : EReal => p * q) (congrArg _ ?_) (congrArg _ ?_) <;>
    (funext a; apply Fin.ext; match a with
      | 0 => simp [ix_2]
      | 1 => simp [ix_2])
end Cert.Kernel2Ideal.Prod

namespace Cert.Reference2Ideal.Prod
open Idealize.ShloMosaic Idealize.ShloMosaic.TcCoe Idealize.SL.Sem Cert.Reference2Ideal Cert.Reference2Ideal.Gen Cert.Reference2Ideal.Read Idealize.ShloMosaic.StableHlo

theorem val_eq (x0 : FVec Ideal S4096x4096 .bf16) (x1 : FVec Ideal S4096x1024 .bf16) : val_main_v7 (F := Ideal) x0 x1 = Cert.Kernel2Ideal.Prod.G x0 x1 := by
  funext i
  unfold Cert.Kernel2Ideal.Prod.G
  pointwise [val_main_v1, val_main_v3, val_main_v4, val_main_v5, val_main_v6, val_main_v7]
end Cert.Reference2Ideal.Prod

namespace Cert.Prod2
open Idealize.ShloMosaic Idealize.ShloMosaic.TcCoe Idealize.SL.Sem
theorem frame (m : (ℓ : Loc Cert.Reference2Ideal.nD Cert.Reference2Ideal.τ Cert.Reference2Ideal.sig) → Buf (Elt Ideal) ℓ) (g : Dev Cert.Reference2Ideal.nD → PrngReg) :
    θ_run Cert.Reference2Ideal.defs (onTc (τ := Cert.Reference2Ideal.τ) (Cert.Reference2Ideal.main (F := Ideal))) ⟨m, fun _ => 0, g⟩ fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)) ∧ r.2.sem = fun _ => 0 :=
  (θ_run Cert.Reference2Ideal.defs _ _).mono (fun r h => ⟨fun c => (h c).2, sem_eq_zero_of_no_sems (by decide) r.2⟩) (Cert.Reference2Ideal.Value.run m g)

theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Prod.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (Cert.Kernel2Ideal.Prod.final m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    rw [(hag c).1, (hag c).2]
    exact (Cert.Reference2Ideal.Read.val_main_v7_eq _ _).trans (Cert.Reference2Ideal.Prod.val_eq _ _)
end Cert.Prod2
-- ==== Proof.Prod3.lean ====
/- The product `kernel3` computes, and the reference's, at an index. -/
module
public import proofs.«01_k».proof.Proof.Gen.Kernel3Ideal.Value
public import proofs.«01_k».proof.Proof.Gen.Reference3Ideal.Read
public import proofs.«01_k».proof.Defs
public import Idealize.ShloMosaic.Lib.Pointwise
public import Idealize.ShloMosaic.Lib.Pipeline.ValueKit

@[expose] public section
set_option maxRecDepth 16384
noncomputable section
namespace Cert.Kernel3Ideal.Prod
open Idealize.ShloMosaic Idealize.ShloMosaic.TcCoe Idealize.SL.Sem Cert.Kernel3Ideal Cert.Kernel3Ideal.Gen

/-- The product of the two arrays. -/
def G (a : FVec Ideal S4096x2560 .bf16) (b : FVec Ideal S4096x1024 .bf16) : FVec Ideal S2560x1024 .bf16 :=
  fun i => ∑ k : Fin 4096, (a (ix2 k (i 0)) : EReal) * (b (ix2 k (i 1)) : EReal)

theorem pay (v0 : FVec Ideal S4096x512 .bf16) (v1 : FVec Ideal S4096x1024 .bf16) (i : S512x1024.Idx) :
    (out0_2 (F := Ideal) v0 v1 i : EReal) = ∑ k : Fin 4096, (v0 (ix2 k (i 0)) : EReal) * (v1 (ix2 k (i 1)) : EReal) := by
  unfold out0_2
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem ix_0 : ∀ t : Fin cfg0.N, win0_0.index t = ![0, t.val] := (by decide +kernel : ∀ t : Fin grid0.N, win0_0.index t = ![0, t.val])
theorem blk0 (t : Fin cfg0.N) (y : S4096x512.Idx) : ((iblk m c 0 t : FVec Ideal S4096x512 .bf16) y : EReal)
    = (m ((c : Thread nD τ).loc main_arg0) : FVec Ideal S4096x2560 .bf16) (ix2 ⟨0 * 4096 + (y 0).val, by have h0 : (y 0).val < 4096 := (y 0).isLt; have ht : t.val < 5 := t.isLt; omega⟩ ⟨t.val * 512 + (y 1).val, by have h1 : (y 1).val < 512 := (y 1).isLt; have ht : t.val < 5 := t.isLt; omega⟩) := by
  unfold iblk
  rw [View.read_apply]
  show V m c main_arg0 _ = _
  rw [V_main_arg0]
  congr 1
  funext a
  apply Fin.ext
  match a with
  | 0 => show win0_0.index t 0 * 4096 + 1 * (y 0).val = _; rw [ix_0]; show (0) * 4096 + 1 * (y 0).val = (0) * 4096 + (y 0).val; omega
  | 1 => show win0_0.index t 1 * 512 + 1 * (y 1).val = _; rw [ix_0]; show (t.val) * 512 + 1 * (y 1).val = (t.val) * 512 + (y 1).val; omega

theorem ix_1 : ∀ t : Fin cfg0.N, win0_1.index t = ![0, 0] := (by decide +kernel : ∀ t : Fin grid0.N, win0_1.index t = ![0, 0])
theorem blk1 (t : Fin cfg0.N) (y : S4096x1024.Idx) : ((iblk m c 1 t : FVec Ideal S4096x1024 .bf16) y : EReal)
    = (m ((c : Thread nD τ).loc main_arg1) : FVec Ideal S4096x1024 .bf16) (ix2 ⟨0 * 4096 + (y 0).val, by have h0 : (y 0).val < 4096 := (y 0).isLt; have ht : t.val < 5 := t.isLt; omega⟩ ⟨0 * 1024 + (y 1).val, by have h1 : (y 1).val < 1024 := (y 1).isLt; have ht : t.val < 5 := t.isLt; omega⟩) := by
  unfold iblk
  rw [View.read_apply]
  show V m c main_arg1 _ = _
  rw [V_main_arg1]
  congr 1
  funext a
  apply Fin.ext
  match a with
  | 0 => show win0_1.index t 0 * 4096 + 1 * (y 0).val = _; rw [ix_1]; show (0) * 4096 + 1 * (y 0).val = (0) * 4096 + (y 0).val; omega
  | 1 => show win0_1.index t 1 * 1024 + 1 * (y 1).val = _; rw [ix_1]; show (0) * 1024 + 1 * (y 1).val = (0) * 1024 + (y 1).val; omega

theorem ix_2 : ∀ t : Fin cfg0.N, win0_2.index t = ![t.val, 0] := (by decide +kernel : ∀ t : Fin grid0.N, win0_2.index t = ![t.val, 0])

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp [ix_2]
  rw [after0_2]
  refine (pay _ _ y).trans (Finset.sum_congr rfl fun k _ => ?_)
  rw [blk0, blk1]
  refine congrArg₂ (fun p q : EReal => p * q) (congrArg _ ?_) (congrArg _ ?_) <;>
    (funext a; apply Fin.ext; match a with
      | 0 => simp [ix_2]
      | 1 => simp [ix_2])
end Cert.Kernel3Ideal.Prod

namespace Cert.Reference3Ideal.Prod
open Idealize.ShloMosaic Idealize.ShloMosaic.TcCoe Idealize.SL.Sem Cert.Reference3Ideal Cert.Reference3Ideal.Gen Cert.Reference3Ideal.Read Idealize.ShloMosaic.StableHlo

theorem val_eq (x0 : FVec Ideal S4096x2560 .bf16) (x1 : FVec Ideal S4096x1024 .bf16) : val_main_v7 (F := Ideal) x0 x1 = Cert.Kernel3Ideal.Prod.G x0 x1 := by
  funext i
  unfold Cert.Kernel3Ideal.Prod.G
  pointwise [val_main_v1, val_main_v3, val_main_v4, val_main_v5, val_main_v6, val_main_v7]
end Cert.Reference3Ideal.Prod

namespace Cert.Prod3
open Idealize.ShloMosaic Idealize.ShloMosaic.TcCoe Idealize.SL.Sem
theorem frame (m : (ℓ : Loc Cert.Reference3Ideal.nD Cert.Reference3Ideal.τ Cert.Reference3Ideal.sig) → Buf (Elt Ideal) ℓ) (g : Dev Cert.Reference3Ideal.nD → PrngReg) :
    θ_run Cert.Reference3Ideal.defs (onTc (τ := Cert.Reference3Ideal.τ) (Cert.Reference3Ideal.main (F := Ideal))) ⟨m, fun _ => 0, g⟩ fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)) ∧ r.2.sem = fun _ => 0 :=
  (θ_run Cert.Reference3Ideal.defs _ _).mono (fun r h => ⟨fun c => (h c).2, sem_eq_zero_of_no_sems (by decide) r.2⟩) (Cert.Reference3Ideal.Value.run m g)

theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Prod.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.Kernel3Ideal.Prod.final m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    rw [(hag c).1, (hag c).2]
    exact (Cert.Reference3Ideal.Read.val_main_v7_eq _ _).trans (Cert.Reference3Ideal.Prod.val_eq _ _)
end Cert.Prod3
-- ==== Proof.Prod4.lean ====
/- The product `kernel4` computes, and the reference's, at an index. -/
module
public import proofs.«01_k».proof.Proof.Gen.Kernel4Ideal.Value
public import proofs.«01_k».proof.Proof.Gen.Reference4Ideal.Read
public import proofs.«01_k».proof.Defs
public import Idealize.ShloMosaic.Lib.Pointwise
public import Idealize.ShloMosaic.Lib.Pipeline.ValueKit

@[expose] public section
set_option maxRecDepth 16384
noncomputable section
namespace Cert.Kernel4Ideal.Prod
open Idealize.ShloMosaic Idealize.ShloMosaic.TcCoe Idealize.SL.Sem Cert.Kernel4Ideal Cert.Kernel4Ideal.Gen

/-- The product of the two arrays. -/
def G (a : FVec Ideal S4096x1024 .bf16) (b : FVec Ideal S4096x1024 .f32) : FVec Ideal S1024x1024 .bf16 :=
  fun i => ∑ k : Fin 4096, (a (ix2 k (i 0)) : EReal) * (b (ix2 k (i 1)) : EReal)

theorem pay (v0 : FVec Ideal S4096x512 .bf16) (v1 : FVec Ideal S4096x512 .f32) (i : S512x512.Idx) :
    (out0_2 (F := Ideal) v0 v1 i : EReal) = ∑ k : Fin 4096, (v0 (ix2 k (i 0)) : EReal) * (v1 (ix2 k (i 1)) : EReal) := by
  unfold out0_2
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem ix_0 : ∀ t : Fin cfg0.N, win0_0.index t = ![0, (t.val % 2)] := (by decide +kernel : ∀ t : Fin grid0.N, win0_0.index t = ![0, (t.val % 2)])
theorem blk0 (t : Fin cfg0.N) (y : S4096x512.Idx) : ((iblk m c 0 t : FVec Ideal S4096x512 .bf16) y : EReal)
    = (m ((c : Thread nD τ).loc main_arg0) : FVec Ideal S4096x1024 .bf16) (ix2 ⟨0 * 4096 + (y 0).val, by have h0 : (y 0).val < 4096 := (y 0).isLt; have ht : t.val < 4 := t.isLt; omega⟩ ⟨(t.val % 2) * 512 + (y 1).val, by have h1 : (y 1).val < 512 := (y 1).isLt; have ht : t.val < 4 := t.isLt; omega⟩) := by
  unfold iblk
  rw [View.read_apply]
  show V m c main_arg0 _ = _
  rw [V_main_arg0]
  congr 1
  funext a
  apply Fin.ext
  match a with
  | 0 => show win0_0.index t 0 * 4096 + 1 * (y 0).val = _; rw [ix_0]; show (0) * 4096 + 1 * (y 0).val = (0) * 4096 + (y 0).val; omega
  | 1 => show win0_0.index t 1 * 512 + 1 * (y 1).val = _; rw [ix_0]; show ((t.val % 2)) * 512 + 1 * (y 1).val = ((t.val % 2)) * 512 + (y 1).val; omega

theorem ix_1 : ∀ t : Fin cfg0.N, win0_1.index t = ![0, (t.val / 2)] := (by decide +kernel : ∀ t : Fin grid0.N, win0_1.index t = ![0, (t.val / 2)])
theorem blk1 (t : Fin cfg0.N) (y : S4096x512.Idx) : ((iblk m c 1 t : FVec Ideal S4096x512 .f32) y : EReal)
    = (m ((c : Thread nD τ).loc main_arg1) : FVec Ideal S4096x1024 .f32) (ix2 ⟨0 * 4096 + (y 0).val, by have h0 : (y 0).val < 4096 := (y 0).isLt; have ht : t.val < 4 := t.isLt; omega⟩ ⟨(t.val / 2) * 512 + (y 1).val, by have h1 : (y 1).val < 512 := (y 1).isLt; have ht : t.val < 4 := t.isLt; omega⟩) := by
  unfold iblk
  rw [View.read_apply]
  show V m c main_arg1 _ = _
  rw [V_main_arg1]
  congr 1
  funext a
  apply Fin.ext
  match a with
  | 0 => show win0_1.index t 0 * 4096 + 1 * (y 0).val = _; rw [ix_1]; show (0) * 4096 + 1 * (y 0).val = (0) * 4096 + (y 0).val; omega
  | 1 => show win0_1.index t 1 * 512 + 1 * (y 1).val = _; rw [ix_1]; show ((t.val / 2)) * 512 + 1 * (y 1).val = ((t.val / 2)) * 512 + (y 1).val; omega

theorem ix_2 : ∀ t : Fin cfg0.N, win0_2.index t = ![t.val % 2, t.val / 2] := (by decide +kernel : ∀ t : Fin grid0.N, win0_2.index t = ![t.val % 2, t.val / 2])

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp [ix_2]
  rw [after0_2]
  refine (pay _ _ y).trans (Finset.sum_congr rfl fun k _ => ?_)
  rw [blk0, blk1]
  refine congrArg₂ (fun p q : EReal => p * q) (congrArg _ ?_) (congrArg _ ?_) <;>
    (funext a; apply Fin.ext; match a with
      | 0 => simp [ix_2]
      | 1 => simp [ix_2])
end Cert.Kernel4Ideal.Prod

namespace Cert.Reference4Ideal.Prod
open Idealize.ShloMosaic Idealize.ShloMosaic.TcCoe Idealize.SL.Sem Cert.Reference4Ideal Cert.Reference4Ideal.Gen Cert.Reference4Ideal.Read Idealize.ShloMosaic.StableHlo

theorem val_eq (x0 : FVec Ideal S4096x1024 .bf16) (x1 : FVec Ideal S4096x1024 .f32) : val_main_v5 (F := Ideal) x0 x1 = Cert.Kernel4Ideal.Prod.G x0 x1 := by
  funext i
  unfold Cert.Kernel4Ideal.Prod.G
  pointwise [val_main_v1, val_main_v3, val_main_v4, val_main_v5]
  exact Finset.sum_congr rfl fun k _ => mul_comm _ _
end Cert.Reference4Ideal.Prod

namespace Cert.Prod4
open Idealize.ShloMosaic Idealize.ShloMosaic.TcCoe Idealize.SL.Sem
theorem frame (m : (ℓ : Loc Cert.Reference4Ideal.nD Cert.Reference4Ideal.τ Cert.Reference4Ideal.sig) → Buf (Elt Ideal) ℓ) (g : Dev Cert.Reference4Ideal.nD → PrngReg) :
    θ_run Cert.Reference4Ideal.defs (onTc (τ := Cert.Reference4Ideal.τ) (Cert.Reference4Ideal.main (F := Ideal))) ⟨m, fun _ => 0, g⟩ fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)) ∧ r.2.sem = fun _ => 0 :=
  (θ_run Cert.Reference4Ideal.defs _ _).mono (fun r h => ⟨fun c => (h c).2, sem_eq_zero_of_no_sems (by decide) r.2⟩) (Cert.Reference4Ideal.Value.run m g)

theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Prod.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Prod.final m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    rw [(hag c).1, (hag c).2]
    exact (Cert.Reference4Ideal.Read.val_main_v5_eq _ _).trans (Cert.Reference4Ideal.Prod.val_eq _ _)
end Cert.Prod4
-- ==== Proof.Prod5.lean ====
/- The product `kernel5` computes, and the reference's, at an index. -/
module
public import proofs.«01_k».proof.Proof.Gen.Kernel5Ideal.Value
public import proofs.«01_k».proof.Proof.Gen.Reference5Ideal.Read
public import proofs.«01_k».proof.Defs
public import Idealize.ShloMosaic.Lib.Pointwise
public import Idealize.ShloMosaic.Lib.Pipeline.ValueKit

@[expose] public section
set_option maxRecDepth 16384
noncomputable section
namespace Cert.Kernel5Ideal.Prod
open Idealize.ShloMosaic Idealize.ShloMosaic.TcCoe Idealize.SL.Sem Cert.Kernel5Ideal Cert.Kernel5Ideal.Gen

/-- The product of the two arrays. -/
def G (a : FVec Ideal S4096x1024 .bf16) (b : FVec Ideal S2560x1024 .bf16) : FVec Ideal S4096x2560 .f32 :=
  fun i => ∑ k : Fin 1024, (a (ix2 (i 0) k) : EReal) * (b (ix2 (i 1) k) : EReal)

theorem pay (v0 : FVec Ideal S1024x1024 .bf16) (v1 : FVec Ideal S1280x1024 .bf16) (i : S1024x1280.Idx) :
    (out0_2 (F := Ideal) v0 v1 i : EReal) = ∑ k : Fin 1024, (v0 (ix2 (i 0) k) : EReal) * (v1 (ix2 (i 1) k) : EReal) := by
  unfold out0_2
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

theorem ix_0 : ∀ t : Fin cfg0.N, win0_0.index t = ![(t.val % 4), 0] := (by decide +kernel : ∀ t : Fin grid0.N, win0_0.index t = ![(t.val % 4), 0])
theorem blk0 (t : Fin cfg0.N) (y : S1024x1024.Idx) : ((iblk m c 0 t : FVec Ideal S1024x1024 .bf16) y : EReal)
    = (m ((c : Thread nD τ).loc main_arg0) : FVec Ideal S4096x1024 .bf16) (ix2 ⟨(t.val % 4) * 1024 + (y 0).val, by have h0 : (y 0).val < 1024 := (y 0).isLt; have ht : t.val < 8 := t.isLt; omega⟩ ⟨0 * 1024 + (y 1).val, by have h1 : (y 1).val < 1024 := (y 1).isLt; have ht : t.val < 8 := t.isLt; omega⟩) := by
  unfold iblk
  rw [View.read_apply]
  show V m c main_arg0 _ = _
  rw [V_main_arg0]
  congr 1
  funext a
  apply Fin.ext
  match a with
  | 0 => show win0_0.index t 0 * 1024 + 1 * (y 0).val = _; rw [ix_0]; show ((t.val % 4)) * 1024 + 1 * (y 0).val = ((t.val % 4)) * 1024 + (y 0).val; omega
  | 1 => show win0_0.index t 1 * 1024 + 1 * (y 1).val = _; rw [ix_0]; show (0) * 1024 + 1 * (y 1).val = (0) * 1024 + (y 1).val; omega

theorem ix_1 : ∀ t : Fin cfg0.N, win0_1.index t = ![(t.val / 4), 0] := (by decide +kernel : ∀ t : Fin grid0.N, win0_1.index t = ![(t.val / 4), 0])
theorem blk1 (t : Fin cfg0.N) (y : S1280x1024.Idx) : ((iblk m c 1 t : FVec Ideal S1280x1024 .bf16) y : EReal)
    = (m ((c : Thread nD τ).loc main_arg1) : FVec Ideal S2560x1024 .bf16) (ix2 ⟨(t.val / 4) * 1280 + (y 0).val, by have h0 : (y 0).val < 1280 := (y 0).isLt; have ht : t.val < 8 := t.isLt; omega⟩ ⟨0 * 1024 + (y 1).val, by have h1 : (y 1).val < 1024 := (y 1).isLt; have ht : t.val < 8 := t.isLt; omega⟩) := by
  unfold iblk
  rw [View.read_apply]
  show V m c main_arg1 _ = _
  rw [V_main_arg1]
  congr 1
  funext a
  apply Fin.ext
  match a with
  | 0 => show win0_1.index t 0 * 1280 + 1 * (y 0).val = _; rw [ix_1]; show ((t.val / 4)) * 1280 + 1 * (y 0).val = ((t.val / 4)) * 1280 + (y 0).val; omega
  | 1 => show win0_1.index t 1 * 1024 + 1 * (y 1).val = _; rw [ix_1]; show (0) * 1024 + 1 * (y 1).val = (0) * 1024 + (y 1).val; omega

theorem ix_2 : ∀ t : Fin cfg0.N, win0_2.index t = ![t.val % 4, t.val / 4] := (by decide +kernel : ∀ t : Fin grid0.N, win0_2.index t = ![t.val % 4, t.val / 4])

theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp [ix_2]
  rw [after0_2]
  refine (pay _ _ y).trans (Finset.sum_congr rfl fun k _ => ?_)
  rw [blk0, blk1]
  refine congrArg₂ (fun p q : EReal => p * q) (congrArg _ ?_) (congrArg _ ?_) <;>
    (funext a; apply Fin.ext; match a with
      | 0 => simp [ix_2]
      | 1 => simp [ix_2])
end Cert.Kernel5Ideal.Prod

namespace Cert.Reference5Ideal.Prod
open Idealize.ShloMosaic Idealize.ShloMosaic.TcCoe Idealize.SL.Sem Cert.Reference5Ideal Cert.Reference5Ideal.Gen Cert.Reference5Ideal.Read Idealize.ShloMosaic.StableHlo

theorem val_eq (x0 : FVec Ideal S4096x1024 .bf16) (x1 : FVec Ideal S2560x1024 .bf16) : val_main_v3 (F := Ideal) x0 x1 = Cert.Kernel5Ideal.Prod.G x0 x1 := by
  funext i
  unfold Cert.Kernel5Ideal.Prod.G
  pointwise [val_main_v0, val_main_v1, val_main_v2, val_main_v3]
end Cert.Reference5Ideal.Prod

namespace Cert.Prod5
open Idealize.ShloMosaic Idealize.ShloMosaic.TcCoe Idealize.SL.Sem
theorem frame (m : (ℓ : Loc Cert.Reference5Ideal.nD Cert.Reference5Ideal.τ Cert.Reference5Ideal.sig) → Buf (Elt Ideal) ℓ) (g : Dev Cert.Reference5Ideal.nD → PrngReg) :
    θ_run Cert.Reference5Ideal.defs (onTc (τ := Cert.Reference5Ideal.τ) (Cert.Reference5Ideal.main (F := Ideal))) ⟨m, fun _ => 0, g⟩ fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)) ∧ r.2.sem = fun _ => 0 :=
  (θ_run Cert.Reference5Ideal.defs _ _).mono (fun r h => ⟨fun c => (h c).2, sem_eq_zero_of_no_sems (by decide) r.2⟩) (Cert.Reference5Ideal.Value.run m g)

theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.Prod.G (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Kernel5Ideal.Prod.final m c), (h c).2⟩) (Cert.Kernel5Ideal.Value.run_blocks m g)
  · refine (θ_run Cert.Reference5Ideal.defs _ _).mono (fun r h c => ⟨(h c).1.trans ?_, (h c).2⟩) (Cert.Reference5Ideal.Value.run m' g')
    rw [(hag c).1, (hag c).2]
    exact (Cert.Reference5Ideal.Read.val_main_v3_eq _ _).trans (Cert.Reference5Ideal.Prod.val_eq _ _)
end Cert.Prod5
-- ==== Proof.NormRow.lean ====
/- A row of the norm, and of its gradient, at an index. -/
module
public import Idealize.ShloMosaic.Lib.Pointwise

@[expose] public section
noncomputable section
namespace NormRow
open Idealize.ShloMosaic

/-- A row's mean square, with the small number added. -/
def ms (x : Fin 1024 → EReal) : EReal := Ideal.div (∑ k : Fin 1024, x k * x k) (Ideal.ofBits FTy.f32 1149239296#32) + Ideal.ofBits FTy.f32 925353388#32

/-- One over its root. -/
def inv (x : Fin 1024 → EReal) : EReal := Ideal.rsqrt (ms x)

/-- What a row's mean square gets back: `q` is the gradient of the row before the weights. -/
def back (x q : Fin 1024 → EReal) : EReal :=
  Ideal.div ((∑ k : Fin 1024, x k * q k) * (Ideal.ofBits FTy.f32 3204448256#32 * Ideal.div (inv x) (ms x))) (Ideal.ofBits FTy.f32 1149239296#32)

/-- The gradient of a row's element: what comes through the norm, and `d`, what comes past it. -/
def grad (x q : Fin 1024 → EReal) (d : EReal) (e : Fin 1024) : EReal := q e * inv x + x e * back x q + back x q * x e + d

end NormRow
-- ==== Proof.Norm6.lean ====
/- What `kernel6` computes, and the reference, at an index. -/
module
public import proofs.«01_k».proof.Proof.Gen.Kernel6Ideal.Value
public import proofs.«01_k».proof.Proof.Gen.Reference6Ideal.Read
public import proofs.«01_k».proof.Defs
public import proofs.«01_k».proof.Proof.NormRow
public import Idealize.ShloMosaic.Lib.Pointwise
public import Idealize.ShloMosaic.Lib.Pipeline.ValueKit

@[expose] public section
set_option maxRecDepth 16384
noncomputable section
namespace Cert.Kernel6Ideal.Norm
open Idealize.ShloMosaic Idealize.ShloMosaic.TcCoe Idealize.SL.Sem Cert.Kernel6Ideal Cert.Kernel6Ideal.Gen

/-- A row of the gradient of the normed rows: the product with the weights. -/
def dn (d : Fin 4096 → EReal) (w : FVec Ideal S4096x1024 .bf16) (e : Fin 1024) : EReal := ∑ k : Fin 4096, d k * (w (ix2 k e) : EReal)

theorem pay4_at (v6 : FVec Ideal S512x4096 .bf16) (v7 : FVec Ideal S4096x1024 .bf16) (i : S512x1024.Idx) :
    (k0_pay4 (F := Ideal) v6 v7 i : EReal) = dn (fun k => v6 (ix2 (i 0) k)) v7 (i 1) := by
  unfold dn
  pointwise [k0_pay4]

theorem pay8_at (v5 : FVec Ideal S1x1024 .f32) (v6 : FVec Ideal S512x4096 .bf16) (v7 : FVec Ideal S4096x1024 .bf16) (i : S512x1024.Idx) :
    (k0_pay8 (F := Ideal) v5 v6 v7 i : EReal) = dn (fun k => v6 (ix2 (i 0) k)) v7 (i 1) * v5 (ix2 0 (i 1)) := by
  rw [← pay4_at v6 v7 i]
  unfold k0_pay8
  generalize k0_pay4 (F := Ideal) v6 v7 = y
  pointwise []

/-- A row before the weights of the norm. -/
def qrow (d : Fin 4096 → EReal) (w : FVec Ideal S4096x1024 .bf16) (nw : FVec Ideal S1x1024 .f32) (e : Fin 1024) : EReal := dn d w e * nw (ix2 0 e)

theorem pay1_at (v3 v4 : FVec Ideal S512x1024 .f32) (v5 : FVec Ideal S1x1024 .f32) (v6 : FVec Ideal S512x4096 .bf16) (v7 : FVec Ideal S4096x1024 .bf16) (i : S512x1024.Idx) :
    (k0_pay1 (F := Ideal) v3 v4 (k0_pay9 v3 v5 v6 v7) (k0_pay10 v3 v5 v6 v7) i : EReal)
      = NormRow.grad (fun k => v3 (ix2 (i 0) k)) (qrow (fun k => v6 (ix2 (i 0) k)) v7 v5) (v4 i) (i 1) := by
  have h : ∀ j : S512x1024.Idx, (k0_pay8 (F := Ideal) v5 v6 v7 j : EReal) = qrow (fun k => v6 (ix2 (j 0) k)) v7 v5 (j 1) := fun j => pay8_at v5 v6 v7 j
  unfold NormRow.grad NormRow.back NormRow.inv NormRow.ms
  unfold k0_pay9 k0_pay10
  generalize k0_pay8 (F := Ideal) v5 v6 v7 = y at h ⊢
  pointwise [k0_pay1, k0_pay6, k0_pay5, h]
  simp only [Fin.sum_univ_one]

theorem pay7_at (v3 : FVec Ideal S512x1024 .f32) (v6 : FVec Ideal S512x4096 .bf16) (v7 : FVec Ideal S4096x1024 .bf16) (i : S1x1024.Idx) :
    (k0_pay7 (F := Ideal) v3 v6 v7 i : EReal)
      = ∑ a : Fin 512, v3 (ix2 a (i 1)) * NormRow.inv (fun k => v3 (ix2 a k)) * dn (fun k => v6 (ix2 a k)) v7 (i 1) := by
  have h : ∀ j : S512x1024.Idx, (k0_pay4 (F := Ideal) v6 v7 j : EReal) = dn (fun k => v6 (ix2 (j 0) k)) v7 (j 1) := fun j => pay4_at v6 v7 j
  unfold NormRow.inv NormRow.ms
  unfold k0_pay7
  generalize k0_pay4 (F := Ideal) v6 v7 = y at h ⊢
  pointwise [k0_pay6, k0_pay5, h]

theorem pay2_at (u z : FVec Ideal S1x1024 .f32) (i : S1x1024.Idx) : (k0_pay2 (F := Ideal) u z i : EReal) = z i + u i := by
  pointwise [k0_pay2]
theorem pay3_at (i : S1x1024.Idx) : (k0_pay3 (F := Ideal) i : EReal) = 0 := by
  pointwise [k0_pay3]

theorem out5A (c : Dev nD) (i : grid0.Coords) (arg1 : Memref sig .tc .vmem S512x4096 .bf16) (harg1 : arg1.IsWhole) (arg2 : Memref sig .tc .vmem S4096x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x4096 .bf16) (x1 : Vec Ideal S4096x1024 .bf16) (x2 : Vec Ideal S512x1024 .f32) (x3 : Vec Ideal S512x1024 .f32) (x4 : Vec Ideal S1x1024 .f32) (hc0 : cond0_0 i) :
    out0_A_5 c i arg1 harg1 arg2 harg2 arg3 harg3 arg4 harg4 arg5 harg5 arg6 harg6 arg7 harg7 hc0 x0 x1 x2 x3 x4 = k0_pay1 (F := Ideal) x2 x3 (k0_pay9 (F := Ideal) x2 x4 x0 x1) (k0_pay10 (F := Ideal) x2 x4 x0 x1) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  refine (View.canon_cons_unit_lit _ _ _ (by decide)).trans ?_
  unfold kernelRun0_A.sl.r kernelRun0_A.sl.r_1 kernelRun0_A.sl.r_3 kernelRun0_A.sl.r_4
  simp only [View.readAt_eq_ld, Memref.IsWhole.read_unread]
  repeat rw [View.ld_unit_lit _ _ (by decide)]

theorem out6A (c : Dev nD) (i : grid0.Coords) (arg1 : Memref sig .tc .vmem S512x4096 .bf16) (harg1 : arg1.IsWhole) (arg2 : Memref sig .tc .vmem S4096x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x4096 .bf16) (x1 : Vec Ideal S4096x1024 .bf16) (x2 : Vec Ideal S512x1024 .f32) (x3 : Vec Ideal S512x1024 .f32) (x4 : Vec Ideal S1x1024 .f32) (hc0 : cond0_0 i) :
    out0_A_6 c i arg1 harg1 arg2 harg2 arg3 harg3 arg4 harg4 arg5 harg5 arg6 harg6 arg7 harg7 hc0 x0 x1 x2 x3 x4 = k0_pay2 (F := Ideal) (k0_pay7 (F := Ideal) x2 x0 x1) (k0_pay3 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  refine (View.canon_cons_unit_lit _ _ _ (by decide)).trans ?_
  unfold kernelRun0_A.sl.r_2 kernelRun0_A.sl.v44 kernelRun0_A.sl.H6_1
  rw [View.readCov_unit_lit _ _ _ (by decide)]
  simp only [View.readAt_eq_ld, Memref.IsWhole.read_unread]
  repeat rw [View.ld_unit_lit _ _ (by decide)]

theorem out5B (c : Dev nD) (i : grid0.Coords) (arg1 : Memref sig .tc .vmem S512x4096 .bf16) (harg1 : arg1.IsWhole) (arg2 : Memref sig .tc .vmem S4096x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x4096 .bf16) (x1 : Vec Ideal S4096x1024 .bf16) (x2 : Vec Ideal S512x1024 .f32) (x3 : Vec Ideal S512x1024 .f32) (x4 : Vec Ideal S1x1024 .f32) (xo6 : Vec Ideal S1x1024 .f32) (hc0 : ¬cond0_0 i) :
    out0_B_5 c i arg1 harg1 arg2 harg2 arg3 harg3 arg4 harg4 arg5 harg5 arg6 harg6 arg7 harg7 hc0 x0 x1 x2 x3 x4 xo6 = k0_pay1 (F := Ideal) x2 x3 (k0_pay9 (F := Ideal) x2 x4 x0 x1) (k0_pay10 (F := Ideal) x2 x4 x0 x1) := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  refine (View.canon_cons_unit_lit _ _ _ (by decide)).trans ?_
  unfold kernelRun0_B.sl.r kernelRun0_B.sl.r_1 kernelRun0_B.sl.r_3 kernelRun0_B.sl.r_4
  simp only [View.readAt_eq_ld, Memref.IsWhole.read_unread]
  repeat rw [View.ld_unit_lit _ _ (by decide)]

theorem out6B (c : Dev nD) (i : grid0.Coords) (arg1 : Memref sig .tc .vmem S512x4096 .bf16) (harg1 : arg1.IsWhole) (arg2 : Memref sig .tc .vmem S4096x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x4096 .bf16) (x1 : Vec Ideal S4096x1024 .bf16) (x2 : Vec Ideal S512x1024 .f32) (x3 : Vec Ideal S512x1024 .f32) (x4 : Vec Ideal S1x1024 .f32) (xo6 : Vec Ideal S1x1024 .f32) (hc0 : ¬cond0_0 i) :
    out0_B_6 c i arg1 harg1 arg2 harg2 arg3 harg3 arg4 harg4 arg5 harg5 arg6 harg6 arg7 harg7 hc0 x0 x1 x2 x3 x4 xo6 = k0_pay2 (F := Ideal) (k0_pay7 (F := Ideal) x2 x0 x1) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  refine (View.canon_cons_unit_lit _ _ _ (by decide)).trans ?_
  unfold kernelRun0_B.sl.r_2
  simp only [View.readAt_eq_ld, Memref.IsWhole.read_unread]
  repeat rw [View.ld_unit_lit _ _ (by decide)]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem blk0 (t : Fin cfg0.N) (y : S512x4096.Idx) : ((iblk m c 0 t : FVec Ideal S512x4096 .bf16) y : EReal)
    = (m ((c : Thread nD τ).loc main_arg0) : FVec Ideal S4096x4096 .bf16) (ix2 ⟨t.val * 512 + (y 0).val, by have h0 : (y 0).val < 512 := (y 0).isLt; have ht : t.val < 8 := t.isLt; omega⟩ (y 1)) := by
  unfold iblk
  rw [View.read_apply]
  show V m c main_arg0 _ = _
  rw [V_main_arg0]
  congr 1
  funext a
  apply Fin.ext
  match a with
  | 0 => show win0_0.index t 0 * 512 + 1 * (y 0).val = _; rw [ix_0]; show (t.val) * 512 + 1 * (y 0).val = (t.val) * 512 + (y 0).val; omega
  | 1 => show win0_0.index t 1 * 4096 + 1 * (y 1).val = _; rw [ix_0]; show (0) * 4096 + 1 * (y 1).val = (y 1).val; omega

theorem ix_1 : ∀ t : Fin cfg0.N, win0_1.index t = ![0, 0] := (by decide +kernel : ∀ t : Fin grid0.N, win0_1.index t = ![0, 0])
theorem blk1 (t : Fin cfg0.N) (y : S4096x1024.Idx) : ((iblk m c 1 t : FVec Ideal S4096x1024 .bf16) y : EReal)
    = (m ((c : Thread nD τ).loc main_arg1) : FVec Ideal S4096x1024 .bf16) (ix2 ⟨0 * 4096 + (y 0).val, by have h0 : (y 0).val < 4096 := (y 0).isLt; have ht : t.val < 8 := t.isLt; omega⟩ (y 1)) := by
  unfold iblk
  rw [View.read_apply]
  show V m c main_arg1 _ = _
  rw [V_main_arg1]
  congr 1
  funext a
  apply Fin.ext
  match a with
  | 0 => show win0_1.index t 0 * 4096 + 1 * (y 0).val = _; rw [ix_1]; show (0) * 4096 + 1 * (y 0).val = (0) * 4096 + (y 0).val; omega
  | 1 => show win0_1.index t 1 * 1024 + 1 * (y 1).val = _; rw [ix_1]; show (0) * 1024 + 1 * (y 1).val = (y 1).val; omega

theorem ix_2 : ∀ t : Fin cfg0.N, win0_2.index t = ![t.val, 0] := (by decide +kernel : ∀ t : Fin grid0.N, win0_2.index t = ![t.val, 0])
theorem blk2 (t : Fin cfg0.N) (y : S512x1024.Idx) : ((iblk m c 2 t : FVec Ideal S512x1024 .f32) y : EReal)
    = (m ((c : Thread nD τ).loc main_arg2) : FVec Ideal S4096x1024 .f32) (ix2 ⟨t.val * 512 + (y 0).val, by have h0 : (y 0).val < 512 := (y 0).isLt; have ht : t.val < 8 := t.isLt; omega⟩ (y 1)) := by
  unfold iblk
  rw [View.read_apply]
  show V m c main_arg2 _ = _
  rw [V_main_arg2]
  congr 1
  funext a
  apply Fin.ext
  match a with
  | 0 => show win0_2.index t 0 * 512 + 1 * (y 0).val = _; rw [ix_2]; show (t.val) * 512 + 1 * (y 0).val = (t.val) * 512 + (y 0).val; omega
  | 1 => show win0_2.index t 1 * 1024 + 1 * (y 1).val = _; rw [ix_2]; show (0) * 1024 + 1 * (y 1).val = (y 1).val; omega

theorem ix_3 : ∀ t : Fin cfg0.N, win0_3.index t = ![t.val, 0] := (by decide +kernel : ∀ t : Fin grid0.N, win0_3.index t = ![t.val, 0])
theorem blk3 (t : Fin cfg0.N) (y : S512x1024.Idx) : ((iblk m c 3 t : FVec Ideal S512x1024 .f32) y : EReal)
    = (m ((c : Thread nD τ).loc main_arg3) : FVec Ideal S4096x1024 .f32) (ix2 ⟨t.val * 512 + (y 0).val, by have h0 : (y 0).val < 512 := (y 0).isLt; have ht : t.val < 8 := t.isLt; omega⟩ (y 1)) := by
  unfold iblk
  rw [View.read_apply]
  show V m c main_arg3 _ = _
  rw [V_main_arg3]
  congr 1
  funext a
  apply Fin.ext
  match a with
  | 0 => show win0_3.index t 0 * 512 + 1 * (y 0).val = _; rw [ix_3]; show (t.val) * 512 + 1 * (y 0).val = (t.val) * 512 + (y 0).val; omega
  | 1 => show win0_3.index t 1 * 1024 + 1 * (y 1).val = _; rw [ix_3]; show (0) * 1024 + 1 * (y 1).val = (y 1).val; omega

theorem ix_4 : ∀ t : Fin cfg0.N, win0_4.index t = ![0, 0] := (by decide +kernel : ∀ t : Fin grid0.N, win0_4.index t = ![0, 0])
theorem blk4 (t : Fin cfg0.N) (y : S1x1024.Idx) : ((iblk m c 4 t : FVec Ideal S1x1024 .f32) y : EReal)
    = (m ((c : Thread nD τ).loc main_arg4) : FVec Ideal S1x1024 .f32) (ix2 ⟨0 * 1 + (y 0).val, by have h0 : (y 0).val < 1 := (y 0).isLt; have ht : t.val < 8 := t.isLt; omega⟩ (y 1)) := by
  unfold iblk
  rw [View.read_apply]
  show V m c main_arg4 _ = _
  rw [V_main_arg4]
  congr 1
  funext a
  apply Fin.ext
  match a with
  | 0 => show win0_4.index t 0 * 1 + 1 * (y 0).val = _; rw [ix_4]; show (0) * 1 + 1 * (y 0).val = (0) * 1 + (y 0).val; omega
  | 1 => show win0_4.index t 1 * 1024 + 1 * (y 1).val = _; rw [ix_4]; show (0) * 1024 + 1 * (y 1).val = (y 1).val; omega

theorem ix_5 : ∀ t : Fin cfg0.N, win0_5.index t = ![t.val, 0] := (by decide +kernel : ∀ t : Fin grid0.N, win0_5.index t = ![t.val, 0])

/-- The gradient of the rows. -/
def GX (d : FVec Ideal S4096x4096 .bf16) (w : FVec Ideal S4096x1024 .bf16) (x r : FVec Ideal S4096x1024 .f32) (nw : FVec Ideal S1x1024 .f32) (j : S4096x1024.Idx) : EReal :=
  NormRow.grad (fun k => x (ix2 (j 0) k)) (qrow (fun k => d (ix2 (j 0) k)) w nw) (r j) (j 1)

/-- A row's share of the gradient of the norm's weights. -/
def share (d : FVec Ideal S4096x4096 .bf16) (w : FVec Ideal S4096x1024 .bf16) (x : FVec Ideal S4096x1024 .f32) (e : Fin 1024) (r : Fin 4096) : EReal :=
  x (ix2 r e) * NormRow.inv (fun k => x (ix2 r k)) * dn (fun k => d (ix2 r k)) w e

/-- The gradient of the norm's weights. -/
def GW (d : FVec Ideal S4096x4096 .bf16) (w : FVec Ideal S4096x1024 .bf16) (x : FVec Ideal S4096x1024 .f32) (j : S1x1024.Idx) : EReal := ∑ r : Fin 4096, share d w x (j 1) r

/-- The same share, at any number. -/
def TN (d : FVec Ideal S4096x4096 .bf16) (w : FVec Ideal S4096x1024 .bf16) (x : FVec Ideal S4096x1024 .f32) (e : Fin 1024) (r : ℕ) : EReal :=
  if h : r < 4096 then share d w x e ⟨r, h⟩ else 0

theorem w_eq (t : Fin cfg0.N) : (iblk m c 1 t : FVec Ideal S4096x1024 .bf16) = m ((c : Thread nD τ).loc main_arg1) := by
  funext y
  refine (blk1 m c t y).trans (congrArg _ ?_)
  funext a; apply Fin.ext; match a with
    | 0 => show 0 * 4096 + (y 0).val = (y 0).val; omega
    | 1 => rfl
theorem nw_eq (t : Fin cfg0.N) : (iblk m c 4 t : FVec Ideal S1x1024 .f32) = m ((c : Thread nD τ).loc main_arg4) := by
  funext y
  refine (blk4 m c t y).trans (congrArg _ ?_)
  funext a; apply Fin.ext; match a with
    | 0 => show 0 * 1 + (y 0).val = (y 0).val; omega
    | 1 => rfl

theorem grad_at (t : Fin cfg0.N) (i : S512x1024.Idx) (j : S4096x1024.Idx) (h0 : (j 0).val = t.val * 512 + (i 0).val) (h1 : (j 1).val = (i 1).val) :
    (k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) i : EReal) = GX (m ((c : Thread nD τ).loc main_arg0)) (m ((c : Thread nD τ).loc main_arg1)) (m ((c : Thread nD τ).loc main_arg2)) (m ((c : Thread nD τ).loc main_arg3)) (m ((c : Thread nD τ).loc main_arg4)) j := by
  refine (pay1_at _ _ _ _ _ i).trans ?_
  unfold GX
  rw [w_eq, nw_eq]
  have e0 : ∀ k : Fin 4096, ((iblk m c 0 t : FVec Ideal S512x4096 .bf16) (ix2 (i 0) k) : EReal) = (m ((c : Thread nD τ).loc main_arg0) : FVec Ideal S4096x4096 .bf16) (ix2 (j 0) k) := by
    intro k
    refine (blk0 m c t (ix2 (i 0) k)).trans (congrArg _ ?_)
    funext a; apply Fin.ext; match a with
      | 0 => exact h0.symm
      | 1 => rfl
  have e2 : ∀ k : Fin 1024, ((iblk m c 2 t : FVec Ideal S512x1024 .f32) (ix2 (i 0) k) : EReal) = (m ((c : Thread nD τ).loc main_arg2) : FVec Ideal S4096x1024 .f32) (ix2 (j 0) k) := by
    intro k
    refine (blk2 m c t (ix2 (i 0) k)).trans (congrArg _ ?_)
    funext a; apply Fin.ext; match a with
      | 0 => exact h0.symm
      | 1 => rfl
  have e3 : ((iblk m c 3 t : FVec Ideal S512x1024 .f32) i : EReal) = (m ((c : Thread nD τ).loc main_arg3) : FVec Ideal S4096x1024 .f32) j := by
    refine (blk3 m c t i).trans (congrArg _ ?_)
    funext a; apply Fin.ext; match a with
      | 0 => exact h0.symm
      | 1 => exact h1.symm
  have e4 : (i 1 : Fin 1024) = (j 1 : Fin 1024) := Fin.ext h1.symm
  rw [funext e0, funext e2, e3]
  exact congrArg _ e4

theorem share_at (t : Fin cfg0.N) (i : S1x1024.Idx) :
    (k0_pay7 (F := Ideal) (iblk m c 2 t) (iblk m c 0 t) (iblk m c 1 t) i : EReal) = ∑ q ∈ Finset.range 512, TN (m ((c : Thread nD τ).loc main_arg0)) (m ((c : Thread nD τ).loc main_arg1)) (m ((c : Thread nD τ).loc main_arg2)) (i 1) (512 * t.val + q) := by
  refine (pay7_at _ _ _ i).trans ?_
  rw [w_eq, ← Fin.sum_univ_eq_sum_range (fun q => TN (m ((c : Thread nD τ).loc main_arg0)) (m ((c : Thread nD τ).loc main_arg1)) (m ((c : Thread nD τ).loc main_arg2)) (i 1) (512 * t.val + q)) 512]
  refine Finset.sum_congr rfl fun a _ => ?_
  have ht : t.val < 8 := t.isLt
  have hr : 512 * t.val + a.val < 4096 := by have := a.isLt; omega
  unfold TN
  rw [dif_pos hr]
  unfold share
  have e0 : ∀ k : Fin 4096, ((iblk m c 0 t : FVec Ideal S512x4096 .bf16) (ix2 a k) : EReal) = (m ((c : Thread nD τ).loc main_arg0) : FVec Ideal S4096x4096 .bf16) (ix2 ⟨512 * t.val + a.val, hr⟩ k) := by
    intro k
    refine (blk0 m c t (ix2 a k)).trans (congrArg _ ?_)
    funext b; apply Fin.ext; match b with
      | 0 => show t.val * 512 + a.val = 512 * t.val + a.val; omega
      | 1 => rfl
  have e2 : ∀ k : Fin 1024, ((iblk m c 2 t : FVec Ideal S512x1024 .f32) (ix2 a k) : EReal) = (m ((c : Thread nD τ).loc main_arg2) : FVec Ideal S4096x1024 .f32) (ix2 ⟨512 * t.val + a.val, hr⟩ k) := by
    intro k
    refine (blk2 m c t (ix2 a k)).trans (congrArg _ ?_)
    funext b; apply Fin.ext; match b with
      | 0 => show t.val * 512 + a.val = 512 * t.val + a.val; omega
      | 1 => rfl
  rw [funext e0, funext e2, e2 (i 1)]

theorem rowsA (t : Fin cfg0.N) (h : t.val % 8 = 0) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  rw [outsAt0_A m c t h]
  dsimp only
  exact out5A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h)
theorem rowsB (t : Fin cfg0.N) (h : ¬t.val % 8 = 0) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  rw [outsAt0_B m c t h]
  dsimp only
  exact out5B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun q => h ((hcond0_0 t).mp q))
theorem sumA (t : Fin cfg0.N) (h : t.val % 8 = 0) : (outsAt0 m c t.val t.isLt).2 = k0_pay2 (F := Ideal) (k0_pay7 (F := Ideal) (iblk m c 2 t) (iblk m c 0 t) (iblk m c 1 t)) (k0_pay3 (F := Ideal)) := by
  rw [outsAt0_A m c t h]
  dsimp only
  exact out6A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h)
theorem sumB (t : Fin cfg0.N) (h : ¬t.val % 8 = 0) : (outsAt0 m c t.val t.isLt).2 = k0_pay2 (F := Ideal) (k0_pay7 (F := Ideal) (iblk m c 2 t) (iblk m c 0 t) (iblk m c 1 t)) (outsAt0 m c (t.val - 1) (Nat.lt_of_le_of_lt (Nat.sub_le _ _) t.isLt)).2 := by
  rw [outsAt0_B m c t h]
  dsimp only
  exact out6B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun q => h ((hcond0_0 t).mp q))
theorem rows_at (t : Fin cfg0.N) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  by_cases h : t.val % 8 = 0
  · exact rowsA m c t h
  · exact rowsB m c t h

theorem sum_at : ∀ (k : ℕ) (hk : k < cfg0.N) (i : S1x1024.Idx),
    ((outsAt0 m c k hk).2 i : EReal) = ∑ r ∈ Finset.range (512 * (k + 1)), TN (m ((c : Thread nD τ).loc main_arg0)) (m ((c : Thread nD τ).loc main_arg1)) (m ((c : Thread nD τ).loc main_arg2)) (i 1) r
  | 0, hk, i => by
    refine (congrFun (sumA m c ⟨0, hk⟩ rfl) i).trans ?_
    refine (pay2_at _ _ i).trans ?_
    rw [pay3_at, zero_add, share_at m c ⟨0, hk⟩ i]
    refine Finset.sum_congr rfl fun q _ => ?_
    simp
  | k + 1, hk, i => by
    have h8 : k + 1 < 8 := hk
    have ih := sum_at k (by omega) i
    refine (congrFun (sumB m c ⟨k + 1, hk⟩ (by show ¬(k + 1) % 8 = 0; omega)) i).trans ?_
    refine (pay2_at _ _ i).trans ?_
    rw [share_at m c ⟨k + 1, hk⟩ i, show 512 * (k + 1 + 1) = 512 * (k + 1) + 512 by omega, Finset.sum_range_add]
    exact congrArg (fun p : EReal => p + _) ih

theorem final5 : (dats m 0 c).arrAt 5 cfg0.N = GX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp [ix_5]
  rw [after0_5, rows_at]
  exact grad_at m c t _ _ (by simp [ix_5]) (by simp [ix_5])

theorem final6 : (dats m 0 c).arrAt 6 cfg0.N = GW (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6]
  refine (sum_at m c t0_7.val t0_7.isLt j).trans ?_
  show ∑ r ∈ Finset.range 4096, TN (m ((c : Thread nD τ).loc main_arg0)) (m ((c : Thread nD τ).loc main_arg1)) (m ((c : Thread nD τ).loc main_arg2)) (j 1) r = _
  unfold GW
  rw [← Fin.sum_univ_eq_sum_range (fun r => TN (m ((c : Thread nD τ).loc main_arg0)) (m ((c : Thread nD τ).loc main_arg1)) (m ((c : Thread nD τ).loc main_arg2)) (j 1) r) 4096]
  exact Finset.sum_congr rfl fun r _ => dif_pos r.isLt
end Cert.Kernel6Ideal.Norm

namespace Cert.Reference6Ideal.Norm
open Idealize.ShloMosaic Idealize.ShloMosaic.TcCoe Idealize.SL.Sem Cert.Reference6Ideal Cert.Reference6Ideal.Gen Cert.Reference6Ideal.Read Idealize.ShloMosaic.StableHlo
open Cert.Kernel6Ideal.Norm (dn qrow GX GW share)

variable (d : FVec Ideal S4096x4096 .bf16) (w : FVec Ideal S4096x1024 .bf16) (x r : FVec Ideal S4096x1024 .f32) (nw : FVec Ideal S1x1024 .f32)

theorem v19_at (i : S4096x1024.Idx) : (val_main_v19 (F := Ideal) d w i : EReal) = dn (fun k => d (ix2 (i 0) k)) w (i 1) := by
  unfold dn
  pointwise [val_main_v15, val_main_v16, val_main_v18, val_main_v19]

theorem v24_at (i : S4096x1024.Idx) : (val_main_v24 (F := Ideal) d w nw i : EReal) = qrow (fun k => d (ix2 (i 0) k)) w nw (i 1) := by
  unfold qrow
  rw [← v19_at d w i]
  unfold val_main_v24
  generalize val_main_v19 (F := Ideal) d w = y
  pointwise [val_main_v23]

theorem v7_at (i : S4096x1.Idx) : (val_main_v7 (F := Ideal) x i : EReal) = NormRow.inv fun k => x (ix2 (i 0) k) := by
  unfold NormRow.inv NormRow.ms
  pointwise [val_main_v0, val_main_cst, val_main_v1, val_main_v2, val_main_cst_0, val_main_v3, val_main_v4, val_main_cst_1, val_main_v5, val_main_v6, val_main_v7]

theorem v22_at (i : S1x1024.Idx) : (val_main_v22 (F := Ideal) d w x i : EReal) = GW d w x i := by
  unfold GW share
  have h : ∀ j : S4096x1024.Idx, (val_main_v19 (F := Ideal) d w j : EReal) = dn (fun k => d (ix2 (j 0) k)) w (j 1) := fun j => v19_at d w j
  have h7 : ∀ j : S4096x1.Idx, (val_main_v7 (F := Ideal) x j : EReal) = NormRow.inv fun k => x (ix2 (j 0) k) := fun j => v7_at x j
  unfold val_main_v22 val_main_v21 val_main_v20 val_main_v12 val_main_v11
  generalize val_main_v19 (F := Ideal) d w = y at h ⊢
  generalize val_main_v7 (F := Ideal) x = z at h7 ⊢
  pointwise [val_main_cst_3, h, h7]

theorem v39_at (i : S4096x1024.Idx) : (val_main_v39 (F := Ideal) d w x r nw i : EReal) = GX d w x r nw i := by
  unfold GX NormRow.grad NormRow.back
  have h : ∀ j : S4096x1024.Idx, (val_main_v24 (F := Ideal) d w nw j : EReal) = qrow (fun k => d (ix2 (j 0) k)) w nw (j 1) := fun j => v24_at d w nw j
  unfold NormRow.inv NormRow.ms
  unfold val_main_v39 val_main_v38 val_main_v37 val_main_v36 val_main_v35 val_main_v34 val_main_v33 val_main_v31 val_main_v30 val_main_v29 val_main_v28 val_main_v27 val_main_v26 val_main_v25
  generalize val_main_v24 (F := Ideal) d w nw = y at h ⊢
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_4, val_main_cst_5, val_main_v32, val_main_cst_6, h]
  simp only [Fin.sum_univ_one]
  rw [add_assoc (r i : EReal), add_assoc (r i : EReal), add_comm (r i : EReal)]
end Cert.Reference6Ideal.Norm

namespace Cert.Norm6
open Idealize.ShloMosaic Idealize.ShloMosaic.TcCoe Idealize.SL.Sem
theorem frame (m : (ℓ : Loc Cert.Reference6Ideal.nD Cert.Reference6Ideal.τ Cert.Reference6Ideal.sig) → Buf (Elt Ideal) ℓ) (g : Dev Cert.Reference6Ideal.nD → PrngReg) :
    θ_run Cert.Reference6Ideal.defs (onTc (τ := Cert.Reference6Ideal.τ) (Cert.Reference6Ideal.main (F := Ideal))) ⟨m, fun _ => 0, g⟩ fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)) ∧ r.2.sem = fun _ => 0 :=
  (θ_run Cert.Reference6Ideal.defs _ _).mono (fun r h => ⟨fun c => (h c).2.2, sem_eq_zero_of_no_sems (by decide) r.2⟩) (Cert.Reference6Ideal.Value.run m g)

theorem algebraic : Cert.algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Norm.GX (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), fun c => Cert.Kernel6Ideal.Norm.GW (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Norm.final5 m c), (h c).2.1.trans (Cert.Kernel6Ideal.Norm.final6 m c), (h c).2.2⟩) (Cert.Kernel6Ideal.Value.run_blocks m g)
  · refine (θ_run Cert.Reference6Ideal.defs _ _).mono (fun r h c => ⟨(h c).1.trans ?_, (h c).2.1.trans ?_, (h c).2.2⟩) (Cert.Reference6Ideal.Value.run m' g')
    · refine (Cert.Reference6Ideal.Read.val_main_v39_eq m' c).trans ?_
      rw [(hag c).1, (hag c).2.1, (hag c).2.2.1, (hag c).2.2.2.1, (hag c).2.2.2.2]
      exact funext fun i => Cert.Reference6Ideal.Norm.v39_at _ _ _ _ _ i
    · rw [(hag c).1, (hag c).2.1, (hag c).2.2.1]
      exact (Cert.Reference6Ideal.Read.val_main_v22_eq _ _ _).trans (funext fun i => Cert.Reference6Ideal.Norm.v22_at _ _ _ i)
end Cert.Norm6
-- ==== Proof.Norm7.lean ====
/- What `kernel7` computes, and the reference, at an index. -/
module
public import proofs.«01_k».proof.Proof.Gen.Kernel7Ideal.Value
public import proofs.«01_k».proof.Proof.Gen.Reference7Ideal.Read
public import proofs.«01_k».proof.Defs
public import proofs.«01_k».proof.Proof.NormRow
public import Idealize.ShloMosaic.Lib.Pointwise
public import Idealize.ShloMosaic.Lib.Pipeline.ValueKit

@[expose] public section
set_option maxRecDepth 16384
noncomputable section
namespace Cert.Kernel7Ideal.Norm
open Idealize.ShloMosaic Idealize.ShloMosaic.TcCoe Idealize.SL.Sem Cert.Kernel7Ideal Cert.Kernel7Ideal.Gen

/-- A row of the gradient of the normed rows: the product with the weights. -/
def dn (d : Fin 2560 → EReal) (w : FVec Ideal S2560x1024 .bf16) (e : Fin 1024) : EReal := ∑ k : Fin 2560, d k * (w (ix2 k e) : EReal)

theorem pay4_at (v6 : FVec Ideal S512x2560 .bf16) (v7 : FVec Ideal S2560x1024 .bf16) (i : S512x1024.Idx) :
    (k0_pay4 (F := Ideal) v6 v7 i : EReal) = dn (fun k => v6 (ix2 (i 0) k)) v7 (i 1) := by
  unfold dn
  pointwise [k0_pay4]

theorem pay8_at (v5 : FVec Ideal S1x1024 .f32) (v6 : FVec Ideal S512x2560 .bf16) (v7 : FVec Ideal S2560x1024 .bf16) (i : S512x1024.Idx) :
    (k0_pay8 (F := Ideal) v5 v6 v7 i : EReal) = dn (fun k => v6 (ix2 (i 0) k)) v7 (i 1) * v5 (ix2 0 (i 1)) := by
  rw [← pay4_at v6 v7 i]
  unfold k0_pay8
  generalize k0_pay4 (F := Ideal) v6 v7 = y
  pointwise []

/-- A row before the weights of the norm. -/
def qrow (d : Fin 2560 → EReal) (w : FVec Ideal S2560x1024 .bf16) (nw : FVec Ideal S1x1024 .f32) (e : Fin 1024) : EReal := dn d w e * nw (ix2 0 e)

theorem pay1_at (v3 v4 : FVec Ideal S512x1024 .f32) (v5 : FVec Ideal S1x1024 .f32) (v6 : FVec Ideal S512x2560 .bf16) (v7 : FVec Ideal S2560x1024 .bf16) (i : S512x1024.Idx) :
    (k0_pay1 (F := Ideal) v3 v4 (k0_pay9 v3 v5 v6 v7) (k0_pay10 v3 v5 v6 v7) i : EReal)
      = NormRow.grad (fun k => v3 (ix2 (i 0) k)) (qrow (fun k => v6 (ix2 (i 0) k)) v7 v5) (v4 i) (i 1) := by
  have h : ∀ j : S512x1024.Idx, (k0_pay8 (F := Ideal) v5 v6 v7 j : EReal) = qrow (fun k => v6 (ix2 (j 0) k)) v7 v5 (j 1) := fun j => pay8_at v5 v6 v7 j
  unfold NormRow.grad NormRow.back NormRow.inv NormRow.ms
  unfold k0_pay9 k0_pay10
  generalize k0_pay8 (F := Ideal) v5 v6 v7 = y at h ⊢
  pointwise [k0_pay1, k0_pay6, k0_pay5, h]
  simp only [Fin.sum_univ_one]

theorem pay7_at (v3 : FVec Ideal S512x1024 .f32) (v6 : FVec Ideal S512x2560 .bf16) (v7 : FVec Ideal S2560x1024 .bf16) (i : S1x1024.Idx) :
    (k0_pay7 (F := Ideal) v3 v6 v7 i : EReal)
      = ∑ a : Fin 512, v3 (ix2 a (i 1)) * NormRow.inv (fun k => v3 (ix2 a k)) * dn (fun k => v6 (ix2 a k)) v7 (i 1) := by
  have h : ∀ j : S512x1024.Idx, (k0_pay4 (F := Ideal) v6 v7 j : EReal) = dn (fun k => v6 (ix2 (j 0) k)) v7 (j 1) := fun j => pay4_at v6 v7 j
  unfold NormRow.inv NormRow.ms
  unfold k0_pay7
  generalize k0_pay4 (F := Ideal) v6 v7 = y at h ⊢
  pointwise [k0_pay6, k0_pay5, h]

theorem pay2_at (u z : FVec Ideal S1x1024 .f32) (i : S1x1024.Idx) : (k0_pay2 (F := Ideal) u z i : EReal) = z i + u i := by
  pointwise [k0_pay2]
theorem pay3_at (i : S1x1024.Idx) : (k0_pay3 (F := Ideal) i : EReal) = 0 := by
  pointwise [k0_pay3]

theorem out5A (c : Dev nD) (i : grid0.Coords) (arg1 : Memref sig .tc .vmem S512x2560 .bf16) (harg1 : arg1.IsWhole) (arg2 : Memref sig .tc .vmem S2560x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x2560 .bf16) (x1 : Vec Ideal S2560x1024 .bf16) (x2 : Vec Ideal S512x1024 .f32) (x3 : Vec Ideal S512x1024 .f32) (x4 : Vec Ideal S1x1024 .f32) (hc0 : cond0_0 i) :
    out0_A_5 c i arg1 harg1 arg2 harg2 arg3 harg3 arg4 harg4 arg5 harg5 arg6 harg6 arg7 harg7 hc0 x0 x1 x2 x3 x4 = k0_pay1 (F := Ideal) x2 x3 (k0_pay9 (F := Ideal) x2 x4 x0 x1) (k0_pay10 (F := Ideal) x2 x4 x0 x1) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  refine (View.canon_cons_unit_lit _ _ _ (by decide)).trans ?_
  unfold kernelRun0_A.sl.r kernelRun0_A.sl.r_1 kernelRun0_A.sl.r_3 kernelRun0_A.sl.r_4
  simp only [View.readAt_eq_ld, Memref.IsWhole.read_unread]
  repeat rw [View.ld_unit_lit _ _ (by decide)]

theorem out6A (c : Dev nD) (i : grid0.Coords) (arg1 : Memref sig .tc .vmem S512x2560 .bf16) (harg1 : arg1.IsWhole) (arg2 : Memref sig .tc .vmem S2560x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x2560 .bf16) (x1 : Vec Ideal S2560x1024 .bf16) (x2 : Vec Ideal S512x1024 .f32) (x3 : Vec Ideal S512x1024 .f32) (x4 : Vec Ideal S1x1024 .f32) (hc0 : cond0_0 i) :
    out0_A_6 c i arg1 harg1 arg2 harg2 arg3 harg3 arg4 harg4 arg5 harg5 arg6 harg6 arg7 harg7 hc0 x0 x1 x2 x3 x4 = k0_pay2 (F := Ideal) (k0_pay7 (F := Ideal) x2 x0 x1) (k0_pay3 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  refine (View.canon_cons_unit_lit _ _ _ (by decide)).trans ?_
  unfold kernelRun0_A.sl.r_2 kernelRun0_A.sl.v44 kernelRun0_A.sl.H6_1
  rw [View.readCov_unit_lit _ _ _ (by decide)]
  simp only [View.readAt_eq_ld, Memref.IsWhole.read_unread]
  repeat rw [View.ld_unit_lit _ _ (by decide)]

theorem out5B (c : Dev nD) (i : grid0.Coords) (arg1 : Memref sig .tc .vmem S512x2560 .bf16) (harg1 : arg1.IsWhole) (arg2 : Memref sig .tc .vmem S2560x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x2560 .bf16) (x1 : Vec Ideal S2560x1024 .bf16) (x2 : Vec Ideal S512x1024 .f32) (x3 : Vec Ideal S512x1024 .f32) (x4 : Vec Ideal S1x1024 .f32) (xo6 : Vec Ideal S1x1024 .f32) (hc0 : ¬cond0_0 i) :
    out0_B_5 c i arg1 harg1 arg2 harg2 arg3 harg3 arg4 harg4 arg5 harg5 arg6 harg6 arg7 harg7 hc0 x0 x1 x2 x3 x4 xo6 = k0_pay1 (F := Ideal) x2 x3 (k0_pay9 (F := Ideal) x2 x4 x0 x1) (k0_pay10 (F := Ideal) x2 x4 x0 x1) := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  refine (View.canon_cons_unit_lit _ _ _ (by decide)).trans ?_
  unfold kernelRun0_B.sl.r kernelRun0_B.sl.r_1 kernelRun0_B.sl.r_3 kernelRun0_B.sl.r_4
  simp only [View.readAt_eq_ld, Memref.IsWhole.read_unread]
  repeat rw [View.ld_unit_lit _ _ (by decide)]

theorem out6B (c : Dev nD) (i : grid0.Coords) (arg1 : Memref sig .tc .vmem S512x2560 .bf16) (harg1 : arg1.IsWhole) (arg2 : Memref sig .tc .vmem S2560x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x2560 .bf16) (x1 : Vec Ideal S2560x1024 .bf16) (x2 : Vec Ideal S512x1024 .f32) (x3 : Vec Ideal S512x1024 .f32) (x4 : Vec Ideal S1x1024 .f32) (xo6 : Vec Ideal S1x1024 .f32) (hc0 : ¬cond0_0 i) :
    out0_B_6 c i arg1 harg1 arg2 harg2 arg3 harg3 arg4 harg4 arg5 harg5 arg6 harg6 arg7 harg7 hc0 x0 x1 x2 x3 x4 xo6 = k0_pay2 (F := Ideal) (k0_pay7 (F := Ideal) x2 x0 x1) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  refine (View.canon_cons_unit_lit _ _ _ (by decide)).trans ?_
  unfold kernelRun0_B.sl.r_2
  simp only [View.readAt_eq_ld, Memref.IsWhole.read_unread]
  repeat rw [View.ld_unit_lit _ _ (by decide)]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem blk0 (t : Fin cfg0.N) (y : S512x2560.Idx) : ((iblk m c 0 t : FVec Ideal S512x2560 .bf16) y : EReal)
    = (m ((c : Thread nD τ).loc main_arg0) : FVec Ideal S4096x2560 .bf16) (ix2 ⟨t.val * 512 + (y 0).val, by have h0 : (y 0).val < 512 := (y 0).isLt; have ht : t.val < 8 := t.isLt; omega⟩ (y 1)) := by
  unfold iblk
  rw [View.read_apply]
  show V m c main_arg0 _ = _
  rw [V_main_arg0]
  congr 1
  funext a
  apply Fin.ext
  match a with
  | 0 => show win0_0.index t 0 * 512 + 1 * (y 0).val = _; rw [ix_0]; show (t.val) * 512 + 1 * (y 0).val = (t.val) * 512 + (y 0).val; omega
  | 1 => show win0_0.index t 1 * 2560 + 1 * (y 1).val = _; rw [ix_0]; show (0) * 2560 + 1 * (y 1).val = (y 1).val; omega

theorem ix_1 : ∀ t : Fin cfg0.N, win0_1.index t = ![0, 0] := (by decide +kernel : ∀ t : Fin grid0.N, win0_1.index t = ![0, 0])
theorem blk1 (t : Fin cfg0.N) (y : S2560x1024.Idx) : ((iblk m c 1 t : FVec Ideal S2560x1024 .bf16) y : EReal)
    = (m ((c : Thread nD τ).loc main_arg1) : FVec Ideal S2560x1024 .bf16) (ix2 ⟨0 * 2560 + (y 0).val, by have h0 : (y 0).val < 2560 := (y 0).isLt; have ht : t.val < 8 := t.isLt; omega⟩ (y 1)) := by
  unfold iblk
  rw [View.read_apply]
  show V m c main_arg1 _ = _
  rw [V_main_arg1]
  congr 1
  funext a
  apply Fin.ext
  match a with
  | 0 => show win0_1.index t 0 * 2560 + 1 * (y 0).val = _; rw [ix_1]; show (0) * 2560 + 1 * (y 0).val = (0) * 2560 + (y 0).val; omega
  | 1 => show win0_1.index t 1 * 1024 + 1 * (y 1).val = _; rw [ix_1]; show (0) * 1024 + 1 * (y 1).val = (y 1).val; omega

theorem ix_2 : ∀ t : Fin cfg0.N, win0_2.index t = ![t.val, 0] := (by decide +kernel : ∀ t : Fin grid0.N, win0_2.index t = ![t.val, 0])
theorem blk2 (t : Fin cfg0.N) (y : S512x1024.Idx) : ((iblk m c 2 t : FVec Ideal S512x1024 .f32) y : EReal)
    = (m ((c : Thread nD τ).loc main_arg2) : FVec Ideal S4096x1024 .f32) (ix2 ⟨t.val * 512 + (y 0).val, by have h0 : (y 0).val < 512 := (y 0).isLt; have ht : t.val < 8 := t.isLt; omega⟩ (y 1)) := by
  unfold iblk
  rw [View.read_apply]
  show V m c main_arg2 _ = _
  rw [V_main_arg2]
  congr 1
  funext a
  apply Fin.ext
  match a with
  | 0 => show win0_2.index t 0 * 512 + 1 * (y 0).val = _; rw [ix_2]; show (t.val) * 512 + 1 * (y 0).val = (t.val) * 512 + (y 0).val; omega
  | 1 => show win0_2.index t 1 * 1024 + 1 * (y 1).val = _; rw [ix_2]; show (0) * 1024 + 1 * (y 1).val = (y 1).val; omega

theorem ix_3 : ∀ t : Fin cfg0.N, win0_3.index t = ![t.val, 0] := (by decide +kernel : ∀ t : Fin grid0.N, win0_3.index t = ![t.val, 0])
theorem blk3 (t : Fin cfg0.N) (y : S512x1024.Idx) : ((iblk m c 3 t : FVec Ideal S512x1024 .f32) y : EReal)
    = (m ((c : Thread nD τ).loc main_arg3) : FVec Ideal S4096x1024 .f32) (ix2 ⟨t.val * 512 + (y 0).val, by have h0 : (y 0).val < 512 := (y 0).isLt; have ht : t.val < 8 := t.isLt; omega⟩ (y 1)) := by
  unfold iblk
  rw [View.read_apply]
  show V m c main_arg3 _ = _
  rw [V_main_arg3]
  congr 1
  funext a
  apply Fin.ext
  match a with
  | 0 => show win0_3.index t 0 * 512 + 1 * (y 0).val = _; rw [ix_3]; show (t.val) * 512 + 1 * (y 0).val = (t.val) * 512 + (y 0).val; omega
  | 1 => show win0_3.index t 1 * 1024 + 1 * (y 1).val = _; rw [ix_3]; show (0) * 1024 + 1 * (y 1).val = (y 1).val; omega

theorem ix_4 : ∀ t : Fin cfg0.N, win0_4.index t = ![0, 0] := (by decide +kernel : ∀ t : Fin grid0.N, win0_4.index t = ![0, 0])
theorem blk4 (t : Fin cfg0.N) (y : S1x1024.Idx) : ((iblk m c 4 t : FVec Ideal S1x1024 .f32) y : EReal)
    = (m ((c : Thread nD τ).loc main_arg4) : FVec Ideal S1x1024 .f32) (ix2 ⟨0 * 1 + (y 0).val, by have h0 : (y 0).val < 1 := (y 0).isLt; have ht : t.val < 8 := t.isLt; omega⟩ (y 1)) := by
  unfold iblk
  rw [View.read_apply]
  show V m c main_arg4 _ = _
  rw [V_main_arg4]
  congr 1
  funext a
  apply Fin.ext
  match a with
  | 0 => show win0_4.index t 0 * 1 + 1 * (y 0).val = _; rw [ix_4]; show (0) * 1 + 1 * (y 0).val = (0) * 1 + (y 0).val; omega
  | 1 => show win0_4.index t 1 * 1024 + 1 * (y 1).val = _; rw [ix_4]; show (0) * 1024 + 1 * (y 1).val = (y 1).val; omega

theorem ix_5 : ∀ t : Fin cfg0.N, win0_5.index t = ![t.val, 0] := (by decide +kernel : ∀ t : Fin grid0.N, win0_5.index t = ![t.val, 0])

/-- The gradient of the rows. -/
def GX (d : FVec Ideal S4096x2560 .bf16) (w : FVec Ideal S2560x1024 .bf16) (x r : FVec Ideal S4096x1024 .f32) (nw : FVec Ideal S1x1024 .f32) (j : S4096x1024.Idx) : EReal :=
  NormRow.grad (fun k => x (ix2 (j 0) k)) (qrow (fun k => d (ix2 (j 0) k)) w nw) (r j) (j 1)

/-- A row's share of the gradient of the norm's weights. -/
def share (d : FVec Ideal S4096x2560 .bf16) (w : FVec Ideal S2560x1024 .bf16) (x : FVec Ideal S4096x1024 .f32) (e : Fin 1024) (r : Fin 4096) : EReal :=
  x (ix2 r e) * NormRow.inv (fun k => x (ix2 r k)) * dn (fun k => d (ix2 r k)) w e

/-- The gradient of the norm's weights. -/
def GW (d : FVec Ideal S4096x2560 .bf16) (w : FVec Ideal S2560x1024 .bf16) (x : FVec Ideal S4096x1024 .f32) (j : S1x1024.Idx) : EReal := ∑ r : Fin 4096, share d w x (j 1) r

/-- The same share, at any number. -/
def TN (d : FVec Ideal S4096x2560 .bf16) (w : FVec Ideal S2560x1024 .bf16) (x : FVec Ideal S4096x1024 .f32) (e : Fin 1024) (r : ℕ) : EReal :=
  if h : r < 4096 then share d w x e ⟨r, h⟩ else 0

theorem w_eq (t : Fin cfg0.N) : (iblk m c 1 t : FVec Ideal S2560x1024 .bf16) = m ((c : Thread nD τ).loc main_arg1) := by
  funext y
  refine (blk1 m c t y).trans (congrArg _ ?_)
  funext a; apply Fin.ext; match a with
    | 0 => show 0 * 2560 + (y 0).val = (y 0).val; omega
    | 1 => rfl
theorem nw_eq (t : Fin cfg0.N) : (iblk m c 4 t : FVec Ideal S1x1024 .f32) = m ((c : Thread nD τ).loc main_arg4) := by
  funext y
  refine (blk4 m c t y).trans (congrArg _ ?_)
  funext a; apply Fin.ext; match a with
    | 0 => show 0 * 1 + (y 0).val = (y 0).val; omega
    | 1 => rfl

theorem grad_at (t : Fin cfg0.N) (i : S512x1024.Idx) (j : S4096x1024.Idx) (h0 : (j 0).val = t.val * 512 + (i 0).val) (h1 : (j 1).val = (i 1).val) :
    (k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) i : EReal) = GX (m ((c : Thread nD τ).loc main_arg0)) (m ((c : Thread nD τ).loc main_arg1)) (m ((c : Thread nD τ).loc main_arg2)) (m ((c : Thread nD τ).loc main_arg3)) (m ((c : Thread nD τ).loc main_arg4)) j := by
  refine (pay1_at _ _ _ _ _ i).trans ?_
  unfold GX
  rw [w_eq, nw_eq]
  have e0 : ∀ k : Fin 2560, ((iblk m c 0 t : FVec Ideal S512x2560 .bf16) (ix2 (i 0) k) : EReal) = (m ((c : Thread nD τ).loc main_arg0) : FVec Ideal S4096x2560 .bf16) (ix2 (j 0) k) := by
    intro k
    refine (blk0 m c t (ix2 (i 0) k)).trans (congrArg _ ?_)
    funext a; apply Fin.ext; match a with
      | 0 => exact h0.symm
      | 1 => rfl
  have e2 : ∀ k : Fin 1024, ((iblk m c 2 t : FVec Ideal S512x1024 .f32) (ix2 (i 0) k) : EReal) = (m ((c : Thread nD τ).loc main_arg2) : FVec Ideal S4096x1024 .f32) (ix2 (j 0) k) := by
    intro k
    refine (blk2 m c t (ix2 (i 0) k)).trans (congrArg _ ?_)
    funext a; apply Fin.ext; match a with
      | 0 => exact h0.symm
      | 1 => rfl
  have e3 : ((iblk m c 3 t : FVec Ideal S512x1024 .f32) i : EReal) = (m ((c : Thread nD τ).loc main_arg3) : FVec Ideal S4096x1024 .f32) j := by
    refine (blk3 m c t i).trans (congrArg _ ?_)
    funext a; apply Fin.ext; match a with
      | 0 => exact h0.symm
      | 1 => exact h1.symm
  have e4 : (i 1 : Fin 1024) = (j 1 : Fin 1024) := Fin.ext h1.symm
  rw [funext e0, funext e2, e3]
  exact congrArg _ e4

theorem share_at (t : Fin cfg0.N) (i : S1x1024.Idx) :
    (k0_pay7 (F := Ideal) (iblk m c 2 t) (iblk m c 0 t) (iblk m c 1 t) i : EReal) = ∑ q ∈ Finset.range 512, TN (m ((c : Thread nD τ).loc main_arg0)) (m ((c : Thread nD τ).loc main_arg1)) (m ((c : Thread nD τ).loc main_arg2)) (i 1) (512 * t.val + q) := by
  refine (pay7_at _ _ _ i).trans ?_
  rw [w_eq, ← Fin.sum_univ_eq_sum_range (fun q => TN (m ((c : Thread nD τ).loc main_arg0)) (m ((c : Thread nD τ).loc main_arg1)) (m ((c : Thread nD τ).loc main_arg2)) (i 1) (512 * t.val + q)) 512]
  refine Finset.sum_congr rfl fun a _ => ?_
  have ht : t.val < 8 := t.isLt
  have hr : 512 * t.val + a.val < 4096 := by have := a.isLt; omega
  unfold TN
  rw [dif_pos hr]
  unfold share
  have e0 : ∀ k : Fin 2560, ((iblk m c 0 t : FVec Ideal S512x2560 .bf16) (ix2 a k) : EReal) = (m ((c : Thread nD τ).loc main_arg0) : FVec Ideal S4096x2560 .bf16) (ix2 ⟨512 * t.val + a.val, hr⟩ k) := by
    intro k
    refine (blk0 m c t (ix2 a k)).trans (congrArg _ ?_)
    funext b; apply Fin.ext; match b with
      | 0 => show t.val * 512 + a.val = 512 * t.val + a.val; omega
      | 1 => rfl
  have e2 : ∀ k : Fin 1024, ((iblk m c 2 t : FVec Ideal S512x1024 .f32) (ix2 a k) : EReal) = (m ((c : Thread nD τ).loc main_arg2) : FVec Ideal S4096x1024 .f32) (ix2 ⟨512 * t.val + a.val, hr⟩ k) := by
    intro k
    refine (blk2 m c t (ix2 a k)).trans (congrArg _ ?_)
    funext b; apply Fin.ext; match b with
      | 0 => show t.val * 512 + a.val = 512 * t.val + a.val; omega
      | 1 => rfl
  rw [funext e0, funext e2, e2 (i 1)]

theorem rowsA (t : Fin cfg0.N) (h : t.val % 8 = 0) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  rw [outsAt0_A m c t h]
  dsimp only
  exact out5A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h)
theorem rowsB (t : Fin cfg0.N) (h : ¬t.val % 8 = 0) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  rw [outsAt0_B m c t h]
  dsimp only
  exact out5B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun q => h ((hcond0_0 t).mp q))
theorem sumA (t : Fin cfg0.N) (h : t.val % 8 = 0) : (outsAt0 m c t.val t.isLt).2 = k0_pay2 (F := Ideal) (k0_pay7 (F := Ideal) (iblk m c 2 t) (iblk m c 0 t) (iblk m c 1 t)) (k0_pay3 (F := Ideal)) := by
  rw [outsAt0_A m c t h]
  dsimp only
  exact out6A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) ((hcond0_0 t).mpr h)
theorem sumB (t : Fin cfg0.N) (h : ¬t.val % 8 = 0) : (outsAt0 m c t.val t.isLt).2 = k0_pay2 (F := Ideal) (k0_pay7 (F := Ideal) (iblk m c 2 t) (iblk m c 0 t) (iblk m c 1 t)) (outsAt0 m c (t.val - 1) (Nat.lt_of_le_of_lt (Nat.sub_le _ _) t.isLt)).2 := by
  rw [outsAt0_B m c t h]
  dsimp only
  exact out6B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (outsAt0 m c (t.val - 1) (Nat.lt_of_le_of_lt (Nat.sub_le _ _) t.isLt)).2 (fun q => h ((hcond0_0 t).mp q))
theorem rows_at (t : Fin cfg0.N) : (outsAt0 m c t.val t.isLt).1 = k0_pay1 (F := Ideal) (iblk m c 2 t) (iblk m c 3 t) (k0_pay9 (F := Ideal) (iblk m c 2 t) (iblk m c 4 t) (iblk m c 0 t) (iblk m c 1 t)) (k0_pay10 (F := Ideal) (iblk m c 2 t) (iblk m c 4 t) (iblk m c 0 t) (iblk m c 1 t)) := by
  by_cases h : t.val % 8 = 0
  · exact rowsA m c t h
  · exact rowsB m c t h

theorem sum_at : ∀ (k : ℕ) (hk : k < cfg0.N) (i : S1x1024.Idx),
    ((outsAt0 m c k hk).2 i : EReal) = ∑ r ∈ Finset.range (512 * (k + 1)), TN (m ((c : Thread nD τ).loc main_arg0)) (m ((c : Thread nD τ).loc main_arg1)) (m ((c : Thread nD τ).loc main_arg2)) (i 1) r
  | 0, hk, i => by
    refine (congrFun (sumA m c ⟨0, hk⟩ rfl) i).trans ?_
    refine (pay2_at _ _ i).trans ?_
    rw [pay3_at, zero_add, share_at m c ⟨0, hk⟩ i]
    refine Finset.sum_congr rfl fun q _ => ?_
    simp
  | k + 1, hk, i => by
    have h8 : k + 1 < 8 := hk
    have ih := sum_at k (by omega) i
    refine (congrFun (sumB m c ⟨k + 1, hk⟩ (by show ¬(k + 1) % 8 = 0; omega)) i).trans ?_
    refine (pay2_at _ _ i).trans ?_
    rw [share_at m c ⟨k + 1, hk⟩ i, show 512 * (k + 1 + 1) = 512 * (k + 1) + 512 by omega, Finset.sum_range_add]
    exact congrArg (fun p : EReal => p + _) ih

theorem final5 : (dats m 0 c).arrAt 5 cfg0.N = GX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp [ix_5]
  rw [after0_5, rows_at]
  exact grad_at m c t _ _ (by simp [ix_5]) (by simp [ix_5])

theorem final6 : (dats m 0 c).arrAt 6 cfg0.N = GW (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6]
  refine (sum_at m c t0_7.val t0_7.isLt j).trans ?_
  show ∑ r ∈ Finset.range 4096, TN (m ((c : Thread nD τ).loc main_arg0)) (m ((c : Thread nD τ).loc main_arg1)) (m ((c : Thread nD τ).loc main_arg2)) (j 1) r = _
  unfold GW
  rw [← Fin.sum_univ_eq_sum_range (fun r => TN (m ((c : Thread nD τ).loc main_arg0)) (m ((c : Thread nD τ).loc main_arg1)) (m ((c : Thread nD τ).loc main_arg2)) (j 1) r) 4096]
  exact Finset.sum_congr rfl fun r _ => dif_pos r.isLt
end Cert.Kernel7Ideal.Norm

namespace Cert.Reference7Ideal.Norm
open Idealize.ShloMosaic Idealize.ShloMosaic.TcCoe Idealize.SL.Sem Cert.Reference7Ideal Cert.Reference7Ideal.Gen Cert.Reference7Ideal.Read Idealize.ShloMosaic.StableHlo
open Cert.Kernel7Ideal.Norm (dn qrow GX GW share)

variable (d : FVec Ideal S4096x2560 .bf16) (w : FVec Ideal S2560x1024 .bf16) (x r : FVec Ideal S4096x1024 .f32) (nw : FVec Ideal S1x1024 .f32)

theorem v19_at (i : S4096x1024.Idx) : (val_main_v19 (F := Ideal) d w i : EReal) = dn (fun k => d (ix2 (i 0) k)) w (i 1) := by
  unfold dn
  pointwise [val_main_v15, val_main_v16, val_main_v18, val_main_v19]

theorem v24_at (i : S4096x1024.Idx) : (val_main_v24 (F := Ideal) d w nw i : EReal) = qrow (fun k => d (ix2 (i 0) k)) w nw (i 1) := by
  unfold qrow
  rw [← v19_at d w i]
  unfold val_main_v24
  generalize val_main_v19 (F := Ideal) d w = y
  pointwise [val_main_v23]

theorem v7_at (i : S4096x1.Idx) : (val_main_v7 (F := Ideal) x i : EReal) = NormRow.inv fun k => x (ix2 (i 0) k) := by
  unfold NormRow.inv NormRow.ms
  pointwise [val_main_v0, val_main_cst, val_main_v1, val_main_v2, val_main_cst_0, val_main_v3, val_main_v4, val_main_cst_1, val_main_v5, val_main_v6, val_main_v7]

theorem v22_at (i : S1x1024.Idx) : (val_main_v22 (F := Ideal) d w x i : EReal) = GW d w x i := by
  unfold GW share
  have h : ∀ j : S4096x1024.Idx, (val_main_v19 (F := Ideal) d w j : EReal) = dn (fun k => d (ix2 (j 0) k)) w (j 1) := fun j => v19_at d w j
  have h7 : ∀ j : S4096x1.Idx, (val_main_v7 (F := Ideal) x j : EReal) = NormRow.inv fun k => x (ix2 (j 0) k) := fun j => v7_at x j
  unfold val_main_v22 val_main_v21 val_main_v20 val_main_v12 val_main_v11
  generalize val_main_v19 (F := Ideal) d w = y at h ⊢
  generalize val_main_v7 (F := Ideal) x = z at h7 ⊢
  pointwise [val_main_cst_3, h, h7]

theorem v39_at (i : S4096x1024.Idx) : (val_main_v39 (F := Ideal) d w x r nw i : EReal) = GX d w x r nw i := by
  unfold GX NormRow.grad NormRow.back
  have h : ∀ j : S4096x1024.Idx, (val_main_v24 (F := Ideal) d w nw j : EReal) = qrow (fun k => d (ix2 (j 0) k)) w nw (j 1) := fun j => v24_at d w nw j
  unfold NormRow.inv NormRow.ms
  unfold val_main_v39 val_main_v38 val_main_v37 val_main_v36 val_main_v35 val_main_v34 val_main_v33 val_main_v31 val_main_v30 val_main_v29 val_main_v28 val_main_v27 val_main_v26 val_main_v25
  generalize val_main_v24 (F := Ideal) d w nw = y at h ⊢
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_4, val_main_cst_5, val_main_v32, val_main_cst_6, h]
  simp only [Fin.sum_univ_one]
  rw [add_assoc (r i : EReal), add_assoc (r i : EReal), add_comm (r i : EReal)]
end Cert.Reference7Ideal.Norm

namespace Cert.Norm7
open Idealize.ShloMosaic Idealize.ShloMosaic.TcCoe Idealize.SL.Sem
theorem frame (m : (ℓ : Loc Cert.Reference7Ideal.nD Cert.Reference7Ideal.τ Cert.Reference7Ideal.sig) → Buf (Elt Ideal) ℓ) (g : Dev Cert.Reference7Ideal.nD → PrngReg) :
    θ_run Cert.Reference7Ideal.defs (onTc (τ := Cert.Reference7Ideal.τ) (Cert.Reference7Ideal.main (F := Ideal))) ⟨m, fun _ => 0, g⟩ fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)) ∧ r.2.sem = fun _ => 0 :=
  (θ_run Cert.Reference7Ideal.defs _ _).mono (fun r h => ⟨fun c => (h c).2.2, sem_eq_zero_of_no_sems (by decide) r.2⟩) (Cert.Reference7Ideal.Value.run m g)

theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.Norm.GX (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), fun c => Cert.Kernel7Ideal.Norm.GW (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run Cert.Kernel7Ideal.defs _ _).mono (fun r h c => ⟨(h c).1.trans (Cert.Kernel7Ideal.Norm.final5 m c), (h c).2.1.trans (Cert.Kernel7Ideal.Norm.final6 m c), (h c).2.2⟩) (Cert.Kernel7Ideal.Value.run_blocks m g)
  · refine (θ_run Cert.Reference7Ideal.defs _ _).mono (fun r h c => ⟨(h c).1.trans ?_, (h c).2.1.trans ?_, (h c).2.2⟩) (Cert.Reference7Ideal.Value.run m' g')
    · refine (Cert.Reference7Ideal.Read.val_main_v39_eq m' c).trans ?_
      rw [(hag c).1, (hag c).2.1, (hag c).2.2.1, (hag c).2.2.2.1, (hag c).2.2.2.2]
      exact funext fun i => Cert.Reference7Ideal.Norm.v39_at _ _ _ _ _ i
    · rw [(hag c).1, (hag c).2.1, (hag c).2.2.1]
      exact (Cert.Reference7Ideal.Read.val_main_v22_eq _ _ _).trans (funext fun i => Cert.Reference7Ideal.Norm.v22_at _ _ _ i)
end Cert.Norm7
-- ==== Proof.Norm8.lean ====
/- What `kernel8` computes, and the reference, at an index. -/
module
public import proofs.«01_k».proof.Proof.Gen.Kernel8Ideal.Value
public import proofs.«01_k».proof.Proof.Gen.Reference8Ideal.Read
public import proofs.«01_k».proof.Defs
public import proofs.«01_k».proof.Proof.NormRow
public import Idealize.ShloMosaic.Lib.Pointwise
public import Idealize.ShloMosaic.Lib.Pipeline.ValueKit

@[expose] public section
set_option maxRecDepth 16384
noncomputable section
namespace Cert.Kernel8Ideal.Norm
open Idealize.ShloMosaic Idealize.ShloMosaic.TcCoe Idealize.SL.Sem Cert.Kernel8Ideal Cert.Kernel8Ideal.Gen

theorem pay1_at (v0 : FVec Ideal S512x1024 .f32) (v1 : FVec Ideal S1x1024 .f32) (i : S512x1024.Idx) :
    (k0_pay1 (F := Ideal) v0 v1 i : EReal) = (v0 i * NormRow.inv fun k => v0 (ix2 (i 0) k)) * v1 (ix2 0 (i 1)) := by
  unfold NormRow.inv NormRow.ms
  pointwise [k0_pay1]

theorem pay2_at (v0 : FVec Ideal S512x1024 .f32) (v1 : FVec Ideal S1x1024 .f32) (w : FVec Ideal S4096x1024 .bf16) (i : S512x4096.Idx) :
    (k0_pay2 (F := Ideal) v0 v1 w i : EReal) = ∑ e : Fin 1024, (k0_pay1 (F := Ideal) v0 v1 (ix2 (i 0) e) : EReal) * (w (ix2 (i 1) e) : EReal) := by
  unfold k0_pay2
  generalize k0_pay1 (F := Ideal) v0 v1 = y
  pointwise []

/-- The normed rows. -/
def H (x : FVec Ideal S4096x1024 .f32) (w : FVec Ideal S1x1024 .f32) (i : S4096x1024.Idx) : EReal :=
  (x i * NormRow.inv fun k => x (ix2 (i 0) k)) * w (ix2 0 (i 1))

/-- Their product with the weights. -/
def P (x : FVec Ideal S4096x1024 .f32) (wt : FVec Ideal S4096x1024 .bf16) (w : FVec Ideal S1x1024 .f32) (i : S4096x4096.Idx) : EReal :=
  ∑ e : Fin 1024, H x w (ix2 (i 0) e) * (wt (ix2 (i 1) e) : EReal)

variable (m : (ℓ : Loc nD τ sig) → Buf (Elt Ideal) ℓ) (c : Dev nD)

theorem ix_0 : ∀ t : Fin cfg0.N, win0_0.index t = ![0, 0] := (by decide +kernel : ∀ t : Fin grid0.N, win0_0.index t = ![0, 0])
theorem blk0 (t : Fin cfg0.N) (y : S4096x1024.Idx) : ((iblk m c 0 t : FVec Ideal S4096x1024 .bf16) y : EReal)
    = (m ((c : Thread nD τ).loc main_arg1) : FVec Ideal S4096x1024 .bf16) (ix2 ⟨0 * 4096 + (y 0).val, by have h0 : (y 0).val < 4096 := (y 0).isLt; have ht : t.val < 8 := t.isLt; omega⟩ (y 1)) := by
  unfold iblk
  rw [View.read_apply]
  show V m c main_arg1 _ = _
  rw [V_main_arg1]
  congr 1
  funext a
  apply Fin.ext
  match a with
  | 0 => show win0_0.index t 0 * 4096 + 1 * (y 0).val = _; rw [ix_0]; show (0) * 4096 + 1 * (y 0).val = (0) * 4096 + (y 0).val; omega
  | 1 => show win0_0.index t 1 * 1024 + 1 * (y 1).val = _; rw [ix_0]; show (0) * 1024 + 1 * (y 1).val = (y 1).val; omega

theorem ix_1 : ∀ t : Fin cfg0.N, win0_1.index t = ![t.val, 0] := (by decide +kernel : ∀ t : Fin grid0.N, win0_1.index t = ![t.val, 0])
theorem blk1 (t : Fin cfg0.N) (y : S512x1024.Idx) : ((iblk m c 1 t : FVec Ideal S512x1024 .f32) y : EReal)
    = (m ((c : Thread nD τ).loc main_arg0) : FVec Ideal S4096x1024 .f32) (ix2 ⟨t.val * 512 + (y 0).val, by have h0 : (y 0).val < 512 := (y 0).isLt; have ht : t.val < 8 := t.isLt; omega⟩ (y 1)) := by
  unfold iblk
  rw [View.read_apply]
  show V m c main_arg0 _ = _
  rw [V_main_arg0]
  congr 1
  funext a
  apply Fin.ext
  match a with
  | 0 => show win0_1.index t 0 * 512 + 1 * (y 0).val = _; rw [ix_1]; show (t.val) * 512 + 1 * (y 0).val = (t.val) * 512 + (y 0).val; omega
  | 1 => show win0_1.index t 1 * 1024 + 1 * (y 1).val = _; rw [ix_1]; show (0) * 1024 + 1 * (y 1).val = (y 1).val; omega

theorem ix_2 : ∀ t : Fin cfg0.N, win0_2.index t = ![0, 0] := (by decide +kernel : ∀ t : Fin grid0.N, win0_2.index t = ![0, 0])
theorem blk2 (t : Fin cfg0.N) (y : S1x1024.Idx) : ((iblk m c 2 t : FVec Ideal S1x1024 .f32) y : EReal)
    = (m ((c : Thread nD τ).loc main_arg2) : FVec Ideal S1x1024 .f32) (ix2 ⟨0 * 1 + (y 0).val, by have h0 : (y 0).val < 1 := (y 0).isLt; have ht : t.val < 8 := t.isLt; omega⟩ (y 1)) := by
  unfold iblk
  rw [View.read_apply]
  show V m c main_arg2 _ = _
  rw [V_main_arg2]
  congr 1
  funext a
  apply Fin.ext
  match a with
  | 0 => show win0_2.index t 0 * 1 + 1 * (y 0).val = _; rw [ix_2]; show (0) * 1 + 1 * (y 0).val = (0) * 1 + (y 0).val; omega
  | 1 => show win0_2.index t 1 * 1024 + 1 * (y 1).val = _; rw [ix_2]; show (0) * 1024 + 1 * (y 1).val = (y 1).val; omega

theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])

theorem row_at (t : Fin cfg0.N) (i : S512x1024.Idx) (j : S4096x1024.Idx) (h0 : (j 0).val = t.val * 512 + (i 0).val) (h1 : (j 1).val = (i 1).val) :
    (k0_pay1 (F := Ideal) (iblk m c 1 t) (iblk m c 2 t) i : EReal) = H (m ((c : Thread nD τ).loc main_arg0)) (m ((c : Thread nD τ).loc main_arg2)) j := by
  refine (pay1_at _ _ i).trans ?_
  unfold H
  have e0 : ∀ k : Fin 1024, ((iblk m c 1 t : FVec Ideal S512x1024 .f32) (ix2 (i 0) k) : EReal) = (m ((c : Thread nD τ).loc main_arg0) : FVec Ideal S4096x1024 .f32) (ix2 (j 0) k) := by
    intro k
    refine (blk1 m c t (ix2 (i 0) k)).trans (congrArg _ ?_)
    funext a; apply Fin.ext; match a with
      | 0 => exact h0.symm
      | 1 => rfl
  have e1 : ((iblk m c 1 t : FVec Ideal S512x1024 .f32) i : EReal) = (m ((c : Thread nD τ).loc main_arg0) : FVec Ideal S4096x1024 .f32) j := by
    refine (blk1 m c t i).trans (congrArg _ ?_)
    funext a; apply Fin.ext; match a with
      | 0 => exact h0.symm
      | 1 => exact h1.symm
  have e2 : ((iblk m c 2 t : FVec Ideal S1x1024 .f32) (ix2 0 (i 1)) : EReal) = (m ((c : Thread nD τ).loc main_arg2) : FVec Ideal S1x1024 .f32) (ix2 0 (j 1)) := by
    refine (blk2 m c t _).trans (congrArg _ ?_)
    funext a; apply Fin.ext; match a with
      | 0 => rfl
      | 1 => exact h1.symm
  refine congrArg₂ (fun p q : EReal => p * q) (congrArg₂ (fun p q : EReal => p * q) e1 (congrArg _ (funext e0))) e2

theorem final3 : (dats m 0 c).arrAt 3 cfg0.N = H (m ((c : Thread nD τ).loc main_arg0)) (m ((c : Thread nD τ).loc main_arg2)) := by
  refine (dats m 0 c).arrAt_eq_of_covers 3 _ (by decide +kernel) fun t hf y => ?_
  blk_simp [ix_3]
  rw [after0_3]
  unfold out0_3
  rw [View.canon_cons_unit_lit _ _ _ (by decide), View.ld_unit_lit _ _ (by decide), View.ld_unit_lit _ _ (by decide)]
  exact row_at m c t _ _ (by simp [ix_3]) (by simp [ix_3])

theorem final4 : (dats m 0 c).arrAt 4 cfg0.N = P (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [ix_4]
  rw [after0_4]
  unfold out0_4
  rw [View.canon_cons_unit_lit _ _ _ (by decide), View.ld_unit_lit _ _ (by decide), View.ld_unit_lit _ _ (by decide), View.ld_unit_lit _ _ (by decide)]
  refine (pay2_at _ _ _ y).trans (Finset.sum_congr rfl fun e _ => ?_)
  refine congrArg₂ (fun p q : EReal => p * q) (row_at m c t _ _ (by simp [ix_4]) rfl) ((blk0 m c t _).trans (congrArg _ ?_))
  funext a; apply Fin.ext; match a with
    | 0 => simp [ix_4]
    | 1 => rfl
end Cert.Kernel8Ideal.Norm

namespace Cert.Reference8Ideal.Norm
open Idealize.ShloMosaic Idealize.ShloMosaic.TcCoe Idealize.SL.Sem Cert.Reference8Ideal Cert.Reference8Ideal.Gen Cert.Reference8Ideal.Read Idealize.ShloMosaic.StableHlo

theorem v11_at (x : FVec Ideal S4096x1024 .f32) (w : FVec Ideal S1x1024 .f32) (i : S4096x1024.Idx) :
    (val_main_v11 (F := Ideal) x w i : EReal) = (x i * NormRow.inv fun k => x (ix2 (i 0) k)) * w (ix2 0 (i 1)) := by
  unfold NormRow.inv NormRow.ms
  pointwise [val_main_v0, val_main_cst, val_main_v1, val_main_v2, val_main_cst_0, val_main_v3, val_main_v4, val_main_cst_1, val_main_v5, val_main_v6, val_main_v7, val_main_v8, val_main_v9, val_main_v10, val_main_v11]

theorem v15_at (x : FVec Ideal S4096x1024 .f32) (wt : FVec Ideal S4096x1024 .bf16) (w : FVec Ideal S1x1024 .f32) (i : S4096x4096.Idx) :
    (val_main_v15 (F := Ideal) x wt w i : EReal) = ∑ e : Fin 1024, (val_main_v11 (F := Ideal) x w (ix2 (i 0) e) : EReal) * (wt (ix2 (i 1) e) : EReal) := by
  unfold val_main_v15
  generalize val_main_v11 (F := Ideal) x w = y
  pointwise [val_main_v13, val_main_v14]

theorem v12_eq (x : FVec Ideal S4096x1024 .f32) (w : FVec Ideal S1x1024 .f32) : val_main_v12 (F := Ideal) x w = Cert.Kernel8Ideal.Norm.H x w :=
  funext fun i => v11_at x w i
theorem v15_eq (x : FVec Ideal S4096x1024 .f32) (wt : FVec Ideal S4096x1024 .bf16) (w : FVec Ideal S1x1024 .f32) : val_main_v15 (F := Ideal) x wt w = Cert.Kernel8Ideal.Norm.P x wt w :=
  funext fun i => (v15_at x wt w i).trans (Finset.sum_congr rfl fun e _ => congrArg (fun p : EReal => p * _) (v11_at x w _))
end Cert.Reference8Ideal.Norm

namespace Cert.Norm8
open Idealize.ShloMosaic Idealize.ShloMosaic.TcCoe Idealize.SL.Sem
theorem frame (m : (ℓ : Loc Cert.Reference8Ideal.nD Cert.Reference8Ideal.τ Cert.Reference8Ideal.sig) → Buf (Elt Ideal) ℓ) (g : Dev Cert.Reference8Ideal.nD → PrngReg) :
    θ_run Cert.Reference8Ideal.defs (onTc (τ := Cert.Reference8Ideal.τ) (Cert.Reference8Ideal.main (F := Ideal))) ⟨m, fun _ => 0, g⟩ fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)) ∧ r.2.sem = fun _ => 0 :=
  (θ_run Cert.Reference8Ideal.defs _ _).mono (fun r h => ⟨fun c => (h c).2.2, sem_eq_zero_of_no_sems (by decide) r.2⟩) (Cert.Reference8Ideal.Value.run m g)

theorem algebraic : Cert.algebraic_Kernel8Ideal_Reference8Ideal (hKernel8Ideal := Cert.Kernel8Ideal.Gen.facts) (hReference8Ideal := Cert.Reference8Ideal.Gen.facts) := by
  intro m g m' g' _ hag
  refine ⟨fun c => Cert.Kernel8Ideal.Norm.H (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg2)), fun c => Cert.Kernel8Ideal.Norm.P (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · exact (θ_run Cert.Kernel8Ideal.defs _ _).mono (fun r h c => ⟨(h c).1.trans (Cert.Kernel8Ideal.Norm.final3 m c), (h c).2.1.trans (Cert.Kernel8Ideal.Norm.final4 m c), (h c).2.2⟩) (Cert.Kernel8Ideal.Value.run_blocks m g)
  · refine (θ_run Cert.Reference8Ideal.defs _ _).mono (fun r h c => ⟨(h c).1.trans ?_, (h c).2.1.trans ?_, (h c).2.2⟩) (Cert.Reference8Ideal.Value.run m' g')
    · rw [(hag c).1, (hag c).2.2]
      exact (Cert.Reference8Ideal.Read.val_main_v12_eq _ _).trans (Cert.Reference8Ideal.Norm.v12_eq _ _)
    · rw [(hag c).1, (hag c).2.1, (hag c).2.2]
      exact (Cert.Reference8Ideal.Read.val_main_v15_eq _ _ _).trans (Cert.Reference8Ideal.Norm.v15_eq _ _ _)
end Cert.Norm8
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite
public import proofs.«01_k».proof.Proof.Meet
public import proofs.«01_k».proof.Proof.Prod2
public import proofs.«01_k».proof.Proof.Prod3
public import proofs.«01_k».proof.Proof.Prod4
public import proofs.«01_k».proof.Proof.Prod5
public import proofs.«01_k».proof.Proof.Norm6
public import proofs.«01_k».proof.Proof.Norm7
public import proofs.«01_k».proof.Proof.Norm8
public import Idealize.ShloMosaic.Adequacy
public import Idealize.ShloMosaic.Init

@[expose] public section

noncomputable section

namespace Cert.Proof

open Idealize.ShloMosaic Idealize.SL.Sem Cert.Kernel

set_option maxRecDepth 16384 in
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Meet.reference_frame m ρ,
  fun m ρ _ => Cert.Meet.reference_frame m ρ,
  fun m ρ _ => Cert.Kernel2.Gen.frame m ρ,
  fun m ρ _ => Cert.Kernel2Ideal.Gen.frame m ρ,
  fun m ρ _ => Cert.Prod2.frame m ρ,
  fun m ρ _ => Cert.Kernel3.Gen.frame m ρ,
  fun m ρ _ => Cert.Kernel3Ideal.Gen.frame m ρ,
  fun m ρ _ => Cert.Prod3.frame m ρ,
  fun m ρ _ => Cert.Kernel4.Gen.frame m ρ,
  fun m ρ _ => Cert.Kernel4Ideal.Gen.frame m ρ,
  fun m ρ _ => Cert.Prod4.frame m ρ,
  fun m ρ _ => Cert.Kernel5.Gen.frame m ρ,
  fun m ρ _ => Cert.Kernel5Ideal.Gen.frame m ρ,
  fun m ρ _ => Cert.Prod5.frame m ρ,
  fun m ρ _ => Cert.Kernel6.Gen.frame m ρ,
  fun m ρ _ => Cert.Kernel6Ideal.Gen.frame m ρ,
  fun m ρ _ => Cert.Norm6.frame m ρ,
  fun m ρ _ => Cert.Kernel7.Gen.frame m ρ,
  fun m ρ _ => Cert.Kernel7Ideal.Gen.frame m ρ,
  fun m ρ _ => Cert.Norm7.frame m ρ,
  fun m ρ _ => Cert.Kernel8.Gen.frame m ρ,
  fun m ρ _ => Cert.Kernel8Ideal.Gen.frame m ρ,
  fun m ρ _ => Cert.Norm8.frame m ρ,
  IdealRules.named_const.statement Cert.KernelIdeal.κ "mask" .f32 0xF149F2CA#32 ⊥ rfl,
  Cert.Meet.algebraic,
  trivial,
  Cert.Prod2.algebraic,
  trivial,
  Cert.Prod3.algebraic,
  trivial,
  Cert.Prod4.algebraic,
  trivial,
  Cert.Prod5.algebraic,
  trivial,
  Cert.Norm6.algebraic,
  trivial,
  Cert.Norm7.algebraic,
  trivial,
  Cert.Norm8.algebraic⟩

end Cert.Proof

end
